-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 4096, 1024]⟩ ⟨3, ![2, 4096, 8192]⟩ 2 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4, 1024]⟩ ⟨2, ![4, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S4x1024 : Shape := ⟨2, ![4, 1024]⟩
abbrev S1024x1024 : Shape := ⟨2, ![1024, 1024]⟩
abbrev S8x1024x1024 : Shape := ⟨3, ![8, 1024, 1024]⟩
abbrev S2x520x1024 : Shape := ⟨3, ![2, 520, 1024]⟩
abbrev S2 : Shape := ⟨1, ![2]⟩
abbrev S2x4x2x128x1024 : Shape := ⟨5, ![2, 4, 2, 128, 1024]⟩
abbrev S2x4x3x128x1024 : Shape := ⟨5, ![2, 4, 3, 128, 1024]⟩
abbrev S2x4 : Shape := ⟨2, ![2, 4]⟩
abbrev S2x4x2 : Shape := ⟨3, ![2, 4, 2]⟩
abbrev S2x4x3 : Shape := ⟨3, ![2, 4, 3]⟩
abbrev S2x2 : Shape := ⟨2, ![2, 2]⟩
abbrev S_ : Shape := ⟨0, ![]⟩
abbrev S1 : Shape := ⟨1, ![1]⟩
abbrev S1x512x1024 : Shape := ⟨3, ![1, 512, 1024]⟩
abbrev S512x1024 : Shape := ⟨2, ![512, 1024]⟩
abbrev S1x8x1024 : Shape := ⟨3, ![1, 8, 1024]⟩
abbrev S8x1024 : Shape := ⟨2, ![8, 1024]⟩
abbrev S1x520x1024 : Shape := ⟨3, ![1, 520, 1024]⟩
abbrev S520x1024 : Shape := ⟨2, ![520, 1024]⟩
abbrev S1x1024 : Shape := ⟨2, ![1, 1024]⟩
abbrev S1024 : Shape := ⟨1, ![1024]⟩
abbrev S1x1 : Shape := ⟨2, ![1, 1]⟩
abbrev S1x1x1 : Shape := ⟨3, ![1, 1, 1]⟩
abbrev S1x1x1x128x1024 : Shape := ⟨5, ![1, 1, 1, 128, 1024]⟩
abbrev S128x1024 : Shape := ⟨2, ![128, 1024]⟩
abbrev S1x128x1024 : Shape := ⟨3, ![1, 128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2x4096x1024, .f32⟩
  | .hbm, ⟨1, _⟩ => ⟨S4x1024, .f32⟩
  | .hbm, ⟨2, _⟩ => ⟨S1024x1024, .f32⟩
  | .hbm, ⟨3, _⟩ => ⟨S8x1024x1024, .bf16⟩
  | .local _ .vmem, ⟨0, _⟩ => ⟨S4x1024, .f32⟩
  | .local _ .vmem, ⟨1, _⟩ => ⟨S1024x1024, .f32⟩
  | .local _ .vmem, ⟨2, _⟩ => ⟨S8x1024x1024, .bf16⟩
  | .local _ .vmem, ⟨3, _⟩ => ⟨S2x520x1024, .f32⟩
  | .local _ .vmem, ⟨4, _⟩ => ⟨S2x4x2x128x1024, .bf16⟩
  | .local _ .vmem, ⟨5, _⟩ => ⟨S2x4x3x128x1024, .bf16⟩
  | _, _ => ⟨S2x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 61 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | _ => false

abbrev sig : RefSig :=
  (ofTc nBuf bufTy 5 61 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 4

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_10 : BitVec 32 := 1#32
  let v18 : BitVec 32 := Scalar.muli v11 c1_i32_10
  let v19 : BitVec 32 := Scalar.addi c0_i32 v18
  v19.toNat
def k0_dev2 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_12 : BitVec 32 := 1#32
  let v20 : BitVec 32 := Scalar.muli v16 c1_i32_12
  let v21 : BitVec 32 := Scalar.addi c0_i32_13 v20
  v21.toNat
def k0_mult1 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_18 : BitVec 32 := 4#32
  let v28 : BitVec 32 := Scalar.remsi v5 c4_i32_18
  let c1024_i32 : BitVec 32 := 1024#32
  let v29 : BitVec 32 := Scalar.muli v28 c1024_i32
  let c0_i32_19 : BitVec 32 := 0#32
  let v30 : BitVec 32 := Scalar.addi v29 c0_i32_19
  v30
def k0_mult2 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_18 : BitVec 32 := 4#32
  let v28 : BitVec 32 := Scalar.remsi v5 c4_i32_18
  let c1024_i32 : BitVec 32 := 1024#32
  let v29 : BitVec 32 := Scalar.muli v28 c1024_i32
  let c0_i32_19 : BitVec 32 := 0#32
  let v30 : BitVec 32 := Scalar.addi v29 c0_i32_19
  let v31 : BitVec 32 := v30
  let c8_i32_20 : BitVec 32 := 8#32
  let v32 : BitVec 32 := Scalar.subi v31 c8_i32_20
  let c0_i32_21 : BitVec 32 := 0#32
  let v33 : BitVec 32 := Scalar.maxsi v32 c0_i32_21
  v33
def k0_off1 (d0 : Dev nD) (c0_i32_19 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_17 : BitVec 32 := 4#32
  let v27 : BitVec 32 := Scalar.divsi v5 c4_i32_17
  let c4_i32_18 : BitVec 32 := 4#32
  let v28 : BitVec 32 := Scalar.remsi v5 c4_i32_18
  let c1024_i32 : BitVec 32 := 1024#32
  let v29 : BitVec 32 := Scalar.muli v28 c1024_i32
  let v30 : BitVec 32 := Scalar.addi v29 c0_i32_19
  let v31 : BitVec 32 := v30
  let c0_i32_26 : BitVec 32 := 0#32
  ![v27.toNat, v31.toNat, 0]
def k0_off2 (d0 : Dev nD) (c0_i32_19 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_17 : BitVec 32 := 4#32
  let v27 : BitVec 32 := Scalar.divsi v5 c4_i32_17
  let c4_i32_18 : BitVec 32 := 4#32
  let v28 : BitVec 32 := Scalar.remsi v5 c4_i32_18
  let c1024_i32 : BitVec 32 := 1024#32
  let v29 : BitVec 32 := Scalar.muli v28 c1024_i32
  let v30 : BitVec 32 := Scalar.addi v29 c0_i32_19
  let v31 : BitVec 32 := v30
  let c8_i32_20 : BitVec 32 := 8#32
  let v32 : BitVec 32 := Scalar.subi v31 c8_i32_20
  let c0_i32_21 : BitVec 32 := 0#32
  let v33 : BitVec 32 := Scalar.maxsi v32 c0_i32_21
  let v34 : BitVec 32 := v33
  let c0_i32_31 : BitVec 32 := 0#32
  ![v27.toNat, v34.toNat, 0]
def k0_mult3 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_33 : BitVec 32 := 4#32
  let v48 : BitVec 32 := Scalar.remsi v5 c4_i32_33
  let c1024_i32_34 : BitVec 32 := 1024#32
  let v49 : BitVec 32 := Scalar.muli v48 c1024_i32_34
  let c512_i32 : BitVec 32 := 512#32
  let v50 : BitVec 32 := Scalar.addi v49 c512_i32
  v50
def k0_mult4 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_33 : BitVec 32 := 4#32
  let v48 : BitVec 32 := Scalar.remsi v5 c4_i32_33
  let c1024_i32_34 : BitVec 32 := 1024#32
  let v49 : BitVec 32 := Scalar.muli v48 c1024_i32_34
  let c512_i32 : BitVec 32 := 512#32
  let v50 : BitVec 32 := Scalar.addi v49 c512_i32
  let v51 : BitVec 32 := v50
  let c8_i32_35 : BitVec 32 := 8#32
  let v52 : BitVec 32 := Scalar.subi v51 c8_i32_35
  let c0_i32_36 : BitVec 32 := 0#32
  let v53 : BitVec 32 := Scalar.maxsi v52 c0_i32_36
  v53
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v116 : Index := Scalar.indexCast v5
  let c0_62 : Index := 0#32
  let c0_63 : Index := 0#32
  ![v116.toNat, 0, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_76 : BitVec 32 := 0#32
  let c0_i32_77 : BitVec 32 := 0#32
  ![v5.toNat, 0, 0]
def k0_dev3 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_72 : BitVec 32 := 1#32
  let v120 : BitVec 32 := Scalar.muli v16 c1_i32_72
  let v121 : BitVec 32 := Scalar.addi c0_i32_73 v120
  v121.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c128_i32 : BitVec 32 := 128#32
  let c0_i32_90 : BitVec 32 := 0#32
  ![v5.toNat, 128, 0]
def k0_dev4 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_86 : BitVec 32 := 1#32
  let v130 : BitVec 32 := Scalar.muli v16 c1_i32_86
  let v131 : BitVec 32 := Scalar.addi c0_i32_87 v130
  v131.toNat
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c256_i32 : BitVec 32 := 256#32
  let c0_i32_103 : BitVec 32 := 0#32
  ![v5.toNat, 256, 0]
def k0_dev5 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_99 : BitVec 32 := 1#32
  let v140 : BitVec 32 := Scalar.muli v16 c1_i32_99
  let v141 : BitVec 32 := Scalar.addi c0_i32_100 v140
  v141.toNat
def k0_off7 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c384_i32 : BitVec 32 := 384#32
  let c0_i32_115 : BitVec 32 := 0#32
  ![v5.toNat, 384, 0]
def k0_dev6 (d0 : Dev nD) : Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_111 : BitVec 32 := 1#32
  let v150 : BitVec 32 := Scalar.muli v16 c1_i32_111
  let v151 : BitVec 32 := Scalar.addi c0_i32_112 v150
  v151.toNat
def k0_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v209 : Index := Scalar.indexCast v5
  let c512 : Index := 512#32
  let c0_131 : Index := 0#32
  ![v209.toNat, 512, 0]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c512_i32_144 : BitVec 32 := 512#32
  let c0_i32_145 : BitVec 32 := 0#32
  ![v5.toNat, 512, 0]
def k0_dev7 (d0 : Dev nD) : Nat :=
  let c0_i32_141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_140 : BitVec 32 := 1#32
  let v213 : BitVec 32 := Scalar.muli v11 c1_i32_140
  let v214 : BitVec 32 := Scalar.addi c0_i32_141 v213
  v214.toNat
def k0_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c640_i32 : BitVec 32 := 640#32
  let c0_i32_158 : BitVec 32 := 0#32
  ![v5.toNat, 640, 0]
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_154 : BitVec 32 := 1#32
  let v223 : BitVec 32 := Scalar.muli v11 c1_i32_154
  let v224 : BitVec 32 := Scalar.addi c0_i32_155 v223
  v224.toNat
def k0_off11 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c768_i32 : BitVec 32 := 768#32
  let c0_i32_171 : BitVec 32 := 0#32
  ![v5.toNat, 768, 0]
def k0_dev9 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_167 : BitVec 32 := 1#32
  let v233 : BitVec 32 := Scalar.muli v11 c1_i32_167
  let v234 : BitVec 32 := Scalar.addi c0_i32_168 v233
  v234.toNat
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c896_i32 : BitVec 32 := 896#32
  let c0_i32_184 : BitVec 32 := 0#32
  ![v5.toNat, 896, 0]
def k0_dev10 (d0 : Dev nD) : Nat :=
  let c0_i32_181 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_180 : BitVec 32 := 1#32
  let v243 : BitVec 32 := Scalar.muli v11 c1_i32_180
  let v244 : BitVec 32 := Scalar.addi c0_i32_181 v243
  v244.toNat
def k0_mult5 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c4_i32_191 : BitVec 32 := 4#32
  let v259 : BitVec 32 := Scalar.remsi v255 c4_i32_191
  let c1024_i32_192 : BitVec 32 := 1024#32
  let v260 : BitVec 32 := Scalar.muli v259 c1024_i32_192
  let c0_i32_193 : BitVec 32 := 0#32
  let v261 : BitVec 32 := Scalar.addi v260 c0_i32_193
  v261
def k0_mult6 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c4_i32_191 : BitVec 32 := 4#32
  let v259 : BitVec 32 := Scalar.remsi v255 c4_i32_191
  let c1024_i32_192 : BitVec 32 := 1024#32
  let v260 : BitVec 32 := Scalar.muli v259 c1024_i32_192
  let c0_i32_193 : BitVec 32 := 0#32
  let v261 : BitVec 32 := Scalar.addi v260 c0_i32_193
  let v262 : BitVec 32 := v261
  let c8_i32_194 : BitVec 32 := 8#32
  let v263 : BitVec 32 := Scalar.subi v262 c8_i32_194
  let c0_i32_195 : BitVec 32 := 0#32
  let v264 : BitVec 32 := Scalar.maxsi v263 c0_i32_195
  v264
def k0_off13 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c4_i32_190 : BitVec 32 := 4#32
  let v258 : BitVec 32 := Scalar.divsi v255 c4_i32_190
  let c4_i32_191 : BitVec 32 := 4#32
  let v259 : BitVec 32 := Scalar.remsi v255 c4_i32_191
  let c1024_i32_192 : BitVec 32 := 1024#32
  let v260 : BitVec 32 := Scalar.muli v259 c1024_i32_192
  let c0_i32_193 : BitVec 32 := 0#32
  let v261 : BitVec 32 := Scalar.addi v260 c0_i32_193
  let v262 : BitVec 32 := v261
  let c0_i32_200 : BitVec 32 := 0#32
  ![v258.toNat, v262.toNat, 0]
def k0_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c4_i32_190 : BitVec 32 := 4#32
  let v258 : BitVec 32 := Scalar.divsi v255 c4_i32_190
  let c4_i32_191 : BitVec 32 := 4#32
  let v259 : BitVec 32 := Scalar.remsi v255 c4_i32_191
  let c1024_i32_192 : BitVec 32 := 1024#32
  let v260 : BitVec 32 := Scalar.muli v259 c1024_i32_192
  let c0_i32_193 : BitVec 32 := 0#32
  let v261 : BitVec 32 := Scalar.addi v260 c0_i32_193
  let v262 : BitVec 32 := v261
  let c8_i32_194 : BitVec 32 := 8#32
  let v263 : BitVec 32 := Scalar.subi v262 c8_i32_194
  let c0_i32_195 : BitVec 32 := 0#32
  let v264 : BitVec 32 := Scalar.maxsi v263 c0_i32_195
  let v265 : BitVec 32 := v264
  let c0_i32_205 : BitVec 32 := 0#32
  ![v258.toNat, v265.toNat, 0]
def k0_mult7 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c4_i32_207 : BitVec 32 := 4#32
  let v279 : BitVec 32 := Scalar.remsi v257 c4_i32_207
  let c1024_i32_208 : BitVec 32 := 1024#32
  let v280 : BitVec 32 := Scalar.muli v279 c1024_i32_208
  let c512_i32_209 : BitVec 32 := 512#32
  let v281 : BitVec 32 := Scalar.addi v280 c512_i32_209
  v281
def k0_mult8 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c4_i32_207 : BitVec 32 := 4#32
  let v279 : BitVec 32 := Scalar.remsi v257 c4_i32_207
  let c1024_i32_208 : BitVec 32 := 1024#32
  let v280 : BitVec 32 := Scalar.muli v279 c1024_i32_208
  let c512_i32_209 : BitVec 32 := 512#32
  let v281 : BitVec 32 := Scalar.addi v280 c512_i32_209
  let v282 : BitVec 32 := v281
  let c8_i32_210 : BitVec 32 := 8#32
  let v283 : BitVec 32 := Scalar.subi v282 c8_i32_210
  let c0_i32_211 : BitVec 32 := 0#32
  let v284 : BitVec 32 := Scalar.maxsi v283 c0_i32_211
  v284
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c4_i32_206 : BitVec 32 := 4#32
  let v278 : BitVec 32 := Scalar.divsi v257 c4_i32_206
  let c4_i32_207 : BitVec 32 := 4#32
  let v279 : BitVec 32 := Scalar.remsi v257 c4_i32_207
  let c1024_i32_208 : BitVec 32 := 1024#32
  let v280 : BitVec 32 := Scalar.muli v279 c1024_i32_208
  let c512_i32_209 : BitVec 32 := 512#32
  let v281 : BitVec 32 := Scalar.addi v280 c512_i32_209
  let v282 : BitVec 32 := v281
  let c0_i32_216 : BitVec 32 := 0#32
  ![v278.toNat, v282.toNat, 0]
def k0_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c4_i32_206 : BitVec 32 := 4#32
  let v278 : BitVec 32 := Scalar.divsi v257 c4_i32_206
  let c4_i32_207 : BitVec 32 := 4#32
  let v279 : BitVec 32 := Scalar.remsi v257 c4_i32_207
  let c1024_i32_208 : BitVec 32 := 1024#32
  let v280 : BitVec 32 := Scalar.muli v279 c1024_i32_208
  let c512_i32_209 : BitVec 32 := 512#32
  let v281 : BitVec 32 := Scalar.addi v280 c512_i32_209
  let v282 : BitVec 32 := v281
  let c8_i32_210 : BitVec 32 := 8#32
  let v283 : BitVec 32 := Scalar.subi v282 c8_i32_210
  let c0_i32_211 : BitVec 32 := 0#32
  let v284 : BitVec 32 := Scalar.maxsi v283 c0_i32_211
  let v285 : BitVec 32 := v284
  let c0_i32_221 : BitVec 32 := 0#32
  ![v278.toNat, v285.toNat, 0]
def k0_off17 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let v347 : Index := Scalar.indexCast v255
  let c0_238 : Index := 0#32
  let c0_239 : Index := 0#32
  ![v347.toNat, 0, 0]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let v400 : Index := Scalar.indexCast v257
  let c512_256 : Index := 512#32
  let c0_257 : Index := 0#32
  ![v400.toNat, 512, 0]
def k0_off19 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let c0_i32_274 : BitVec 32 := 0#32
  let c0_i32_275 : BitVec 32 := 0#32
  ![v407.toNat, 0, 0]
def k0_off20 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let v425 : Index := Scalar.indexCast v407
  let c0_292 : Index := 0#32
  let c0_293 : Index := 0#32
  ![v425.toNat, 0, 0]
def k0_dev11 (d0 : Dev nD) : Nat :=
  let c0_i32_310 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_309 : BitVec 32 := 1#32
  let v438 : BitVec 32 := Scalar.muli v16 c1_i32_309
  let v439 : BitVec 32 := Scalar.addi c0_i32_310 v438
  v439.toNat
def k0_off21 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let c512_i32_324 : BitVec 32 := 512#32
  let c0_i32_325 : BitVec 32 := 0#32
  ![v410.toNat, 512, 0]
def k0_off22 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let v462 : Index := Scalar.indexCast v410
  let c512_342 : Index := 512#32
  let c0_343 : Index := 0#32
  ![v462.toNat, 512, 0]
def k0_dev12 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_359 : BitVec 32 := 1#32
  let v475 : BitVec 32 := Scalar.muli v11 c1_i32_359
  let v476 : BitVec 32 := Scalar.addi c0_i32_360 v475
  v476.toNat
def k0_off23 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let c128_i32_374 : BitVec 32 := 128#32
  let c0_i32_375 : BitVec 32 := 0#32
  ![v407.toNat, 128, 0]
def k0_off24 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let v499 : Index := Scalar.indexCast v407
  let c128 : Index := 128#32
  let c0_392 : Index := 0#32
  ![v499.toNat, 128, 0]
def k0_dev13 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_408 : BitVec 32 := 1#32
  let v512 : BitVec 32 := Scalar.muli v16 c1_i32_408
  let v513 : BitVec 32 := Scalar.addi c0_i32_409 v512
  v513.toNat
def k0_off25 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let c640_i32_423 : BitVec 32 := 640#32
  let c0_i32_424 : BitVec 32 := 0#32
  ![v410.toNat, 640, 0]
def k0_off26 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let v536 : Index := Scalar.indexCast v410
  let c640 : Index := 640#32
  let c0_441 : Index := 0#32
  ![v536.toNat, 640, 0]
def k0_dev14 (d0 : Dev nD) : Nat :=
  let c0_i32_458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_457 : BitVec 32 := 1#32
  let v549 : BitVec 32 := Scalar.muli v11 c1_i32_457
  let v550 : BitVec 32 := Scalar.addi c0_i32_458 v549
  v550.toNat
def k0_off27 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let c256_i32_472 : BitVec 32 := 256#32
  let c0_i32_473 : BitVec 32 := 0#32
  ![v407.toNat, 256, 0]
def k0_off28 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let v573 : Index := Scalar.indexCast v407
  let c256 : Index := 256#32
  let c0_490 : Index := 0#32
  ![v573.toNat, 256, 0]
def k0_dev15 (d0 : Dev nD) : Nat :=
  let c0_i32_506 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_505 : BitVec 32 := 1#32
  let v586 : BitVec 32 := Scalar.muli v16 c1_i32_505
  let v587 : BitVec 32 := Scalar.addi c0_i32_506 v586
  v587.toNat
def k0_off29 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let c768_i32_520 : BitVec 32 := 768#32
  let c0_i32_521 : BitVec 32 := 0#32
  ![v410.toNat, 768, 0]
def k0_off30 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let v610 : Index := Scalar.indexCast v410
  let c768 : Index := 768#32
  let c0_538 : Index := 0#32
  ![v610.toNat, 768, 0]
def k0_dev16 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_554 : BitVec 32 := 1#32
  let v623 : BitVec 32 := Scalar.muli v11 c1_i32_554
  let v624 : BitVec 32 := Scalar.addi c0_i32_555 v623
  v624.toNat
def k0_off31 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let c384_i32_569 : BitVec 32 := 384#32
  let c0_i32_570 : BitVec 32 := 0#32
  ![v407.toNat, 384, 0]
def k0_off32 (d0 : Dev nD) (c0_i32_258 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v404 : BitVec 32 := Scalar.subi v5 c0_i32_258
  let c1_i32_259 : BitVec 32 := 1#32
  let v405 : BitVec 32 := Scalar.subi v404 c1_i32_259
  let c8_i32_260 : BitVec 32 := 8#32
  let v406 : BitVec 32 := Scalar.addi v405 c8_i32_260
  let c8_i32_261 : BitVec 32 := 8#32
  let v407 : BitVec 32 := Scalar.remsi v406 c8_i32_261
  let v647 : Index := Scalar.indexCast v407
  let c384 : Index := 384#32
  let c0_587 : Index := 0#32
  ![v647.toNat, 384, 0]
def k0_dev17 (d0 : Dev nD) : Nat :=
  let c0_i32_603 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_602 : BitVec 32 := 1#32
  let v660 : BitVec 32 := Scalar.muli v16 c1_i32_602
  let v661 : BitVec 32 := Scalar.addi c0_i32_603 v660
  v661.toNat
def k0_off33 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let c896_i32_617 : BitVec 32 := 896#32
  let c0_i32_618 : BitVec 32 := 0#32
  ![v410.toNat, 896, 0]
def k0_off34 (d0 : Dev nD) (c0_i32_262 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v408 : BitVec 32 := Scalar.addi v5 c0_i32_262
  let c1_i32_263 : BitVec 32 := 1#32
  let v409 : BitVec 32 := Scalar.addi v408 c1_i32_263
  let c8_i32_264 : BitVec 32 := 8#32
  let v410 : BitVec 32 := Scalar.remsi v409 c8_i32_264
  let v684 : Index := Scalar.indexCast v410
  let c896 : Index := 896#32
  let c0_635 : Index := 0#32
  ![v684.toNat, 896, 0]
def k0_dev18 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_651 : BitVec 32 := 1#32
  let v697 : BitVec 32 := Scalar.muli v11 c1_i32_651
  let v698 : BitVec 32 := Scalar.addi c0_i32_652 v697
  v698.toNat
def k0_dev19 (d0 : Dev nD) : Nat :=
  let c0_i32_661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_660 : BitVec 32 := 1#32
  let v709 : BitVec 32 := Scalar.muli v11 c1_i32_660
  let v710 : BitVec 32 := Scalar.addi c0_i32_661 v709
  v710.toNat
def k0_dev20 (d0 : Dev nD) : Nat :=
  let c0_i32_666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_665 : BitVec 32 := 1#32
  let v713 : BitVec 32 := Scalar.muli v16 c1_i32_665
  let v714 : BitVec 32 := Scalar.addi c0_i32_666 v713
  v714.toNat
def k0_mult9 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_667 : BitVec 32 := 0#32
  let v715 : BitVec 32 := Scalar.subi v5 c0_i32_667
  let c2_i32_668 : BitVec 32 := 2#32
  let v716 : BitVec 32 := Scalar.subi v715 c2_i32_668
  let c8_i32_669 : BitVec 32 := 8#32
  let v717 : BitVec 32 := Scalar.addi v716 c8_i32_669
  let c8_i32_670 : BitVec 32 := 8#32
  let v718 : BitVec 32 := Scalar.remsi v717 c8_i32_670
  let c4_i32_675 : BitVec 32 := 4#32
  let v723 : BitVec 32 := Scalar.remsi v718 c4_i32_675
  let c1024_i32_676 : BitVec 32 := 1024#32
  let v724 : BitVec 32 := Scalar.muli v723 c1024_i32_676
  let c0_i32_677 : BitVec 32 := 0#32
  let v725 : BitVec 32 := Scalar.addi v724 c0_i32_677
  v725
def k0_mult10 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_667 : BitVec 32 := 0#32
  let v715 : BitVec 32 := Scalar.subi v5 c0_i32_667
  let c2_i32_668 : BitVec 32 := 2#32
  let v716 : BitVec 32 := Scalar.subi v715 c2_i32_668
  let c8_i32_669 : BitVec 32 := 8#32
  let v717 : BitVec 32 := Scalar.addi v716 c8_i32_669
  let c8_i32_670 : BitVec 32 := 8#32
  let v718 : BitVec 32 := Scalar.remsi v717 c8_i32_670
  let c4_i32_675 : BitVec 32 := 4#32
  let v723 : BitVec 32 := Scalar.remsi v718 c4_i32_675
  let c1024_i32_676 : BitVec 32 := 1024#32
  let v724 : BitVec 32 := Scalar.muli v723 c1024_i32_676
  let c0_i32_677 : BitVec 32 := 0#32
  let v725 : BitVec 32 := Scalar.addi v724 c0_i32_677
  let v726 : BitVec 32 := v725
  let c8_i32_678 : BitVec 32 := 8#32
  let v727 : BitVec 32 := Scalar.subi v726 c8_i32_678
  let c0_i32_679 : BitVec 32 := 0#32
  let v728 : BitVec 32 := Scalar.maxsi v727 c0_i32_679
  v728
def k0_off35 (d0 : Dev nD) (c0_i32_667 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v715 : BitVec 32 := Scalar.subi v5 c0_i32_667
  let c2_i32_668 : BitVec 32 := 2#32
  let v716 : BitVec 32 := Scalar.subi v715 c2_i32_668
  let c8_i32_669 : BitVec 32 := 8#32
  let v717 : BitVec 32 := Scalar.addi v716 c8_i32_669
  let c8_i32_670 : BitVec 32 := 8#32
  let v718 : BitVec 32 := Scalar.remsi v717 c8_i32_670
  let c4_i32_674 : BitVec 32 := 4#32
  let v722 : BitVec 32 := Scalar.divsi v718 c4_i32_674
  let c4_i32_675 : BitVec 32 := 4#32
  let v723 : BitVec 32 := Scalar.remsi v718 c4_i32_675
  let c1024_i32_676 : BitVec 32 := 1024#32
  let v724 : BitVec 32 := Scalar.muli v723 c1024_i32_676
  let c0_i32_677 : BitVec 32 := 0#32
  let v725 : BitVec 32 := Scalar.addi v724 c0_i32_677
  let v726 : BitVec 32 := v725
  let c0_i32_684 : BitVec 32 := 0#32
  ![v722.toNat, v726.toNat, 0]
def k0_off36 (d0 : Dev nD) (c0_i32_667 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v715 : BitVec 32 := Scalar.subi v5 c0_i32_667
  let c2_i32_668 : BitVec 32 := 2#32
  let v716 : BitVec 32 := Scalar.subi v715 c2_i32_668
  let c8_i32_669 : BitVec 32 := 8#32
  let v717 : BitVec 32 := Scalar.addi v716 c8_i32_669
  let c8_i32_670 : BitVec 32 := 8#32
  let v718 : BitVec 32 := Scalar.remsi v717 c8_i32_670
  let c4_i32_674 : BitVec 32 := 4#32
  let v722 : BitVec 32 := Scalar.divsi v718 c4_i32_674
  let c4_i32_675 : BitVec 32 := 4#32
  let v723 : BitVec 32 := Scalar.remsi v718 c4_i32_675
  let c1024_i32_676 : BitVec 32 := 1024#32
  let v724 : BitVec 32 := Scalar.muli v723 c1024_i32_676
  let c0_i32_677 : BitVec 32 := 0#32
  let v725 : BitVec 32 := Scalar.addi v724 c0_i32_677
  let v726 : BitVec 32 := v725
  let c8_i32_678 : BitVec 32 := 8#32
  let v727 : BitVec 32 := Scalar.subi v726 c8_i32_678
  let c0_i32_679 : BitVec 32 := 0#32
  let v728 : BitVec 32 := Scalar.maxsi v727 c0_i32_679
  let v729 : BitVec 32 := v728
  let c0_i32_689 : BitVec 32 := 0#32
  ![v722.toNat, v729.toNat, 0]
def k0_mult11 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_671 : BitVec 32 := 0#32
  let v719 : BitVec 32 := Scalar.addi v5 c0_i32_671
  let c2_i32_672 : BitVec 32 := 2#32
  let v720 : BitVec 32 := Scalar.addi v719 c2_i32_672
  let c8_i32_673 : BitVec 32 := 8#32
  let v721 : BitVec 32 := Scalar.remsi v720 c8_i32_673
  let c4_i32_691 : BitVec 32 := 4#32
  let v743 : BitVec 32 := Scalar.remsi v721 c4_i32_691
  let c1024_i32_692 : BitVec 32 := 1024#32
  let v744 : BitVec 32 := Scalar.muli v743 c1024_i32_692
  let c512_i32_693 : BitVec 32 := 512#32
  let v745 : BitVec 32 := Scalar.addi v744 c512_i32_693
  v745
def k0_mult12 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c0_i32_671 : BitVec 32 := 0#32
  let v719 : BitVec 32 := Scalar.addi v5 c0_i32_671
  let c2_i32_672 : BitVec 32 := 2#32
  let v720 : BitVec 32 := Scalar.addi v719 c2_i32_672
  let c8_i32_673 : BitVec 32 := 8#32
  let v721 : BitVec 32 := Scalar.remsi v720 c8_i32_673
  let c4_i32_691 : BitVec 32 := 4#32
  let v743 : BitVec 32 := Scalar.remsi v721 c4_i32_691
  let c1024_i32_692 : BitVec 32 := 1024#32
  let v744 : BitVec 32 := Scalar.muli v743 c1024_i32_692
  let c512_i32_693 : BitVec 32 := 512#32
  let v745 : BitVec 32 := Scalar.addi v744 c512_i32_693
  let v746 : BitVec 32 := v745
  let c8_i32_694 : BitVec 32 := 8#32
  let v747 : BitVec 32 := Scalar.subi v746 c8_i32_694
  let c0_i32_695 : BitVec 32 := 0#32
  let v748 : BitVec 32 := Scalar.maxsi v747 c0_i32_695
  v748
def k0_off37 (d0 : Dev nD) (c0_i32_671 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v719 : BitVec 32 := Scalar.addi v5 c0_i32_671
  let c2_i32_672 : BitVec 32 := 2#32
  let v720 : BitVec 32 := Scalar.addi v719 c2_i32_672
  let c8_i32_673 : BitVec 32 := 8#32
  let v721 : BitVec 32 := Scalar.remsi v720 c8_i32_673
  let c4_i32_690 : BitVec 32 := 4#32
  let v742 : BitVec 32 := Scalar.divsi v721 c4_i32_690
  let c4_i32_691 : BitVec 32 := 4#32
  let v743 : BitVec 32 := Scalar.remsi v721 c4_i32_691
  let c1024_i32_692 : BitVec 32 := 1024#32
  let v744 : BitVec 32 := Scalar.muli v743 c1024_i32_692
  let c512_i32_693 : BitVec 32 := 512#32
  let v745 : BitVec 32 := Scalar.addi v744 c512_i32_693
  let v746 : BitVec 32 := v745
  let c0_i32_700 : BitVec 32 := 0#32
  ![v742.toNat, v746.toNat, 0]
def k0_off38 (d0 : Dev nD) (c0_i32_671 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v719 : BitVec 32 := Scalar.addi v5 c0_i32_671
  let c2_i32_672 : BitVec 32 := 2#32
  let v720 : BitVec 32 := Scalar.addi v719 c2_i32_672
  let c8_i32_673 : BitVec 32 := 8#32
  let v721 : BitVec 32 := Scalar.remsi v720 c8_i32_673
  let c4_i32_690 : BitVec 32 := 4#32
  let v742 : BitVec 32 := Scalar.divsi v721 c4_i32_690
  let c4_i32_691 : BitVec 32 := 4#32
  let v743 : BitVec 32 := Scalar.remsi v721 c4_i32_691
  let c1024_i32_692 : BitVec 32 := 1024#32
  let v744 : BitVec 32 := Scalar.muli v743 c1024_i32_692
  let c512_i32_693 : BitVec 32 := 512#32
  let v745 : BitVec 32 := Scalar.addi v744 c512_i32_693
  let v746 : BitVec 32 := v745
  let c8_i32_694 : BitVec 32 := 8#32
  let v747 : BitVec 32 := Scalar.subi v746 c8_i32_694
  let c0_i32_695 : BitVec 32 := 0#32
  let v748 : BitVec 32 := Scalar.maxsi v747 c0_i32_695
  let v749 : BitVec 32 := v748
  let c0_i32_705 : BitVec 32 := 0#32
  ![v742.toNat, v749.toNat, 0]
def k0_off39 (d0 : Dev nD) (c0_i32_667 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v715 : BitVec 32 := Scalar.subi v5 c0_i32_667
  let c2_i32_668 : BitVec 32 := 2#32
  let v716 : BitVec 32 := Scalar.subi v715 c2_i32_668
  let c8_i32_669 : BitVec 32 := 8#32
  let v717 : BitVec 32 := Scalar.addi v716 c8_i32_669
  let c8_i32_670 : BitVec 32 := 8#32
  let v718 : BitVec 32 := Scalar.remsi v717 c8_i32_670
  let v811 : Index := Scalar.indexCast v718
  let c0_722 : Index := 0#32
  let c0_723 : Index := 0#32
  ![v811.toNat, 0, 0]
def k0_off40 (d0 : Dev nD) (c0_i32_671 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v719 : BitVec 32 := Scalar.addi v5 c0_i32_671
  let c2_i32_672 : BitVec 32 := 2#32
  let v720 : BitVec 32 := Scalar.addi v719 c2_i32_672
  let c8_i32_673 : BitVec 32 := 8#32
  let v721 : BitVec 32 := Scalar.remsi v720 c8_i32_673
  let v864 : Index := Scalar.indexCast v721
  let c512_740 : Index := 512#32
  let c0_741 : Index := 0#32
  ![v864.toNat, 512, 0]
def k0_dev21 (d0 : Dev nD) : Nat :=
  let c0_i32_802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_801 : BitVec 32 := 1#32
  let v906 : BitVec 32 := Scalar.muli v16 c1_i32_801
  let v907 : BitVec 32 := Scalar.addi c0_i32_802 v906
  v907.toNat
def k0_dev22 (d0 : Dev nD) : Nat :=
  let c0_i32_852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_851 : BitVec 32 := 1#32
  let v943 : BitVec 32 := Scalar.muli v11 c1_i32_851
  let v944 : BitVec 32 := Scalar.addi c0_i32_852 v943
  v944.toNat
def k0_dev23 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_901 : BitVec 32 := 1#32
  let v980 : BitVec 32 := Scalar.muli v16 c1_i32_901
  let v981 : BitVec 32 := Scalar.addi c0_i32_902 v980
  v981.toNat
def k0_dev24 (d0 : Dev nD) : Nat :=
  let c0_i32_952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_951 : BitVec 32 := 1#32
  let v1017 : BitVec 32 := Scalar.muli v11 c1_i32_951
  let v1018 : BitVec 32 := Scalar.addi c0_i32_952 v1017
  v1018.toNat
def k0_dev25 (d0 : Dev nD) : Nat :=
  let c0_i32_1002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1001 : BitVec 32 := 1#32
  let v1054 : BitVec 32 := Scalar.muli v16 c1_i32_1001
  let v1055 : BitVec 32 := Scalar.addi c0_i32_1002 v1054
  v1055.toNat
def k0_dev26 (d0 : Dev nD) : Nat :=
  let c0_i32_1052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1051 : BitVec 32 := 1#32
  let v1091 : BitVec 32 := Scalar.muli v11 c1_i32_1051
  let v1092 : BitVec 32 := Scalar.addi c0_i32_1052 v1091
  v1092.toNat
def k0_dev27 (d0 : Dev nD) : Nat :=
  let c0_i32_1102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1101 : BitVec 32 := 1#32
  let v1128 : BitVec 32 := Scalar.muli v16 c1_i32_1101
  let v1129 : BitVec 32 := Scalar.addi c0_i32_1102 v1128
  v1129.toNat
def k0_dev28 (d0 : Dev nD) : Nat :=
  let c0_i32_1152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1151 : BitVec 32 := 1#32
  let v1165 : BitVec 32 := Scalar.muli v11 c1_i32_1151
  let v1166 : BitVec 32 := Scalar.addi c0_i32_1152 v1165
  v1166.toNat
def k0_dev29 (d0 : Dev nD) : Nat :=
  let c0_i32_1161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1160 : BitVec 32 := 1#32
  let v1177 : BitVec 32 := Scalar.muli v11 c1_i32_1160
  let v1178 : BitVec 32 := Scalar.addi c0_i32_1161 v1177
  v1178.toNat
def k0_dev30 (d0 : Dev nD) : Nat :=
  let c0_i32_1166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1165 : BitVec 32 := 1#32
  let v1181 : BitVec 32 := Scalar.muli v16 c1_i32_1165
  let v1182 : BitVec 32 := Scalar.addi c0_i32_1166 v1181
  v1182.toNat
def k0_mult13 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1167 : BitVec 32 := 1#32
  let v1183 : BitVec 32 := Scalar.subi v5 c1_i32_1167
  let c2_i32_1168 : BitVec 32 := 2#32
  let v1184 : BitVec 32 := Scalar.subi v1183 c2_i32_1168
  let c8_i32_1169 : BitVec 32 := 8#32
  let v1185 : BitVec 32 := Scalar.addi v1184 c8_i32_1169
  let c8_i32_1170 : BitVec 32 := 8#32
  let v1186 : BitVec 32 := Scalar.remsi v1185 c8_i32_1170
  let c4_i32_1175 : BitVec 32 := 4#32
  let v1191 : BitVec 32 := Scalar.remsi v1186 c4_i32_1175
  let c1024_i32_1176 : BitVec 32 := 1024#32
  let v1192 : BitVec 32 := Scalar.muli v1191 c1024_i32_1176
  let c0_i32_1177 : BitVec 32 := 0#32
  let v1193 : BitVec 32 := Scalar.addi v1192 c0_i32_1177
  v1193
def k0_mult14 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1167 : BitVec 32 := 1#32
  let v1183 : BitVec 32 := Scalar.subi v5 c1_i32_1167
  let c2_i32_1168 : BitVec 32 := 2#32
  let v1184 : BitVec 32 := Scalar.subi v1183 c2_i32_1168
  let c8_i32_1169 : BitVec 32 := 8#32
  let v1185 : BitVec 32 := Scalar.addi v1184 c8_i32_1169
  let c8_i32_1170 : BitVec 32 := 8#32
  let v1186 : BitVec 32 := Scalar.remsi v1185 c8_i32_1170
  let c4_i32_1175 : BitVec 32 := 4#32
  let v1191 : BitVec 32 := Scalar.remsi v1186 c4_i32_1175
  let c1024_i32_1176 : BitVec 32 := 1024#32
  let v1192 : BitVec 32 := Scalar.muli v1191 c1024_i32_1176
  let c0_i32_1177 : BitVec 32 := 0#32
  let v1193 : BitVec 32 := Scalar.addi v1192 c0_i32_1177
  let v1194 : BitVec 32 := v1193
  let c8_i32_1178 : BitVec 32 := 8#32
  let v1195 : BitVec 32 := Scalar.subi v1194 c8_i32_1178
  let c0_i32_1179 : BitVec 32 := 0#32
  let v1196 : BitVec 32 := Scalar.maxsi v1195 c0_i32_1179
  v1196
def k0_mult15 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1171 : BitVec 32 := 1#32
  let v1187 : BitVec 32 := Scalar.addi v5 c1_i32_1171
  let c2_i32_1172 : BitVec 32 := 2#32
  let v1188 : BitVec 32 := Scalar.addi v1187 c2_i32_1172
  let c8_i32_1173 : BitVec 32 := 8#32
  let v1189 : BitVec 32 := Scalar.remsi v1188 c8_i32_1173
  let c4_i32_1191 : BitVec 32 := 4#32
  let v1211 : BitVec 32 := Scalar.remsi v1189 c4_i32_1191
  let c1024_i32_1192 : BitVec 32 := 1024#32
  let v1212 : BitVec 32 := Scalar.muli v1211 c1024_i32_1192
  let c512_i32_1193 : BitVec 32 := 512#32
  let v1213 : BitVec 32 := Scalar.addi v1212 c512_i32_1193
  v1213
def k0_mult16 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_1171 : BitVec 32 := 1#32
  let v1187 : BitVec 32 := Scalar.addi v5 c1_i32_1171
  let c2_i32_1172 : BitVec 32 := 2#32
  let v1188 : BitVec 32 := Scalar.addi v1187 c2_i32_1172
  let c8_i32_1173 : BitVec 32 := 8#32
  let v1189 : BitVec 32 := Scalar.remsi v1188 c8_i32_1173
  let c4_i32_1191 : BitVec 32 := 4#32
  let v1211 : BitVec 32 := Scalar.remsi v1189 c4_i32_1191
  let c1024_i32_1192 : BitVec 32 := 1024#32
  let v1212 : BitVec 32 := Scalar.muli v1211 c1024_i32_1192
  let c512_i32_1193 : BitVec 32 := 512#32
  let v1213 : BitVec 32 := Scalar.addi v1212 c512_i32_1193
  let v1214 : BitVec 32 := v1213
  let c8_i32_1194 : BitVec 32 := 8#32
  let v1215 : BitVec 32 := Scalar.subi v1214 c8_i32_1194
  let c0_i32_1195 : BitVec 32 := 0#32
  let v1216 : BitVec 32 := Scalar.maxsi v1215 c0_i32_1195
  v1216
def k0_dev31 (d0 : Dev nD) : Nat :=
  let c0_i32_1302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1301 : BitVec 32 := 1#32
  let v1374 : BitVec 32 := Scalar.muli v16 c1_i32_1301
  let v1375 : BitVec 32 := Scalar.addi c0_i32_1302 v1374
  v1375.toNat
def k0_dev32 (d0 : Dev nD) : Nat :=
  let c0_i32_1352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1351 : BitVec 32 := 1#32
  let v1411 : BitVec 32 := Scalar.muli v11 c1_i32_1351
  let v1412 : BitVec 32 := Scalar.addi c0_i32_1352 v1411
  v1412.toNat
def k0_dev33 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1401 : BitVec 32 := 1#32
  let v1448 : BitVec 32 := Scalar.muli v16 c1_i32_1401
  let v1449 : BitVec 32 := Scalar.addi c0_i32_1402 v1448
  v1449.toNat
def k0_dev34 (d0 : Dev nD) : Nat :=
  let c0_i32_1452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1451 : BitVec 32 := 1#32
  let v1485 : BitVec 32 := Scalar.muli v11 c1_i32_1451
  let v1486 : BitVec 32 := Scalar.addi c0_i32_1452 v1485
  v1486.toNat
def k0_dev35 (d0 : Dev nD) : Nat :=
  let c0_i32_1502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1501 : BitVec 32 := 1#32
  let v1522 : BitVec 32 := Scalar.muli v16 c1_i32_1501
  let v1523 : BitVec 32 := Scalar.addi c0_i32_1502 v1522
  v1523.toNat
def k0_dev36 (d0 : Dev nD) : Nat :=
  let c0_i32_1552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1551 : BitVec 32 := 1#32
  let v1559 : BitVec 32 := Scalar.muli v11 c1_i32_1551
  let v1560 : BitVec 32 := Scalar.addi c0_i32_1552 v1559
  v1560.toNat
def k0_dev37 (d0 : Dev nD) : Nat :=
  let c0_i32_1602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1601 : BitVec 32 := 1#32
  let v1596 : BitVec 32 := Scalar.muli v16 c1_i32_1601
  let v1597 : BitVec 32 := Scalar.addi c0_i32_1602 v1596
  v1597.toNat
def k0_dev38 (d0 : Dev nD) : Nat :=
  let c0_i32_1652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1651 : BitVec 32 := 1#32
  let v1633 : BitVec 32 := Scalar.muli v11 c1_i32_1651
  let v1634 : BitVec 32 := Scalar.addi c0_i32_1652 v1633
  v1634.toNat
def k0_dev39 (d0 : Dev nD) : Nat :=
  let c0_i32_1661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1660 : BitVec 32 := 1#32
  let v1645 : BitVec 32 := Scalar.muli v11 c1_i32_1660
  let v1646 : BitVec 32 := Scalar.addi c0_i32_1661 v1645
  v1646.toNat
def k0_dev40 (d0 : Dev nD) : Nat :=
  let c0_i32_1666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1665 : BitVec 32 := 1#32
  let v1649 : BitVec 32 := Scalar.muli v16 c1_i32_1665
  let v1650 : BitVec 32 := Scalar.addi c0_i32_1666 v1649
  v1650.toNat
def k0_mult17 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_1667 : BitVec 32 := 2#32
  let v1651 : BitVec 32 := Scalar.subi v5 c2_i32_1667
  let c2_i32_1668 : BitVec 32 := 2#32
  let v1652 : BitVec 32 := Scalar.subi v1651 c2_i32_1668
  let c8_i32_1669 : BitVec 32 := 8#32
  let v1653 : BitVec 32 := Scalar.addi v1652 c8_i32_1669
  let c8_i32_1670 : BitVec 32 := 8#32
  let v1654 : BitVec 32 := Scalar.remsi v1653 c8_i32_1670
  let c4_i32_1675 : BitVec 32 := 4#32
  let v1659 : BitVec 32 := Scalar.remsi v1654 c4_i32_1675
  let c1024_i32_1676 : BitVec 32 := 1024#32
  let v1660 : BitVec 32 := Scalar.muli v1659 c1024_i32_1676
  let c0_i32_1677 : BitVec 32 := 0#32
  let v1661 : BitVec 32 := Scalar.addi v1660 c0_i32_1677
  v1661
def k0_mult18 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_1667 : BitVec 32 := 2#32
  let v1651 : BitVec 32 := Scalar.subi v5 c2_i32_1667
  let c2_i32_1668 : BitVec 32 := 2#32
  let v1652 : BitVec 32 := Scalar.subi v1651 c2_i32_1668
  let c8_i32_1669 : BitVec 32 := 8#32
  let v1653 : BitVec 32 := Scalar.addi v1652 c8_i32_1669
  let c8_i32_1670 : BitVec 32 := 8#32
  let v1654 : BitVec 32 := Scalar.remsi v1653 c8_i32_1670
  let c4_i32_1675 : BitVec 32 := 4#32
  let v1659 : BitVec 32 := Scalar.remsi v1654 c4_i32_1675
  let c1024_i32_1676 : BitVec 32 := 1024#32
  let v1660 : BitVec 32 := Scalar.muli v1659 c1024_i32_1676
  let c0_i32_1677 : BitVec 32 := 0#32
  let v1661 : BitVec 32 := Scalar.addi v1660 c0_i32_1677
  let v1662 : BitVec 32 := v1661
  let c8_i32_1678 : BitVec 32 := 8#32
  let v1663 : BitVec 32 := Scalar.subi v1662 c8_i32_1678
  let c0_i32_1679 : BitVec 32 := 0#32
  let v1664 : BitVec 32 := Scalar.maxsi v1663 c0_i32_1679
  v1664
def k0_mult19 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_1671 : BitVec 32 := 2#32
  let v1655 : BitVec 32 := Scalar.addi v5 c2_i32_1671
  let c2_i32_1672 : BitVec 32 := 2#32
  let v1656 : BitVec 32 := Scalar.addi v1655 c2_i32_1672
  let c8_i32_1673 : BitVec 32 := 8#32
  let v1657 : BitVec 32 := Scalar.remsi v1656 c8_i32_1673
  let c4_i32_1691 : BitVec 32 := 4#32
  let v1679 : BitVec 32 := Scalar.remsi v1657 c4_i32_1691
  let c1024_i32_1692 : BitVec 32 := 1024#32
  let v1680 : BitVec 32 := Scalar.muli v1679 c1024_i32_1692
  let c512_i32_1693 : BitVec 32 := 512#32
  let v1681 : BitVec 32 := Scalar.addi v1680 c512_i32_1693
  v1681
def k0_mult20 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_1671 : BitVec 32 := 2#32
  let v1655 : BitVec 32 := Scalar.addi v5 c2_i32_1671
  let c2_i32_1672 : BitVec 32 := 2#32
  let v1656 : BitVec 32 := Scalar.addi v1655 c2_i32_1672
  let c8_i32_1673 : BitVec 32 := 8#32
  let v1657 : BitVec 32 := Scalar.remsi v1656 c8_i32_1673
  let c4_i32_1691 : BitVec 32 := 4#32
  let v1679 : BitVec 32 := Scalar.remsi v1657 c4_i32_1691
  let c1024_i32_1692 : BitVec 32 := 1024#32
  let v1680 : BitVec 32 := Scalar.muli v1679 c1024_i32_1692
  let c512_i32_1693 : BitVec 32 := 512#32
  let v1681 : BitVec 32 := Scalar.addi v1680 c512_i32_1693
  let v1682 : BitVec 32 := v1681
  let c8_i32_1694 : BitVec 32 := 8#32
  let v1683 : BitVec 32 := Scalar.subi v1682 c8_i32_1694
  let c0_i32_1695 : BitVec 32 := 0#32
  let v1684 : BitVec 32 := Scalar.maxsi v1683 c0_i32_1695
  v1684
def k0_dev41 (d0 : Dev nD) : Nat :=
  let c0_i32_1802 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1801 : BitVec 32 := 1#32
  let v1842 : BitVec 32 := Scalar.muli v16 c1_i32_1801
  let v1843 : BitVec 32 := Scalar.addi c0_i32_1802 v1842
  v1843.toNat
def k0_dev42 (d0 : Dev nD) : Nat :=
  let c0_i32_1852 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1851 : BitVec 32 := 1#32
  let v1879 : BitVec 32 := Scalar.muli v11 c1_i32_1851
  let v1880 : BitVec 32 := Scalar.addi c0_i32_1852 v1879
  v1880.toNat
def k0_dev43 (d0 : Dev nD) : Nat :=
  let c0_i32_1902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_1901 : BitVec 32 := 1#32
  let v1916 : BitVec 32 := Scalar.muli v16 c1_i32_1901
  let v1917 : BitVec 32 := Scalar.addi c0_i32_1902 v1916
  v1917.toNat
def k0_dev44 (d0 : Dev nD) : Nat :=
  let c0_i32_1952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_1951 : BitVec 32 := 1#32
  let v1953 : BitVec 32 := Scalar.muli v11 c1_i32_1951
  let v1954 : BitVec 32 := Scalar.addi c0_i32_1952 v1953
  v1954.toNat
def k0_dev45 (d0 : Dev nD) : Nat :=
  let c0_i32_2002 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2001 : BitVec 32 := 1#32
  let v1990 : BitVec 32 := Scalar.muli v16 c1_i32_2001
  let v1991 : BitVec 32 := Scalar.addi c0_i32_2002 v1990
  v1991.toNat
def k0_dev46 (d0 : Dev nD) : Nat :=
  let c0_i32_2052 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2051 : BitVec 32 := 1#32
  let v2027 : BitVec 32 := Scalar.muli v11 c1_i32_2051
  let v2028 : BitVec 32 := Scalar.addi c0_i32_2052 v2027
  v2028.toNat
def k0_dev47 (d0 : Dev nD) : Nat :=
  let c0_i32_2102 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2101 : BitVec 32 := 1#32
  let v2064 : BitVec 32 := Scalar.muli v16 c1_i32_2101
  let v2065 : BitVec 32 := Scalar.addi c0_i32_2102 v2064
  v2065.toNat
def k0_dev48 (d0 : Dev nD) : Nat :=
  let c0_i32_2152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2151 : BitVec 32 := 1#32
  let v2101 : BitVec 32 := Scalar.muli v11 c1_i32_2151
  let v2102 : BitVec 32 := Scalar.addi c0_i32_2152 v2101
  v2102.toNat
def k0_dev49 (d0 : Dev nD) : Nat :=
  let c0_i32_2161 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2160 : BitVec 32 := 1#32
  let v2113 : BitVec 32 := Scalar.muli v11 c1_i32_2160
  let v2114 : BitVec 32 := Scalar.addi c0_i32_2161 v2113
  v2114.toNat
def k0_dev50 (d0 : Dev nD) : Nat :=
  let c0_i32_2166 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2165 : BitVec 32 := 1#32
  let v2117 : BitVec 32 := Scalar.muli v16 c1_i32_2165
  let v2118 : BitVec 32 := Scalar.addi c0_i32_2166 v2117
  v2118.toNat
def k0_mult21 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_2167 : BitVec 32 := 3#32
  let v2119 : BitVec 32 := Scalar.subi v5 c3_i32_2167
  let c2_i32_2168 : BitVec 32 := 2#32
  let v2120 : BitVec 32 := Scalar.subi v2119 c2_i32_2168
  let c8_i32_2169 : BitVec 32 := 8#32
  let v2121 : BitVec 32 := Scalar.addi v2120 c8_i32_2169
  let c8_i32_2170 : BitVec 32 := 8#32
  let v2122 : BitVec 32 := Scalar.remsi v2121 c8_i32_2170
  let c4_i32_2175 : BitVec 32 := 4#32
  let v2127 : BitVec 32 := Scalar.remsi v2122 c4_i32_2175
  let c1024_i32_2176 : BitVec 32 := 1024#32
  let v2128 : BitVec 32 := Scalar.muli v2127 c1024_i32_2176
  let c0_i32_2177 : BitVec 32 := 0#32
  let v2129 : BitVec 32 := Scalar.addi v2128 c0_i32_2177
  v2129
def k0_mult22 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_2167 : BitVec 32 := 3#32
  let v2119 : BitVec 32 := Scalar.subi v5 c3_i32_2167
  let c2_i32_2168 : BitVec 32 := 2#32
  let v2120 : BitVec 32 := Scalar.subi v2119 c2_i32_2168
  let c8_i32_2169 : BitVec 32 := 8#32
  let v2121 : BitVec 32 := Scalar.addi v2120 c8_i32_2169
  let c8_i32_2170 : BitVec 32 := 8#32
  let v2122 : BitVec 32 := Scalar.remsi v2121 c8_i32_2170
  let c4_i32_2175 : BitVec 32 := 4#32
  let v2127 : BitVec 32 := Scalar.remsi v2122 c4_i32_2175
  let c1024_i32_2176 : BitVec 32 := 1024#32
  let v2128 : BitVec 32 := Scalar.muli v2127 c1024_i32_2176
  let c0_i32_2177 : BitVec 32 := 0#32
  let v2129 : BitVec 32 := Scalar.addi v2128 c0_i32_2177
  let v2130 : BitVec 32 := v2129
  let c8_i32_2178 : BitVec 32 := 8#32
  let v2131 : BitVec 32 := Scalar.subi v2130 c8_i32_2178
  let c0_i32_2179 : BitVec 32 := 0#32
  let v2132 : BitVec 32 := Scalar.maxsi v2131 c0_i32_2179
  v2132
def k0_mult23 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_2171 : BitVec 32 := 3#32
  let v2123 : BitVec 32 := Scalar.addi v5 c3_i32_2171
  let c2_i32_2172 : BitVec 32 := 2#32
  let v2124 : BitVec 32 := Scalar.addi v2123 c2_i32_2172
  let c8_i32_2173 : BitVec 32 := 8#32
  let v2125 : BitVec 32 := Scalar.remsi v2124 c8_i32_2173
  let c4_i32_2191 : BitVec 32 := 4#32
  let v2147 : BitVec 32 := Scalar.remsi v2125 c4_i32_2191
  let c1024_i32_2192 : BitVec 32 := 1024#32
  let v2148 : BitVec 32 := Scalar.muli v2147 c1024_i32_2192
  let c512_i32_2193 : BitVec 32 := 512#32
  let v2149 : BitVec 32 := Scalar.addi v2148 c512_i32_2193
  v2149
def k0_mult24 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c3_i32_2171 : BitVec 32 := 3#32
  let v2123 : BitVec 32 := Scalar.addi v5 c3_i32_2171
  let c2_i32_2172 : BitVec 32 := 2#32
  let v2124 : BitVec 32 := Scalar.addi v2123 c2_i32_2172
  let c8_i32_2173 : BitVec 32 := 8#32
  let v2125 : BitVec 32 := Scalar.remsi v2124 c8_i32_2173
  let c4_i32_2191 : BitVec 32 := 4#32
  let v2147 : BitVec 32 := Scalar.remsi v2125 c4_i32_2191
  let c1024_i32_2192 : BitVec 32 := 1024#32
  let v2148 : BitVec 32 := Scalar.muli v2147 c1024_i32_2192
  let c512_i32_2193 : BitVec 32 := 512#32
  let v2149 : BitVec 32 := Scalar.addi v2148 c512_i32_2193
  let v2150 : BitVec 32 := v2149
  let c8_i32_2194 : BitVec 32 := 8#32
  let v2151 : BitVec 32 := Scalar.subi v2150 c8_i32_2194
  let c0_i32_2195 : BitVec 32 := 0#32
  let v2152 : BitVec 32 := Scalar.maxsi v2151 c0_i32_2195
  v2152
def k0_dev51 (d0 : Dev nD) : Nat :=
  let c0_i32_2302 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2301 : BitVec 32 := 1#32
  let v2310 : BitVec 32 := Scalar.muli v16 c1_i32_2301
  let v2311 : BitVec 32 := Scalar.addi c0_i32_2302 v2310
  v2311.toNat
def k0_dev52 (d0 : Dev nD) : Nat :=
  let c0_i32_2352 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2351 : BitVec 32 := 1#32
  let v2347 : BitVec 32 := Scalar.muli v11 c1_i32_2351
  let v2348 : BitVec 32 := Scalar.addi c0_i32_2352 v2347
  v2348.toNat
def k0_dev53 (d0 : Dev nD) : Nat :=
  let c0_i32_2402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2401 : BitVec 32 := 1#32
  let v2384 : BitVec 32 := Scalar.muli v16 c1_i32_2401
  let v2385 : BitVec 32 := Scalar.addi c0_i32_2402 v2384
  v2385.toNat
def k0_dev54 (d0 : Dev nD) : Nat :=
  let c0_i32_2452 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2451 : BitVec 32 := 1#32
  let v2421 : BitVec 32 := Scalar.muli v11 c1_i32_2451
  let v2422 : BitVec 32 := Scalar.addi c0_i32_2452 v2421
  v2422.toNat
def k0_dev55 (d0 : Dev nD) : Nat :=
  let c0_i32_2502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2501 : BitVec 32 := 1#32
  let v2458 : BitVec 32 := Scalar.muli v16 c1_i32_2501
  let v2459 : BitVec 32 := Scalar.addi c0_i32_2502 v2458
  v2459.toNat
def k0_dev56 (d0 : Dev nD) : Nat :=
  let c0_i32_2552 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2551 : BitVec 32 := 1#32
  let v2495 : BitVec 32 := Scalar.muli v11 c1_i32_2551
  let v2496 : BitVec 32 := Scalar.addi c0_i32_2552 v2495
  v2496.toNat
def k0_dev57 (d0 : Dev nD) : Nat :=
  let c0_i32_2602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2601 : BitVec 32 := 1#32
  let v2532 : BitVec 32 := Scalar.muli v16 c1_i32_2601
  let v2533 : BitVec 32 := Scalar.addi c0_i32_2602 v2532
  v2533.toNat
def k0_dev58 (d0 : Dev nD) : Nat :=
  let c0_i32_2652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2651 : BitVec 32 := 1#32
  let v2569 : BitVec 32 := Scalar.muli v11 c1_i32_2651
  let v2570 : BitVec 32 := Scalar.addi c0_i32_2652 v2569
  v2570.toNat
def k0_dev59 (d0 : Dev nD) : Nat :=
  let c0_i32_2661 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2660 : BitVec 32 := 1#32
  let v2581 : BitVec 32 := Scalar.muli v11 c1_i32_2660
  let v2582 : BitVec 32 := Scalar.addi c0_i32_2661 v2581
  v2582.toNat
def k0_dev60 (d0 : Dev nD) : Nat :=
  let c0_i32_2666 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2665 : BitVec 32 := 1#32
  let v2585 : BitVec 32 := Scalar.muli v16 c1_i32_2665
  let v2586 : BitVec 32 := Scalar.addi c0_i32_2666 v2585
  v2586.toNat
def k0_mult25 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_2667 : BitVec 32 := 4#32
  let v2587 : BitVec 32 := Scalar.subi v5 c4_i32_2667
  let c2_i32_2668 : BitVec 32 := 2#32
  let v2588 : BitVec 32 := Scalar.subi v2587 c2_i32_2668
  let c8_i32_2669 : BitVec 32 := 8#32
  let v2589 : BitVec 32 := Scalar.addi v2588 c8_i32_2669
  let c8_i32_2670 : BitVec 32 := 8#32
  let v2590 : BitVec 32 := Scalar.remsi v2589 c8_i32_2670
  let c4_i32_2675 : BitVec 32 := 4#32
  let v2595 : BitVec 32 := Scalar.remsi v2590 c4_i32_2675
  let c1024_i32_2676 : BitVec 32 := 1024#32
  let v2596 : BitVec 32 := Scalar.muli v2595 c1024_i32_2676
  let c0_i32_2677 : BitVec 32 := 0#32
  let v2597 : BitVec 32 := Scalar.addi v2596 c0_i32_2677
  v2597
def k0_mult26 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_2667 : BitVec 32 := 4#32
  let v2587 : BitVec 32 := Scalar.subi v5 c4_i32_2667
  let c2_i32_2668 : BitVec 32 := 2#32
  let v2588 : BitVec 32 := Scalar.subi v2587 c2_i32_2668
  let c8_i32_2669 : BitVec 32 := 8#32
  let v2589 : BitVec 32 := Scalar.addi v2588 c8_i32_2669
  let c8_i32_2670 : BitVec 32 := 8#32
  let v2590 : BitVec 32 := Scalar.remsi v2589 c8_i32_2670
  let c4_i32_2675 : BitVec 32 := 4#32
  let v2595 : BitVec 32 := Scalar.remsi v2590 c4_i32_2675
  let c1024_i32_2676 : BitVec 32 := 1024#32
  let v2596 : BitVec 32 := Scalar.muli v2595 c1024_i32_2676
  let c0_i32_2677 : BitVec 32 := 0#32
  let v2597 : BitVec 32 := Scalar.addi v2596 c0_i32_2677
  let v2598 : BitVec 32 := v2597
  let c8_i32_2678 : BitVec 32 := 8#32
  let v2599 : BitVec 32 := Scalar.subi v2598 c8_i32_2678
  let c0_i32_2679 : BitVec 32 := 0#32
  let v2600 : BitVec 32 := Scalar.maxsi v2599 c0_i32_2679
  v2600
def k0_mult27 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_2671 : BitVec 32 := 4#32
  let v2591 : BitVec 32 := Scalar.addi v5 c4_i32_2671
  let c2_i32_2672 : BitVec 32 := 2#32
  let v2592 : BitVec 32 := Scalar.addi v2591 c2_i32_2672
  let c8_i32_2673 : BitVec 32 := 8#32
  let v2593 : BitVec 32 := Scalar.remsi v2592 c8_i32_2673
  let c4_i32_2691 : BitVec 32 := 4#32
  let v2615 : BitVec 32 := Scalar.remsi v2593 c4_i32_2691
  let c1024_i32_2692 : BitVec 32 := 1024#32
  let v2616 : BitVec 32 := Scalar.muli v2615 c1024_i32_2692
  let c512_i32_2693 : BitVec 32 := 512#32
  let v2617 : BitVec 32 := Scalar.addi v2616 c512_i32_2693
  v2617
def k0_mult28 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_2671 : BitVec 32 := 4#32
  let v2591 : BitVec 32 := Scalar.addi v5 c4_i32_2671
  let c2_i32_2672 : BitVec 32 := 2#32
  let v2592 : BitVec 32 := Scalar.addi v2591 c2_i32_2672
  let c8_i32_2673 : BitVec 32 := 8#32
  let v2593 : BitVec 32 := Scalar.remsi v2592 c8_i32_2673
  let c4_i32_2691 : BitVec 32 := 4#32
  let v2615 : BitVec 32 := Scalar.remsi v2593 c4_i32_2691
  let c1024_i32_2692 : BitVec 32 := 1024#32
  let v2616 : BitVec 32 := Scalar.muli v2615 c1024_i32_2692
  let c512_i32_2693 : BitVec 32 := 512#32
  let v2617 : BitVec 32 := Scalar.addi v2616 c512_i32_2693
  let v2618 : BitVec 32 := v2617
  let c8_i32_2694 : BitVec 32 := 8#32
  let v2619 : BitVec 32 := Scalar.subi v2618 c8_i32_2694
  let c0_i32_2695 : BitVec 32 := 0#32
  let v2620 : BitVec 32 := Scalar.maxsi v2619 c0_i32_2695
  v2620
def k0_dev61 (d0 : Dev nD) : Nat :=
  let c0_i32_2801 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2800 : BitVec 32 := 1#32
  let v2778 : BitVec 32 := Scalar.muli v16 c1_i32_2800
  let v2779 : BitVec 32 := Scalar.addi c0_i32_2801 v2778
  v2779.toNat
def k0_dev62 (d0 : Dev nD) : Nat :=
  let c0_i32_2851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2850 : BitVec 32 := 1#32
  let v2815 : BitVec 32 := Scalar.muli v11 c1_i32_2850
  let v2816 : BitVec 32 := Scalar.addi c0_i32_2851 v2815
  v2816.toNat
def k0_dev63 (d0 : Dev nD) : Nat :=
  let c0_i32_2901 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_2900 : BitVec 32 := 1#32
  let v2852 : BitVec 32 := Scalar.muli v16 c1_i32_2900
  let v2853 : BitVec 32 := Scalar.addi c0_i32_2901 v2852
  v2853.toNat
def k0_dev64 (d0 : Dev nD) : Nat :=
  let c0_i32_2951 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_2950 : BitVec 32 := 1#32
  let v2889 : BitVec 32 := Scalar.muli v11 c1_i32_2950
  let v2890 : BitVec 32 := Scalar.addi c0_i32_2951 v2889
  v2890.toNat
def k0_dev65 (d0 : Dev nD) : Nat :=
  let c0_i32_3001 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3000 : BitVec 32 := 1#32
  let v2926 : BitVec 32 := Scalar.muli v16 c1_i32_3000
  let v2927 : BitVec 32 := Scalar.addi c0_i32_3001 v2926
  v2927.toNat
def k0_dev66 (d0 : Dev nD) : Nat :=
  let c0_i32_3051 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3050 : BitVec 32 := 1#32
  let v2963 : BitVec 32 := Scalar.muli v11 c1_i32_3050
  let v2964 : BitVec 32 := Scalar.addi c0_i32_3051 v2963
  v2964.toNat
def k0_dev67 (d0 : Dev nD) : Nat :=
  let c0_i32_3101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3100 : BitVec 32 := 1#32
  let v3000 : BitVec 32 := Scalar.muli v16 c1_i32_3100
  let v3001 : BitVec 32 := Scalar.addi c0_i32_3101 v3000
  v3001.toNat
def k0_dev68 (d0 : Dev nD) : Nat :=
  let c0_i32_3151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3150 : BitVec 32 := 1#32
  let v3037 : BitVec 32 := Scalar.muli v11 c1_i32_3150
  let v3038 : BitVec 32 := Scalar.addi c0_i32_3151 v3037
  v3038.toNat
def k0_mult29 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_3156 : BitVec 32 := 5#32
  let v3047 : BitVec 32 := Scalar.subi v5 c5_i32_3156
  let c2_i32_3157 : BitVec 32 := 2#32
  let v3048 : BitVec 32 := Scalar.subi v3047 c2_i32_3157
  let c8_i32_3158 : BitVec 32 := 8#32
  let v3049 : BitVec 32 := Scalar.addi v3048 c8_i32_3158
  let c8_i32_3159 : BitVec 32 := 8#32
  let v3050 : BitVec 32 := Scalar.remsi v3049 c8_i32_3159
  let c4_i32_3164 : BitVec 32 := 4#32
  let v3055 : BitVec 32 := Scalar.remsi v3050 c4_i32_3164
  let c1024_i32_3165 : BitVec 32 := 1024#32
  let v3056 : BitVec 32 := Scalar.muli v3055 c1024_i32_3165
  let c0_i32_3166 : BitVec 32 := 0#32
  let v3057 : BitVec 32 := Scalar.addi v3056 c0_i32_3166
  v3057
def k0_mult30 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_3156 : BitVec 32 := 5#32
  let v3047 : BitVec 32 := Scalar.subi v5 c5_i32_3156
  let c2_i32_3157 : BitVec 32 := 2#32
  let v3048 : BitVec 32 := Scalar.subi v3047 c2_i32_3157
  let c8_i32_3158 : BitVec 32 := 8#32
  let v3049 : BitVec 32 := Scalar.addi v3048 c8_i32_3158
  let c8_i32_3159 : BitVec 32 := 8#32
  let v3050 : BitVec 32 := Scalar.remsi v3049 c8_i32_3159
  let c4_i32_3164 : BitVec 32 := 4#32
  let v3055 : BitVec 32 := Scalar.remsi v3050 c4_i32_3164
  let c1024_i32_3165 : BitVec 32 := 1024#32
  let v3056 : BitVec 32 := Scalar.muli v3055 c1024_i32_3165
  let c0_i32_3166 : BitVec 32 := 0#32
  let v3057 : BitVec 32 := Scalar.addi v3056 c0_i32_3166
  let v3058 : BitVec 32 := v3057
  let c8_i32_3167 : BitVec 32 := 8#32
  let v3059 : BitVec 32 := Scalar.subi v3058 c8_i32_3167
  let c0_i32_3168 : BitVec 32 := 0#32
  let v3060 : BitVec 32 := Scalar.maxsi v3059 c0_i32_3168
  v3060
def k0_mult31 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_3160 : BitVec 32 := 5#32
  let v3051 : BitVec 32 := Scalar.addi v5 c5_i32_3160
  let c2_i32_3161 : BitVec 32 := 2#32
  let v3052 : BitVec 32 := Scalar.addi v3051 c2_i32_3161
  let c8_i32_3162 : BitVec 32 := 8#32
  let v3053 : BitVec 32 := Scalar.remsi v3052 c8_i32_3162
  let c4_i32_3180 : BitVec 32 := 4#32
  let v3075 : BitVec 32 := Scalar.remsi v3053 c4_i32_3180
  let c1024_i32_3181 : BitVec 32 := 1024#32
  let v3076 : BitVec 32 := Scalar.muli v3075 c1024_i32_3181
  let c512_i32_3182 : BitVec 32 := 512#32
  let v3077 : BitVec 32 := Scalar.addi v3076 c512_i32_3182
  v3077
def k0_mult32 (d0 : Dev nD) : BitVec 32 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c5_i32_3160 : BitVec 32 := 5#32
  let v3051 : BitVec 32 := Scalar.addi v5 c5_i32_3160
  let c2_i32_3161 : BitVec 32 := 2#32
  let v3052 : BitVec 32 := Scalar.addi v3051 c2_i32_3161
  let c8_i32_3162 : BitVec 32 := 8#32
  let v3053 : BitVec 32 := Scalar.remsi v3052 c8_i32_3162
  let c4_i32_3180 : BitVec 32 := 4#32
  let v3075 : BitVec 32 := Scalar.remsi v3053 c4_i32_3180
  let c1024_i32_3181 : BitVec 32 := 1024#32
  let v3076 : BitVec 32 := Scalar.muli v3075 c1024_i32_3181
  let c512_i32_3182 : BitVec 32 := 512#32
  let v3077 : BitVec 32 := Scalar.addi v3076 c512_i32_3182
  let v3078 : BitVec 32 := v3077
  let c8_i32_3183 : BitVec 32 := 8#32
  let v3079 : BitVec 32 := Scalar.subi v3078 c8_i32_3183
  let c0_i32_3184 : BitVec 32 := 0#32
  let v3080 : BitVec 32 := Scalar.maxsi v3079 c0_i32_3184
  v3080
def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c0_i32_3537 : BitVec 32 := 0#32
  let c0_i32_3538 : BitVec 32 := 0#32
  ![v257.toNat, 0, 0]
def k0_dev69 (d0 : Dev nD) : Nat :=
  let c0_i32_3534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3533 : BitVec 32 := 1#32
  let v3423 : BitVec 32 := Scalar.muli v16 c1_i32_3533
  let v3424 : BitVec 32 := Scalar.addi c0_i32_3534 v3423
  v3424.toNat
def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c128_i32_3551 : BitVec 32 := 128#32
  let c0_i32_3552 : BitVec 32 := 0#32
  ![v257.toNat, 128, 0]
def k0_dev70 (d0 : Dev nD) : Nat :=
  let c0_i32_3548 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3547 : BitVec 32 := 1#32
  let v3433 : BitVec 32 := Scalar.muli v16 c1_i32_3547
  let v3434 : BitVec 32 := Scalar.addi c0_i32_3548 v3433
  v3434.toNat
def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c256_i32_3565 : BitVec 32 := 256#32
  let c0_i32_3566 : BitVec 32 := 0#32
  ![v257.toNat, 256, 0]
def k0_dev71 (d0 : Dev nD) : Nat :=
  let c0_i32_3562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3561 : BitVec 32 := 1#32
  let v3443 : BitVec 32 := Scalar.muli v16 c1_i32_3561
  let v3444 : BitVec 32 := Scalar.addi c0_i32_3562 v3443
  v3444.toNat
def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_188 : BitVec 32 := 1#32
  let v256 : BitVec 32 := Scalar.addi v5 c1_i32_188
  let c8_i32_189 : BitVec 32 := 8#32
  let v257 : BitVec 32 := Scalar.remsi v256 c8_i32_189
  let c384_i32_3579 : BitVec 32 := 384#32
  let c0_i32_3580 : BitVec 32 := 0#32
  ![v257.toNat, 384, 0]
def k0_dev72 (d0 : Dev nD) : Nat :=
  let c0_i32_3576 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3575 : BitVec 32 := 1#32
  let v3453 : BitVec 32 := Scalar.muli v16 c1_i32_3575
  let v3454 : BitVec 32 := Scalar.addi c0_i32_3576 v3453
  v3454.toNat
def k0_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c512_i32_3593 : BitVec 32 := 512#32
  let c0_i32_3594 : BitVec 32 := 0#32
  ![v255.toNat, 512, 0]
def k0_dev73 (d0 : Dev nD) : Nat :=
  let c0_i32_3590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3589 : BitVec 32 := 1#32
  let v3463 : BitVec 32 := Scalar.muli v11 c1_i32_3589
  let v3464 : BitVec 32 := Scalar.addi c0_i32_3590 v3463
  v3464.toNat
def k0_off46 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c640_i32_3607 : BitVec 32 := 640#32
  let c0_i32_3608 : BitVec 32 := 0#32
  ![v255.toNat, 640, 0]
def k0_dev74 (d0 : Dev nD) : Nat :=
  let c0_i32_3604 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3603 : BitVec 32 := 1#32
  let v3473 : BitVec 32 := Scalar.muli v11 c1_i32_3603
  let v3474 : BitVec 32 := Scalar.addi c0_i32_3604 v3473
  v3474.toNat
def k0_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c768_i32_3621 : BitVec 32 := 768#32
  let c0_i32_3622 : BitVec 32 := 0#32
  ![v255.toNat, 768, 0]
def k0_dev75 (d0 : Dev nD) : Nat :=
  let c0_i32_3618 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3617 : BitVec 32 := 1#32
  let v3483 : BitVec 32 := Scalar.muli v11 c1_i32_3617
  let v3484 : BitVec 32 := Scalar.addi c0_i32_3618 v3483
  v3484.toNat
def k0_off48 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_185 : BitVec 32 := 1#32
  let v253 : BitVec 32 := Scalar.subi v5 c1_i32_185
  let c8_i32_186 : BitVec 32 := 8#32
  let v254 : BitVec 32 := Scalar.addi v253 c8_i32_186
  let c8_i32_187 : BitVec 32 := 8#32
  let v255 : BitVec 32 := Scalar.remsi v254 c8_i32_187
  let c896_i32_3635 : BitVec 32 := 896#32
  let c0_i32_3636 : BitVec 32 := 0#32
  ![v255.toNat, 896, 0]
def k0_dev76 (d0 : Dev nD) : Nat :=
  let c0_i32_3632 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3631 : BitVec 32 := 1#32
  let v3493 : BitVec 32 := Scalar.muli v11 c1_i32_3631
  let v3494 : BitVec 32 := Scalar.addi c0_i32_3632 v3493
  v3494.toNat
def k0_dev77 (d0 : Dev nD) : Nat :=
  let c0_i32_3681 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3680 : BitVec 32 := 1#32
  let v3522 : BitVec 32 := Scalar.muli v16 c1_i32_3680
  let v3523 : BitVec 32 := Scalar.addi c0_i32_3681 v3522
  v3523.toNat
def k0_off49 (d0 : Dev nD) (c0_i32_3637 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3503 : BitVec 32 := Scalar.subi v5 c0_i32_3637
  let c8_i32_3638 : BitVec 32 := 8#32
  let v3504 : BitVec 32 := Scalar.addi v3503 c8_i32_3638
  let c8_i32_3639 : BitVec 32 := 8#32
  let v3505 : BitVec 32 := Scalar.remsi v3504 c8_i32_3639
  let v3534 : Index := Scalar.indexCast v3505
  let c0_3691 : Index := 0#32
  let c0_3692 : Index := 0#32
  ![v3534.toNat, 0, 0]
def k0_dev78 (d0 : Dev nD) : Nat :=
  let c0_i32_3732 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3731 : BitVec 32 := 1#32
  let v3552 : BitVec 32 := Scalar.muli v11 c1_i32_3731
  let v3553 : BitVec 32 := Scalar.addi c0_i32_3732 v3552
  v3553.toNat
def k0_off50 (d0 : Dev nD) (c0_i32_3640 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3506 : BitVec 32 := Scalar.addi v5 c0_i32_3640
  let c8_i32_3641 : BitVec 32 := 8#32
  let v3507 : BitVec 32 := Scalar.remsi v3506 c8_i32_3641
  let v3564 : Index := Scalar.indexCast v3507
  let c512_3742 : Index := 512#32
  let c0_3743 : Index := 0#32
  ![v3564.toNat, 512, 0]
def k0_dev79 (d0 : Dev nD) : Nat :=
  let c0_i32_3783 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3782 : BitVec 32 := 1#32
  let v3582 : BitVec 32 := Scalar.muli v16 c1_i32_3782
  let v3583 : BitVec 32 := Scalar.addi c0_i32_3783 v3582
  v3583.toNat
def k0_off51 (d0 : Dev nD) (c0_i32_3637 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3503 : BitVec 32 := Scalar.subi v5 c0_i32_3637
  let c8_i32_3638 : BitVec 32 := 8#32
  let v3504 : BitVec 32 := Scalar.addi v3503 c8_i32_3638
  let c8_i32_3639 : BitVec 32 := 8#32
  let v3505 : BitVec 32 := Scalar.remsi v3504 c8_i32_3639
  let v3594 : Index := Scalar.indexCast v3505
  let c128_3793 : Index := 128#32
  let c0_3794 : Index := 0#32
  ![v3594.toNat, 128, 0]
def k0_dev80 (d0 : Dev nD) : Nat :=
  let c0_i32_3834 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3833 : BitVec 32 := 1#32
  let v3612 : BitVec 32 := Scalar.muli v11 c1_i32_3833
  let v3613 : BitVec 32 := Scalar.addi c0_i32_3834 v3612
  v3613.toNat
def k0_off52 (d0 : Dev nD) (c0_i32_3640 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3506 : BitVec 32 := Scalar.addi v5 c0_i32_3640
  let c8_i32_3641 : BitVec 32 := 8#32
  let v3507 : BitVec 32 := Scalar.remsi v3506 c8_i32_3641
  let v3624 : Index := Scalar.indexCast v3507
  let c640_3844 : Index := 640#32
  let c0_3845 : Index := 0#32
  ![v3624.toNat, 640, 0]
def k0_dev81 (d0 : Dev nD) : Nat :=
  let c0_i32_3885 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3884 : BitVec 32 := 1#32
  let v3642 : BitVec 32 := Scalar.muli v16 c1_i32_3884
  let v3643 : BitVec 32 := Scalar.addi c0_i32_3885 v3642
  v3643.toNat
def k0_off53 (d0 : Dev nD) (c0_i32_3637 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3503 : BitVec 32 := Scalar.subi v5 c0_i32_3637
  let c8_i32_3638 : BitVec 32 := 8#32
  let v3504 : BitVec 32 := Scalar.addi v3503 c8_i32_3638
  let c8_i32_3639 : BitVec 32 := 8#32
  let v3505 : BitVec 32 := Scalar.remsi v3504 c8_i32_3639
  let v3654 : Index := Scalar.indexCast v3505
  let c256_3895 : Index := 256#32
  let c0_3896 : Index := 0#32
  ![v3654.toNat, 256, 0]
def k0_dev82 (d0 : Dev nD) : Nat :=
  let c0_i32_3936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_3935 : BitVec 32 := 1#32
  let v3672 : BitVec 32 := Scalar.muli v11 c1_i32_3935
  let v3673 : BitVec 32 := Scalar.addi c0_i32_3936 v3672
  v3673.toNat
def k0_off54 (d0 : Dev nD) (c0_i32_3640 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3506 : BitVec 32 := Scalar.addi v5 c0_i32_3640
  let c8_i32_3641 : BitVec 32 := 8#32
  let v3507 : BitVec 32 := Scalar.remsi v3506 c8_i32_3641
  let v3684 : Index := Scalar.indexCast v3507
  let c768_3946 : Index := 768#32
  let c0_3947 : Index := 0#32
  ![v3684.toNat, 768, 0]
def k0_dev83 (d0 : Dev nD) : Nat :=
  let c0_i32_3987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_3986 : BitVec 32 := 1#32
  let v3702 : BitVec 32 := Scalar.muli v16 c1_i32_3986
  let v3703 : BitVec 32 := Scalar.addi c0_i32_3987 v3702
  v3703.toNat
def k0_off55 (d0 : Dev nD) (c0_i32_3637 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3503 : BitVec 32 := Scalar.subi v5 c0_i32_3637
  let c8_i32_3638 : BitVec 32 := 8#32
  let v3504 : BitVec 32 := Scalar.addi v3503 c8_i32_3638
  let c8_i32_3639 : BitVec 32 := 8#32
  let v3505 : BitVec 32 := Scalar.remsi v3504 c8_i32_3639
  let v3714 : Index := Scalar.indexCast v3505
  let c384_3997 : Index := 384#32
  let c0_3998 : Index := 0#32
  ![v3714.toNat, 384, 0]
def k0_dev84 (d0 : Dev nD) : Nat :=
  let c0_i32_4038 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4037 : BitVec 32 := 1#32
  let v3732 : BitVec 32 := Scalar.muli v11 c1_i32_4037
  let v3733 : BitVec 32 := Scalar.addi c0_i32_4038 v3732
  v3733.toNat
def k0_off56 (d0 : Dev nD) (c0_i32_3640 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let v3506 : BitVec 32 := Scalar.addi v5 c0_i32_3640
  let c8_i32_3641 : BitVec 32 := 8#32
  let v3507 : BitVec 32 := Scalar.remsi v3506 c8_i32_3641
  let v3744 : Index := Scalar.indexCast v3507
  let c896_4048 : Index := 896#32
  let c0_4049 : Index := 0#32
  ![v3744.toNat, 896, 0]
def k0_dev85 (d0 : Dev nD) : Nat :=
  let c0_i32_4100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4099 : BitVec 32 := 1#32
  let v3767 : BitVec 32 := Scalar.muli v16 c1_i32_4099
  let v3768 : BitVec 32 := Scalar.addi c0_i32_4100 v3767
  v3768.toNat
def k0_dev86 (d0 : Dev nD) : Nat :=
  let c0_i32_4157 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4156 : BitVec 32 := 1#32
  let v3797 : BitVec 32 := Scalar.muli v11 c1_i32_4156
  let v3798 : BitVec 32 := Scalar.addi c0_i32_4157 v3797
  v3798.toNat
def k0_dev87 (d0 : Dev nD) : Nat :=
  let c0_i32_4214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4213 : BitVec 32 := 1#32
  let v3827 : BitVec 32 := Scalar.muli v16 c1_i32_4213
  let v3828 : BitVec 32 := Scalar.addi c0_i32_4214 v3827
  v3828.toNat
def k0_dev88 (d0 : Dev nD) : Nat :=
  let c0_i32_4271 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4270 : BitVec 32 := 1#32
  let v3857 : BitVec 32 := Scalar.muli v11 c1_i32_4270
  let v3858 : BitVec 32 := Scalar.addi c0_i32_4271 v3857
  v3858.toNat
def k0_dev89 (d0 : Dev nD) : Nat :=
  let c0_i32_4328 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4327 : BitVec 32 := 1#32
  let v3887 : BitVec 32 := Scalar.muli v16 c1_i32_4327
  let v3888 : BitVec 32 := Scalar.addi c0_i32_4328 v3887
  v3888.toNat
def k0_dev90 (d0 : Dev nD) : Nat :=
  let c0_i32_4385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4384 : BitVec 32 := 1#32
  let v3917 : BitVec 32 := Scalar.muli v11 c1_i32_4384
  let v3918 : BitVec 32 := Scalar.addi c0_i32_4385 v3917
  v3918.toNat
def k0_dev91 (d0 : Dev nD) : Nat :=
  let c0_i32_4442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4441 : BitVec 32 := 1#32
  let v3947 : BitVec 32 := Scalar.muli v16 c1_i32_4441
  let v3948 : BitVec 32 := Scalar.addi c0_i32_4442 v3947
  v3948.toNat
def k0_dev92 (d0 : Dev nD) : Nat :=
  let c0_i32_4499 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4498 : BitVec 32 := 1#32
  let v3977 : BitVec 32 := Scalar.muli v11 c1_i32_4498
  let v3978 : BitVec 32 := Scalar.addi c0_i32_4499 v3977
  v3978.toNat
def k0_dev93 (d0 : Dev nD) : Nat :=
  let c0_i32_4515 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4514 : BitVec 32 := 1#32
  let v3995 : BitVec 32 := Scalar.muli v11 c1_i32_4514
  let v3996 : BitVec 32 := Scalar.addi c0_i32_4515 v3995
  v3996.toNat
def k0_dev94 (d0 : Dev nD) : Nat :=
  let c0_i32_4520 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4519 : BitVec 32 := 1#32
  let v3999 : BitVec 32 := Scalar.muli v16 c1_i32_4519
  let v4000 : BitVec 32 := Scalar.addi c0_i32_4520 v3999
  v4000.toNat
def k0_dev95 (d0 : Dev nD) : Nat :=
  let c0_i32_4579 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4578 : BitVec 32 := 1#32
  let v4024 : BitVec 32 := Scalar.muli v16 c1_i32_4578
  let v4025 : BitVec 32 := Scalar.addi c0_i32_4579 v4024
  v4025.toNat
def k0_dev96 (d0 : Dev nD) : Nat :=
  let c0_i32_4636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4635 : BitVec 32 := 1#32
  let v4054 : BitVec 32 := Scalar.muli v11 c1_i32_4635
  let v4055 : BitVec 32 := Scalar.addi c0_i32_4636 v4054
  v4055.toNat
def k0_dev97 (d0 : Dev nD) : Nat :=
  let c0_i32_4693 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4692 : BitVec 32 := 1#32
  let v4084 : BitVec 32 := Scalar.muli v16 c1_i32_4692
  let v4085 : BitVec 32 := Scalar.addi c0_i32_4693 v4084
  v4085.toNat
def k0_dev98 (d0 : Dev nD) : Nat :=
  let c0_i32_4750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4749 : BitVec 32 := 1#32
  let v4114 : BitVec 32 := Scalar.muli v11 c1_i32_4749
  let v4115 : BitVec 32 := Scalar.addi c0_i32_4750 v4114
  v4115.toNat
def k0_dev99 (d0 : Dev nD) : Nat :=
  let c0_i32_4807 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4806 : BitVec 32 := 1#32
  let v4144 : BitVec 32 := Scalar.muli v16 c1_i32_4806
  let v4145 : BitVec 32 := Scalar.addi c0_i32_4807 v4144
  v4145.toNat
def k0_dev100 (d0 : Dev nD) : Nat :=
  let c0_i32_4864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4863 : BitVec 32 := 1#32
  let v4174 : BitVec 32 := Scalar.muli v11 c1_i32_4863
  let v4175 : BitVec 32 := Scalar.addi c0_i32_4864 v4174
  v4175.toNat
def k0_dev101 (d0 : Dev nD) : Nat :=
  let c0_i32_4921 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4920 : BitVec 32 := 1#32
  let v4204 : BitVec 32 := Scalar.muli v16 c1_i32_4920
  let v4205 : BitVec 32 := Scalar.addi c0_i32_4921 v4204
  v4205.toNat
def k0_dev102 (d0 : Dev nD) : Nat :=
  let c0_i32_4978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4977 : BitVec 32 := 1#32
  let v4234 : BitVec 32 := Scalar.muli v11 c1_i32_4977
  let v4235 : BitVec 32 := Scalar.addi c0_i32_4978 v4234
  v4235.toNat
def k0_dev103 (d0 : Dev nD) : Nat :=
  let c0_i32_4994 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_4993 : BitVec 32 := 1#32
  let v4252 : BitVec 32 := Scalar.muli v11 c1_i32_4993
  let v4253 : BitVec 32 := Scalar.addi c0_i32_4994 v4252
  v4253.toNat
def k0_dev104 (d0 : Dev nD) : Nat :=
  let c0_i32_4999 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_4998 : BitVec 32 := 1#32
  let v4256 : BitVec 32 := Scalar.muli v16 c1_i32_4998
  let v4257 : BitVec 32 := Scalar.addi c0_i32_4999 v4256
  v4257.toNat
def k0_dev105 (d0 : Dev nD) : Nat :=
  let c0_i32_5058 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5057 : BitVec 32 := 1#32
  let v4281 : BitVec 32 := Scalar.muli v16 c1_i32_5057
  let v4282 : BitVec 32 := Scalar.addi c0_i32_5058 v4281
  v4282.toNat
def k0_dev106 (d0 : Dev nD) : Nat :=
  let c0_i32_5115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5114 : BitVec 32 := 1#32
  let v4311 : BitVec 32 := Scalar.muli v11 c1_i32_5114
  let v4312 : BitVec 32 := Scalar.addi c0_i32_5115 v4311
  v4312.toNat
def k0_dev107 (d0 : Dev nD) : Nat :=
  let c0_i32_5172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5171 : BitVec 32 := 1#32
  let v4341 : BitVec 32 := Scalar.muli v16 c1_i32_5171
  let v4342 : BitVec 32 := Scalar.addi c0_i32_5172 v4341
  v4342.toNat
def k0_dev108 (d0 : Dev nD) : Nat :=
  let c0_i32_5229 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5228 : BitVec 32 := 1#32
  let v4371 : BitVec 32 := Scalar.muli v11 c1_i32_5228
  let v4372 : BitVec 32 := Scalar.addi c0_i32_5229 v4371
  v4372.toNat
def k0_dev109 (d0 : Dev nD) : Nat :=
  let c0_i32_5286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5285 : BitVec 32 := 1#32
  let v4401 : BitVec 32 := Scalar.muli v16 c1_i32_5285
  let v4402 : BitVec 32 := Scalar.addi c0_i32_5286 v4401
  v4402.toNat
def k0_dev110 (d0 : Dev nD) : Nat :=
  let c0_i32_5343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5342 : BitVec 32 := 1#32
  let v4431 : BitVec 32 := Scalar.muli v11 c1_i32_5342
  let v4432 : BitVec 32 := Scalar.addi c0_i32_5343 v4431
  v4432.toNat
def k0_dev111 (d0 : Dev nD) : Nat :=
  let c0_i32_5400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5399 : BitVec 32 := 1#32
  let v4461 : BitVec 32 := Scalar.muli v16 c1_i32_5399
  let v4462 : BitVec 32 := Scalar.addi c0_i32_5400 v4461
  v4462.toNat
def k0_dev112 (d0 : Dev nD) : Nat :=
  let c0_i32_5457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5456 : BitVec 32 := 1#32
  let v4491 : BitVec 32 := Scalar.muli v11 c1_i32_5456
  let v4492 : BitVec 32 := Scalar.addi c0_i32_5457 v4491
  v4492.toNat
def k0_dev113 (d0 : Dev nD) : Nat :=
  let c0_i32_5473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5472 : BitVec 32 := 1#32
  let v4509 : BitVec 32 := Scalar.muli v11 c1_i32_5472
  let v4510 : BitVec 32 := Scalar.addi c0_i32_5473 v4509
  v4510.toNat
def k0_dev114 (d0 : Dev nD) : Nat :=
  let c0_i32_5478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5477 : BitVec 32 := 1#32
  let v4513 : BitVec 32 := Scalar.muli v16 c1_i32_5477
  let v4514 : BitVec 32 := Scalar.addi c0_i32_5478 v4513
  v4514.toNat
def k0_dev115 (d0 : Dev nD) : Nat :=
  let c0_i32_5537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5536 : BitVec 32 := 1#32
  let v4538 : BitVec 32 := Scalar.muli v16 c1_i32_5536
  let v4539 : BitVec 32 := Scalar.addi c0_i32_5537 v4538
  v4539.toNat
def k0_dev116 (d0 : Dev nD) : Nat :=
  let c0_i32_5594 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5593 : BitVec 32 := 1#32
  let v4568 : BitVec 32 := Scalar.muli v11 c1_i32_5593
  let v4569 : BitVec 32 := Scalar.addi c0_i32_5594 v4568
  v4569.toNat
def k0_dev117 (d0 : Dev nD) : Nat :=
  let c0_i32_5651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5650 : BitVec 32 := 1#32
  let v4598 : BitVec 32 := Scalar.muli v16 c1_i32_5650
  let v4599 : BitVec 32 := Scalar.addi c0_i32_5651 v4598
  v4599.toNat
def k0_dev118 (d0 : Dev nD) : Nat :=
  let c0_i32_5708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5707 : BitVec 32 := 1#32
  let v4628 : BitVec 32 := Scalar.muli v11 c1_i32_5707
  let v4629 : BitVec 32 := Scalar.addi c0_i32_5708 v4628
  v4629.toNat
def k0_dev119 (d0 : Dev nD) : Nat :=
  let c0_i32_5765 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5764 : BitVec 32 := 1#32
  let v4658 : BitVec 32 := Scalar.muli v16 c1_i32_5764
  let v4659 : BitVec 32 := Scalar.addi c0_i32_5765 v4658
  v4659.toNat
def k0_dev120 (d0 : Dev nD) : Nat :=
  let c0_i32_5822 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5821 : BitVec 32 := 1#32
  let v4688 : BitVec 32 := Scalar.muli v11 c1_i32_5821
  let v4689 : BitVec 32 := Scalar.addi c0_i32_5822 v4688
  v4689.toNat
def k0_dev121 (d0 : Dev nD) : Nat :=
  let c0_i32_5879 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5878 : BitVec 32 := 1#32
  let v4718 : BitVec 32 := Scalar.muli v16 c1_i32_5878
  let v4719 : BitVec 32 := Scalar.addi c0_i32_5879 v4718
  v4719.toNat
def k0_dev122 (d0 : Dev nD) : Nat :=
  let c0_i32_5936 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5935 : BitVec 32 := 1#32
  let v4748 : BitVec 32 := Scalar.muli v11 c1_i32_5935
  let v4749 : BitVec 32 := Scalar.addi c0_i32_5936 v4748
  v4749.toNat
def k0_dev123 (d0 : Dev nD) : Nat :=
  let c0_i32_5952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_5951 : BitVec 32 := 1#32
  let v4766 : BitVec 32 := Scalar.muli v11 c1_i32_5951
  let v4767 : BitVec 32 := Scalar.addi c0_i32_5952 v4766
  v4767.toNat
def k0_dev124 (d0 : Dev nD) : Nat :=
  let c0_i32_5957 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_5956 : BitVec 32 := 1#32
  let v4770 : BitVec 32 := Scalar.muli v16 c1_i32_5956
  let v4771 : BitVec 32 := Scalar.addi c0_i32_5957 v4770
  v4771.toNat
def k0_dev125 (d0 : Dev nD) : Nat :=
  let c0_i32_6016 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_6015 : BitVec 32 := 1#32
  let v4795 : BitVec 32 := Scalar.muli v16 c1_i32_6015
  let v4796 : BitVec 32 := Scalar.addi c0_i32_6016 v4795
  v4796.toNat
def k0_dev126 (d0 : Dev nD) : Nat :=
  let c0_i32_6073 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_6072 : BitVec 32 := 1#32
  let v4825 : BitVec 32 := Scalar.muli v11 c1_i32_6072
  let v4826 : BitVec 32 := Scalar.addi c0_i32_6073 v4825
  v4826.toNat
def k0_dev127 (d0 : Dev nD) : Nat :=
  let c0_i32_6130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_6129 : BitVec 32 := 1#32
  let v4855 : BitVec 32 := Scalar.muli v16 c1_i32_6129
  let v4856 : BitVec 32 := Scalar.addi c0_i32_6130 v4855
  v4856.toNat
def k0_dev128 (d0 : Dev nD) : Nat :=
  let c0_i32_6187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_6186 : BitVec 32 := 1#32
  let v4885 : BitVec 32 := Scalar.muli v11 c1_i32_6186
  let v4886 : BitVec 32 := Scalar.addi c0_i32_6187 v4885
  v4886.toNat
def k0_dev129 (d0 : Dev nD) : Nat :=
  let c0_i32_6244 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_6243 : BitVec 32 := 1#32
  let v4915 : BitVec 32 := Scalar.muli v16 c1_i32_6243
  let v4916 : BitVec 32 := Scalar.addi c0_i32_6244 v4915
  v4916.toNat
def k0_dev130 (d0 : Dev nD) : Nat :=
  let c0_i32_6301 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_6300 : BitVec 32 := 1#32
  let v4945 : BitVec 32 := Scalar.muli v11 c1_i32_6300
  let v4946 : BitVec 32 := Scalar.addi c0_i32_6301 v4945
  v4946.toNat
def k0_dev131 (d0 : Dev nD) : Nat :=
  let c0_i32_6358 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_5 : BitVec 32 := 1#32
  let v12 : BitVec 32 := Scalar.addi v5 c1_i32_5
  let c8_i32_6 : BitVec 32 := 8#32
  let v13 : BitVec 32 := Scalar.remsi v12 c8_i32_6
  let c4_i32_7 : BitVec 32 := 4#32
  let v14 : BitVec 1 := Scalar.cmpi .slt v13 c4_i32_7
  let c11_i32_8 : BitVec 32 := 11#32
  let v15 : BitVec 32 := Scalar.subi c11_i32_8 v13
  let v16 : BitVec 32 := Scalar.select v14 v13 v15
  let c1_i32_6357 : BitVec 32 := 1#32
  let v4975 : BitVec 32 := Scalar.muli v16 c1_i32_6357
  let v4976 : BitVec 32 := Scalar.addi c0_i32_6358 v4975
  v4976.toNat
def k0_dev132 (d0 : Dev nD) : Nat :=
  let c0_i32_6415 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c8_i32_0 : BitVec 32 := 8#32
  let v6 : BitVec 32 := Scalar.addi v5 c8_i32_0
  let c1_i32_1 : BitVec 32 := 1#32
  let v7 : BitVec 32 := Scalar.subi v6 c1_i32_1
  let c8_i32_2 : BitVec 32 := 8#32
  let v8 : BitVec 32 := Scalar.remsi v7 c8_i32_2
  let c4_i32_3 : BitVec 32 := 4#32
  let v9 : BitVec 1 := Scalar.cmpi .slt v8 c4_i32_3
  let c11_i32_4 : BitVec 32 := 11#32
  let v10 : BitVec 32 := Scalar.subi c11_i32_4 v8
  let v11 : BitVec 32 := Scalar.select v9 v8 v10
  let c1_i32_6414 : BitVec 32 := 1#32
  let v5005 : BitVec 32 := Scalar.muli v11 c1_i32_6414
  let v5006 : BitVec 32 := Scalar.addi c0_i32_6415 v5005
  v5006.toNat
abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2x4096x8192 : Shape := ⟨3, ![2, 4096, 8192]⟩
abbrev S4x8192 : Shape := ⟨2, ![4, 8192]⟩
abbrev S8192x1024 : Shape := ⟨2, ![8192, 1024]⟩
abbrev S_ : Shape := ⟨0, ![]⟩
abbrev S2x3x8192 : Shape := ⟨3, ![2, 3, 8192]⟩
abbrev S2x4099x8192 : Shape := ⟨3, ![2, 4099, 8192]⟩
abbrev S1x8192 : Shape := ⟨2, ![1, 8192]⟩
abbrev S8192 : Shape := ⟨1, ![8192]⟩
abbrev S1x1x8192 : Shape := ⟨3, ![1, 1, 8192]⟩
abbrev S2x4096x1024 : Shape := ⟨3, ![2, 4096, 1024]⟩
abbrev S8x1024x1024 : Shape := ⟨3, ![8, 1024, 1024]⟩

abbrev nBuf : Space → Nat
  | .hbm => 45
  | .vmem => 0
  | .smem => 0
  | _ => 0

abbrev bufTy : (tb : Table) → Fin (tcTables nBuf tb) → BufTy
  | .hbm, ⟨0, _⟩ => ⟨S2x4096x8192, .f32⟩
  | .hbm, ⟨1, _⟩ => ⟨S4x8192, .f32⟩
  | .hbm, ⟨2, _⟩ => ⟨S8192x1024, .f32⟩
  | .hbm, ⟨3, _⟩ => ⟨S_, .f32⟩
  | .hbm, ⟨4, _⟩ => ⟨S2x3x8192, .f32⟩
  | .hbm, ⟨5, _⟩ => ⟨S2x4099x8192, .f32⟩
  | .hbm, ⟨6, _⟩ => ⟨S_, .f32⟩
  | .hbm, ⟨7, _⟩ => ⟨S2x4096x8192, .f32⟩
  | .hbm, ⟨8, _⟩ => ⟨S2x4096x8192, .f32⟩
  | .hbm, ⟨9, _⟩ => ⟨S1x8192, .f32⟩
  | .hbm, ⟨10, _⟩ => ⟨S8192, .f32⟩
  | .hbm, ⟨11, _⟩ => ⟨S1x1x8192, .f32⟩
  | .hbm, ⟨12, _⟩ => ⟨S2x4096x8192, .f32⟩
  | .hbm, ⟨13, _⟩ => ⟨S2x4096x8192, .f32⟩
  | .hbm, ⟨14, _⟩ => ⟨S2x4096x8192, .f32⟩
  | .hbm, ⟨15, _⟩ => ⟨S2x4096x8192, .f32⟩
  | .hbm, ⟨16, _⟩ => ⟨S1x8192, .f32⟩
  | .hbm, ⟨17, _⟩ => ⟨S8192, .f32⟩
  | .hbm, ⟨18, _⟩ => ⟨S1x1x8192, .f32⟩
  | .hbm, ⟨19, _⟩ => ⟨S2x4096x8192, .f32⟩
  | .hbm, ⟨20, _⟩ => ⟨S2x4096x8192, .f32⟩
  | .hbm, ⟨21, _⟩ => ⟨S2x4096x8192, .f32⟩
  | .hbm, ⟨22, _⟩ => ⟨S2x4096x8192, .f32⟩
  | .hbm, ⟨23, _⟩ => ⟨S1x8192, .f32⟩
  | .hbm, ⟨24, _⟩ => ⟨S8192, .f32⟩
  | .hbm, ⟨25, _⟩ => ⟨S1x1x8192, .f32⟩
  | .hbm, ⟨26, _⟩ => ⟨S2x4096x8192, .f32⟩
  | .hbm, ⟨27, _⟩ => ⟨S2x4096x8192, .f32⟩
  | .hbm, ⟨28, _⟩ => ⟨S2x4096x8192, .f32⟩
  | .hbm, ⟨29, _⟩ => ⟨S2x4096x8192, .f32⟩
  | .hbm, ⟨30, _⟩ => ⟨S1x8192, .f32⟩
  | .hbm, ⟨31, _⟩ => ⟨S8192, .f32⟩
  | .hbm, ⟨32, _⟩ => ⟨S1x1x8192, .f32⟩
  | .hbm, ⟨33, _⟩ => ⟨S2x4096x8192, .f32⟩
  | .hbm, ⟨34, _⟩ => ⟨S2x4096x8192, .f32⟩
  | .hbm, ⟨35, _⟩ => ⟨S2x4096x8192, .f32⟩
  | .hbm, ⟨36, _⟩ => ⟨S2x4096x8192, .f32⟩
  | .hbm, ⟨37, _⟩ => ⟨S2x4096x8192, .f32⟩
  | .hbm, ⟨38, _⟩ => ⟨S_, .f32⟩
  | .hbm, ⟨39, _⟩ => ⟨S2x4096x8192, .f32⟩
  | .hbm, ⟨40, _⟩ => ⟨S2x4096x8192, .f32⟩
  | .hbm, ⟨41, _⟩ => ⟨S2x4096x8192, .f32⟩
  | .hbm, ⟨42, _⟩ => ⟨S2x4096x1024, .f32⟩
  | .hbm, ⟨43, _⟩ => ⟨S8x1024x1024, .f32⟩
  | .hbm, ⟨44, _⟩ => ⟨S8x1024x1024, .bf16⟩
  | _, _ => ⟨S2x4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩

abbrev nD : Nat := 1
abbrev τ : Topo := Topo.v7x

variable {F : FTy → Type} [FloatOps F]
-- ==== Proof.Text.lean ====
/-
The kernel's body as a structured program: the ring arithmetic in closed form, the memrefs and the
semaphores by direction, lane and slot, and the loops of the kernel as recursions. Every piece is
written over what follows it, so that the printed body unfolds to it.
-/
module

public import proofs.«01_k».proof.Proof.Gen.KernelIdeal

@[expose] public section

noncomputable section

namespace Cert.K

open Cert.KernelIdeal Cert.KernelIdeal.Gen
open Idealize.ShloMosaic Idealize.SL.Sem

variable {F : FTy → Type} [FloatOps F]

/-! ## The ring -/

/-- The ring position of a device, and the device at a ring position: the same involution. -/
def pos (n : ℕ) : ℕ := if n < 4 then n else 11 - n

theorem pos_lt (n : ℕ) : pos (n % 8) < 8 := by unfold pos; have := Nat.mod_lt n (by decide : 8 > 0); split <;> omega

/-- The neighbour a device sends to in direction `d`: the next along the ring for `0`, the one before for `1`. -/
def fwd (d : Fin 2) (c : Dev nD) : Dev nD := ⟨pos ((pos c.val + if d.val = 0 then 1 else 7) % 8), pos_lt _⟩

/-- The neighbour a device receives from in direction `d`. -/
def bwd (d : Fin 2) (c : Dev nD) : Dev nD := ⟨pos ((pos c.val + if d.val = 0 then 7 else 1) % 8), pos_lt _⟩

/-- The chunk `j` places along from the device's own: what step `j - 1` of the scatter accumulates in direction `d`. -/
def chunk (d : Fin 2) (c : Dev nD) (j : ℕ) : Fin 8 :=
  ⟨(pos c.val + if d.val = 0 then 8 - j else j) % 8, Nat.mod_lt _ (by decide)⟩

/-! ## Memrefs -/

abbrev xM : Memref sig .tc .hbm S2x4096x1024 .f32 := Memref.whole main_arg0
abbrev kM : Memref sig .tc .vmem S4x1024 .f32 := Memref.whole cc0_stg0_0
abbrev wM : Memref sig .tc .vmem S1024x1024 .f32 := Memref.whole cc0_stg1_0
abbrev oM : Memref sig .tc .vmem S8x1024x1024 .bf16 := Memref.whole cc0_stg2_0
abbrev tM : Memref sig .tc .vmem S2x520x1024 .f32 := Memref.whole cc0_scratch0
abbrev rM : Memref sig .tc .vmem S2x4x2x128x1024 .bf16 := Memref.whole cc0_scratch2
abbrev gM : Memref sig .tc .vmem S2x4x3x128x1024 .bf16 := Memref.whole cc0_scratch3

/-- The 128 rows of chunk `g` of the result that lane `sub` of direction `d` carries. -/
abbrev rowOff (g : Fin 8) (d : Fin 2) (sub : Fin 4) : Fin 3 → ℕ := ![g.val, d.val * 512 + sub.val * 128, 0]
theorem rowOff_inb : ∀ (g : Fin 8) (d : Fin 2) (sub : Fin 4), ∀ a, rowOff g d sub a + S1x128x1024.size a ≤ S8x1024x1024.size a := by decide +kernel
abbrev rowRect (g : Fin 8) (d : Fin 2) (sub : Fin 4) : Rect S8x1024x1024 := Rect.unit (s := S8x1024x1024) (rowOff g d sub) S1x128x1024.size (rowOff_inb g d sub)
theorem rowRect_words : ∀ (g : Fin 8) (d : Fin 2) (sub : Fin 4), (rowRect g d sub).WholeWords (EltTy.packing .bf16) := by decide +kernel
theorem rowRect_packed : ∀ (g : Fin 8) (d : Fin 2) (sub : Fin 4), (rowRect g d sub).PackedRows (EltTy.packing .bf16) := by decide +kernel
abbrev rowM (g : Fin 8) (d : Fin 2) (sub : Fin 4) : Memref sig .tc .vmem S128x1024 .bf16 :=
  (oM.slice (rowRect g d sub) (fun _ => rfl)).squeeze S128x1024 squeezes_S1x128x1024_S128x1024
theorem rowM_words (g : Fin 8) (d : Fin 2) (sub : Fin 4) : (rowM g d sub).view.WordExact :=
  ((Memref.isWhole_whole cc0_stg2_0).wordExact_slice rfl _ (rowRect_words g d sub)).reshape _ _

/-- The half of chunk `g` of the result that direction `d` carries. -/
abbrev halfOff (g : Fin 8) (d : Fin 2) : Fin 3 → ℕ := ![g.val, d.val * 512, 0]
theorem halfOff_inb : ∀ (g : Fin 8) (d : Fin 2), ∀ a, halfOff g d a + S1x512x1024.size a ≤ S8x1024x1024.size a := by decide +kernel
abbrev halfRect (g : Fin 8) (d : Fin 2) : Rect S8x1024x1024 := Rect.unit (s := S8x1024x1024) (halfOff g d) S1x512x1024.size (halfOff_inb g d)
theorem halfRect_packed : ∀ (g : Fin 8) (d : Fin 2), (halfRect g d).PackedRows (EltTy.packing .bf16) := by decide +kernel

/-- A landing slot of the scatter. -/
abbrev rsOff (d : Fin 2) (sub : Fin 4) (b : Fin 2) : Fin 5 → ℕ := ![d.val, sub.val, b.val, 0, 0]
theorem rsOff_inb : ∀ (d : Fin 2) (sub : Fin 4) (b : Fin 2), ∀ a, rsOff d sub b a + S1x1x1x128x1024.size a ≤ S2x4x2x128x1024.size a := by decide +kernel
abbrev rsRect (d : Fin 2) (sub : Fin 4) (b : Fin 2) : Rect S2x4x2x128x1024 := Rect.unit (s := S2x4x2x128x1024) (rsOff d sub b) S1x1x1x128x1024.size (rsOff_inb d sub b)
theorem rsRect_words : ∀ (d : Fin 2) (sub : Fin 4) (b : Fin 2), (rsRect d sub b).WholeWords (EltTy.packing .bf16) := by decide +kernel
abbrev rsM (d : Fin 2) (sub : Fin 4) (b : Fin 2) : Memref sig .tc .vmem S128x1024 .bf16 :=
  (rM.slice (rsRect d sub b) (fun _ => rfl)).squeeze S128x1024 squeezes_S1x1x1x128x1024_S128x1024
theorem rsM_words (d : Fin 2) (sub : Fin 4) (b : Fin 2) : (rsM d sub b).view.WordExact :=
  ((Memref.isWhole_whole cc0_scratch2).wordExact_slice rfl _ (rsRect_words d sub b)).reshape _ _

/-- A landing slot of the gather. -/
abbrev agOff (d : Fin 2) (sub : Fin 4) (b : Fin 3) : Fin 5 → ℕ := ![d.val, sub.val, b.val, 0, 0]
theorem agOff_inb : ∀ (d : Fin 2) (sub : Fin 4) (b : Fin 3), ∀ a, agOff d sub b a + S1x1x1x128x1024.size a ≤ S2x4x3x128x1024.size a := by decide +kernel
abbrev agRect (d : Fin 2) (sub : Fin 4) (b : Fin 3) : Rect S2x4x3x128x1024 := Rect.unit (s := S2x4x3x128x1024) (agOff d sub b) S1x1x1x128x1024.size (agOff_inb d sub b)
theorem agRect_words : ∀ (d : Fin 2) (sub : Fin 4) (b : Fin 3), (agRect d sub b).WholeWords (EltTy.packing .bf16) := by decide +kernel
abbrev agM (d : Fin 2) (sub : Fin 4) (b : Fin 3) : Memref sig .tc .vmem S128x1024 .bf16 :=
  (gM.slice (agRect d sub b) (fun _ => rfl)).squeeze S128x1024 squeezes_S1x1x1x128x1024_S128x1024
theorem agM_words (d : Fin 2) (sub : Fin 4) (b : Fin 3) : (agM d sub b).view.WordExact :=
  ((Memref.isWhole_whole cc0_scratch3).wordExact_slice rfl _ (agRect_words d sub b)).reshape _ _

/-! ## The block of the input and its staging slot -/

/-- The first row, within its batch, of half `h` of chunk `g`. -/
def row0 (g : Fin 8) (h : Fin 2) : ℕ := g.val % 4 * 1024 + h.val * 512

abbrev mainOff (g : Fin 8) (h : Fin 2) : Fin 3 → ℕ := ![g.val / 4, row0 g h, 0]
theorem mainOff_inb : ∀ (g : Fin 8) (h : Fin 2), ∀ a, mainOff g h a + S1x512x1024.size a ≤ S2x4096x1024.size a := by decide +kernel
abbrev mainM (g : Fin 8) (h : Fin 2) : Memref sig .tc .hbm S512x1024 .f32 :=
  (xM.slice (Rect.unit (s := S2x4096x1024) (mainOff g h) S1x512x1024.size (mainOff_inb g h)) (fun _ => rfl)).squeeze S512x1024 squeezes_S1x512x1024_S512x1024

/-- The eight rows before them (the first eight of the batch where there are none). -/
abbrev haloOff (g : Fin 8) (h : Fin 2) : Fin 3 → ℕ := ![g.val / 4, row0 g h - 8, 0]
theorem haloOff_inb : ∀ (g : Fin 8) (h : Fin 2), ∀ a, haloOff g h a + S1x8x1024.size a ≤ S2x4096x1024.size a := by decide +kernel
abbrev haloM (g : Fin 8) (h : Fin 2) : Memref sig .tc .hbm S8x1024 .f32 :=
  (xM.slice (Rect.unit (s := S2x4096x1024) (haloOff g h) S1x8x1024.size (haloOff_inb g h)) (fun _ => rfl)).squeeze S8x1024 squeezes_S1x8x1024_S8x1024

theorem tmain_inb : ∀ h : Fin 2, ∀ a, (![h.val, 8, 0] : Fin 3 → ℕ) a + S1x512x1024.size a ≤ S2x520x1024.size a := by decide +kernel
abbrev tmainM (h : Fin 2) : Memref sig .tc .vmem S512x1024 .f32 :=
  (tM.slice (Rect.unit (s := S2x520x1024) ![h.val, 8, 0] S1x512x1024.size (tmain_inb h)) (fun _ => rfl)).squeeze S512x1024 squeezes_S1x512x1024_S512x1024
theorem thalo_inb : ∀ h : Fin 2, ∀ a, (![h.val, 0, 0] : Fin 3 → ℕ) a + S1x8x1024.size a ≤ S2x520x1024.size a := by decide +kernel
abbrev thaloRect (h : Fin 2) : Rect S2x520x1024 := Rect.unit (s := S2x520x1024) ![h.val, 0, 0] S1x8x1024.size (thalo_inb h)
abbrev thaloM (h : Fin 2) : Memref sig .tc .vmem S8x1024 .f32 :=
  (tM.slice (thaloRect h) (fun _ => rfl)).squeeze S8x1024 squeezes_S1x8x1024_S8x1024
theorem tall_inb : ∀ h : Fin 2, ∀ a, (![h.val, 0, 0] : Fin 3 → ℕ) a + S1x520x1024.size a ≤ S2x520x1024.size a := by decide +kernel
abbrev tallRect (h : Fin 2) : Rect S2x520x1024 := Rect.unit (s := S2x520x1024) ![h.val, 0, 0] S1x520x1024.size (tall_inb h)

/-! ## Semaphores -/

theorem s2_inb : ∀ h : Fin 2, ∀ a, (![h.val] : Fin 1 → ℕ) a + S1.size a ≤ S2.size a := by decide +kernel
theorem s24_inb : ∀ (d : Fin 2) (sub : Fin 4), ∀ a, (![d.val, sub.val] : Fin 2 → ℕ) a + S1x1.size a ≤ S2x4.size a := by decide +kernel
theorem s242_inb : ∀ (d : Fin 2) (sub : Fin 4) (b : Fin 2), ∀ a, (![d.val, sub.val, b.val] : Fin 3 → ℕ) a + S1x1x1.size a ≤ S2x4x2.size a := by decide +kernel
theorem s243_inb : ∀ (d : Fin 2) (sub : Fin 4) (b : Fin 3), ∀ a, (![d.val, sub.val, b.val] : Fin 3 → ℕ) a + S1x1x1.size a ≤ S2x4x3.size a := by decide +kernel
theorem s22_inb : ∀ p d : Fin 2, ∀ a, (![p.val, d.val] : Fin 2 → ℕ) a + S1x1.size a ≤ S2x2.size a := by decide +kernel

abbrev barS : Sem sig := (SemArray.scalar (sig.barrier 0 rfl) : Sems sig S_).sem
abbrev copyS (h : Fin 2) : DmaSem sig := ((cc0_scratch1.slice (Rect.unit (s := S2) ![h.val] S1.size (s2_inb h))).squeeze S_ squeezes_S1_S_).sem
abbrev rsSendS (d : Fin 2) (sub : Fin 4) : DmaSem sig := ((cc0_scratch4.slice (Rect.unit (s := S2x4) ![d.val, sub.val] S1x1.size (s24_inb d sub))).squeeze S_ squeezes_S1x1_S_).sem
abbrev agSendS (d : Fin 2) (sub : Fin 4) : DmaSem sig := ((cc0_scratch5.slice (Rect.unit (s := S2x4) ![d.val, sub.val] S1x1.size (s24_inb d sub))).squeeze S_ squeezes_S1x1_S_).sem
abbrev rsRecvS (d : Fin 2) (sub : Fin 4) (b : Fin 2) : DmaSem sig := ((cc0_scratch6.slice (Rect.unit (s := S2x4x2) ![d.val, sub.val, b.val] S1x1x1.size (s242_inb d sub b))).squeeze S_ squeezes_S1x1x1_S_).sem
abbrev agRecvS (d : Fin 2) (sub : Fin 4) (b : Fin 3) : DmaSem sig := ((cc0_scratch7.slice (Rect.unit (s := S2x4x3) ![d.val, sub.val, b.val] S1x1x1.size (s243_inb d sub b))).squeeze S_ squeezes_S1x1x1_S_).sem
abbrev crS (p d : Fin 2) : Sem sig := ((cc0_scratch8.slice (Rect.unit (s := S2x2) ![p.val, d.val] S1x1.size (s22_inb p d))).squeeze S_ squeezes_S1x1_S_).sem

/-! ## Payloads -/

/-- Tap `t` of the convolution weights, over the 512 rows. -/
def tap (o : Fin 2 → ℕ) (h : S4x1024.Slices o S1x1024) (kv : FVec F S4x1024 .f32) : FVec F S512x1024 .f32 :=
  broadcastTo S512x1024 (shapeCast S1x1024 (shapeCast S1024 (extractStridedSlice S1x1024 o kv h) shapeCasts_S1x1024_S1024) shapeCasts_S1024_S1x1024) broadcasts_S1x1024_S512x1024

/-- The convolution of the 520 staged rows. -/
def conv (kv : FVec F S4x1024 .f32) (v : FVec F S520x1024 .f32) : FVec F S512x1024 .f32 :=
  addf (addf (addf (mulf (extractStridedSlice S512x1024 ![8, 0] v slices_S520x1024_o8_0_S512x1024) (tap ![3, 0] slices_S4x1024_o3_0_S1x1024 kv))
      (mulf (extractStridedSlice S512x1024 ![7, 0] v slices_S520x1024_o7_0_S512x1024) (tap ![2, 0] slices_S4x1024_o2_0_S1x1024 kv)))
      (mulf (extractStridedSlice S512x1024 ![6, 0] v slices_S520x1024_o6_0_S512x1024) (tap ![1, 0] slices_S4x1024_o1_0_S1x1024 kv)))
      (mulf (extractStridedSlice S512x1024 ![5, 0] v slices_S520x1024_o5_0_S512x1024) (tap ![0, 0] slices_S4x1024_o0_0_S1x1024 kv))

/-- A half chunk of the device's partial product, from the staged rows. -/
def half (kv : FVec F S4x1024 .f32) (w : FVec F S1024x1024 .bf16) (v : Vec F S520x1024 .f32) : FVec F S512x1024 .bf16 :=
  truncf .bf16 (matmul dot_S512x1024_S1024x1024_S512x1024_1_0_0_1_n_n none
    (truncf .bf16 (mulf (conv kv v) (logistic (conv kv v))) bitsLt_bf16_f32) w (constant S512x1024 .f32 0x00000000#32)) bitsLt_bf16_f32

/-- The accumulated rows: the device's own and the received, added wide and rounded. -/
def acc (a b : FVec F S128x1024 .bf16) : FVec F S128x1024 .bf16 :=
  truncf .bf16 (addf (extf .f32 a bitsLt_bf16_f32) (extf .f32 b bitsLt_bf16_f32)) bitsLt_bf16_f32

/-- Eight rows of zeros. -/
def zeros8 : FVec F S8x1024 .f32 := broadcast S8x1024 (Scalar.ofBits .f32 0x00000000#32)

/-! ## The program -/

abbrev TProg (F : FTy → Type) : Type 1 := Prog (TpuEff nD τ sig (Elt F) Λ₀ .tc) PUnit

/-- Starting the two copies of half `h` of chunk `g` into staging slot `h`. -/
def startP (g : Fin 8) (h : Fin 2) (k : TProg F) : TProg F :=
  .op (.enqueueDma (mainM g h) (.here (tmainM h)) (.dma (copyS h)) ((View.wordExact_bits rfl).reshape _ _) ((View.wordExact_bits rfl).reshape _ _) ⟨Or.inl rfl, trivial⟩) fun _ =>
  .op (.enqueueDma (haloM g h) (.here (thaloM h)) (.dma (copyS h)) ((View.wordExact_bits rfl).reshape _ _) ((View.wordExact_bits rfl).reshape _ _) ⟨Or.inl rfl, trivial⟩) fun _ =>
  k

/-- Zeroing the eight rows before a batch. -/
def zeroP (g : Fin 8) (h : Fin 2) (k : TProg F) : TProg F :=
  if row0 g h = 0 then
    .op (.load tM (thaloRect h).toLoadRect (View.loadsAt_vmem h_S1x8x1024)) fun _ =>
    .op (.store tM (thaloRect h) (shapeCast S1x8x1024 zeros8 shapeCasts_S8x1024_S1x8x1024) Finset.univ (View.stores_vmem_bits_univ h_S1x8x1024 rfl) (.inl rfl)) fun _ =>
    k
  else k

/-- Waiting for the two copies, zeroing where there are no rows before, and computing the half into the result. -/
def halfP (kv : FVec F S4x1024 .f32) (w : FVec F S1024x1024 .bf16) (g : Fin 8) (h : Fin 2) (k : TProg F) : TProg F :=
  .op (.waitDma2 (copyS h) (mainM g h) (tmainM h) ((View.wordExact_bits rfl).reshape _ _) ((View.wordExact_bits rfl).reshape _ _)) fun _ =>
  .op (.waitDma2 (copyS h) (haloM g h) (thaloM h) ((View.wordExact_bits rfl).reshape _ _) ((View.wordExact_bits rfl).reshape _ _)) fun _ =>
  zeroP g h <|
  .op (.load tM (tallRect h).toLoadRect (View.loadsAt_vmem h_S1x520x1024)) fun (v : Vec F S1x520x1024 .f32) =>
  .op (.load oM (halfRect g h).toLoadRect (View.loadsAt_vmem h_S1x512x1024)) fun _ =>
  .op (.store oM (halfRect g h) (shapeCast S1x512x1024 (half kv w (shapeCast S520x1024 v shapeCasts_S1x520x1024_S520x1024)) shapeCasts_S512x1024_S1x512x1024) Finset.univ
    (View.stores_vmem h_S1x512x1024 ((Memref.isWhole_whole cc0_stg2_0).storeExact_slice rfl _ (halfRect_packed g h)) (fun _ => rfl)) (.inl rfl)) fun _ =>
  k

/-- Both halves' loads and computations for a step. -/
def pairP (kv : FVec F S4x1024 .f32) (w : FVec F S1024x1024 .bf16) (c : Dev nD) (j : ℕ) (k : TProg F) : TProg F :=
  startP (chunk 0 c j) 0 <| startP (chunk 1 c j) 1 <| halfP kv w (chunk 0 c j) 0 <| halfP kv w (chunk 1 c j) 1 k

/-- Starting a transfer of the scatter: the rows of chunk `g` into slot `b` of the neighbour. -/
def rsSendP (c : Dev nD) (d : Fin 2) (sub : Fin 4) (g : Fin 8) (b : Fin 2) (k : TProg F) : TProg F :=
  .op (.enqueueDma (rowM g d sub) (.remote (Dev.tc (fwd d c)) (rsM d sub b) (.dma (rsSendS d sub))) (.dma (rsRecvS d sub b))
    (rowM_words g d sub) (rsM_words d sub b) ⟨⟨rfl, Or.inl rfl⟩, trivial⟩) fun _ => k

/-- Starting the gather's first transfer: the rows of chunk `g` into slot 0 of the neighbour. -/
def agSend0P (c : Dev nD) (d : Fin 2) (sub : Fin 4) (k : TProg F) : TProg F :=
  .op (.enqueueDma (rowM (chunk d c 7) d sub) (.remote (Dev.tc (fwd d c)) (agM d sub 0) (.dma (agSendS d sub))) (.dma (agRecvS d sub 0))
    (rowM_words (chunk d c 7) d sub) (agM_words d sub 0) ⟨⟨rfl, Or.inl rfl⟩, trivial⟩) fun _ => k

/-- Forwarding a received slot `b` into slot `b'` of the neighbour. -/
def agSendP (c : Dev nD) (d : Fin 2) (sub : Fin 4) (b b' : Fin 3) (k : TProg F) : TProg F :=
  .op (.enqueueDma (agM d sub b) (.remote (Dev.tc (fwd d c)) (agM d sub b') (.dma (agSendS d sub))) (.dma (agRecvS d sub b'))
    (agM_words d sub b) (agM_words d sub b') ⟨⟨rfl, Or.inl rfl⟩, trivial⟩) fun _ => k

/-- A loop over a list of lanes. -/
def overP {A : Type} (f : A → TProg F → TProg F) : List A → TProg F → TProg F
  | [], k => k
  | a :: l, k => f a (overP f l k)

/-- The slot a message of the scatter lands in, and one of the gather. -/
def sl2 (s : ℕ) : Fin 2 := ⟨s % 2, Nat.mod_lt _ (by decide)⟩
def sl3 (s : ℕ) : Fin 3 := ⟨s % 3, Nat.mod_lt _ (by decide)⟩

/-- The lanes of a step, in the order the loops visit them. -/
abbrev lanes : List (Fin 2 × Fin 4) := [(0, 0), (1, 0), (0, 1), (1, 1), (0, 2), (1, 2), (0, 3), (1, 3)]
/-- The lanes of one direction. -/
abbrev subs : List (Fin 4) := [0, 1, 2, 3]
/-- The lanes of the gather's first transfers. -/
abbrev lanes' : List (Fin 2 × Fin 4) := [(0, 0), (0, 1), (0, 2), (0, 3), (1, 0), (1, 1), (1, 2), (1, 3)]

/-- One lane of step `s` of the scatter: wait for the transfer sent and the one received, accumulate, send on. -/
def rsLaneP (c : Dev nD) (s : ℕ) (l : Fin 2 × Fin 4) (k : TProg F) : TProg F :=
  .op (.waitDma2 (rsSendS l.1 l.2) (rsM l.1 l.2 (sl2 s)) (rowM (chunk l.1 c (s + 1)) l.1 l.2) (rsM_words _ _ _) (rowM_words _ _ _)) fun _ =>
  .op (.waitDma2 (rsRecvS l.1 l.2 (sl2 s)) (rowM (chunk l.1 c (s + 1)) l.1 l.2) (rsM l.1 l.2 (sl2 s)) (rowM_words _ _ _) (rsM_words _ _ _)) fun _ =>
  .op (.load oM (rowRect (chunk l.1 c (s + 1)) l.1 l.2).toLoadRect (View.loadsAt_vmem h_S1x128x1024)) fun (v : Vec F S1x128x1024 .bf16) =>
  .op (.load rM (rsRect l.1 l.2 (sl2 s)).toLoadRect (View.loadsAt_vmem h_S1x1x1x128x1024)) fun (u : Vec F S1x1x1x128x1024 .bf16) =>
  .op (.load oM (rowRect (chunk l.1 c (s + 1)) l.1 l.2).toLoadRect (View.loadsAt_vmem h_S1x128x1024)) fun _ =>
  .op (.store oM (rowRect (chunk l.1 c (s + 1)) l.1 l.2)
    (shapeCast S1x128x1024 (acc (shapeCast S128x1024 v shapeCasts_S1x128x1024_S128x1024) (shapeCast S128x1024 u shapeCasts_S1x1x1x128x1024_S128x1024)) shapeCasts_S128x1024_S1x128x1024) Finset.univ
    (View.stores_vmem h_S1x128x1024 ((Memref.isWhole_whole cc0_stg2_0).storeExact_slice rfl _ (rowRect_packed _ _ _)) (fun _ => rfl)) (.inl rfl)) fun _ =>
  if s < 6 then rsSendP c l.1 l.2 (chunk l.1 c (s + 1)) (sl2 (s + 1)) k else k

/-- One lane of step `s` of the gather: wait for the transfer sent and the one received, forward it, copy it into the result. -/
def agLaneP (c : Dev nD) (s : ℕ) (l : Fin 2 × Fin 4) (k : TProg F) : TProg F :=
  let fin : TProg F :=
    .op (.load gM (agRect l.1 l.2 (sl3 s)).toLoadRect (View.loadsAt_vmem h_S1x1x1x128x1024)) fun (u : Vec F S1x1x1x128x1024 .bf16) =>
    .op (.load oM (rowRect (chunk l.1 c s) l.1 l.2).toLoadRect (View.loadsAt_vmem h_S1x128x1024)) fun _ =>
    .op (.store oM (rowRect (chunk l.1 c s) l.1 l.2)
      (shapeCast S1x128x1024 (shapeCast S128x1024 u shapeCasts_S1x1x1x128x1024_S128x1024) shapeCasts_S128x1024_S1x128x1024) Finset.univ
      (View.stores_vmem h_S1x128x1024 ((Memref.isWhole_whole cc0_stg2_0).storeExact_slice rfl _ (rowRect_packed _ _ _)) (fun _ => rfl)) (.inl rfl)) fun _ =>
    k
  let snd : TProg F := if s < 6 then agSendP c l.1 l.2 (sl3 s) (sl3 (s + 1)) fin else fin
  if s = 0 then
    .op (.waitDma2 (agSendS l.1 l.2) (agM l.1 l.2 (sl3 s)) (rowM (chunk l.1 c 7) l.1 l.2) (agM_words _ _ _) (rowM_words _ _ _)) fun _ =>
    .op (.waitDma2 (agRecvS l.1 l.2 (sl3 s)) (rowM (chunk l.1 c 7) l.1 l.2) (agM l.1 l.2 (sl3 s)) (rowM_words _ _ _) (agM_words _ _ _)) fun _ => snd
  else
    .op (.waitDma2 (agSendS l.1 l.2) (agM l.1 l.2 (sl3 s)) (agM l.1 l.2 (sl3 (s - 1))) (agM_words _ _ _) (agM_words _ _ _)) fun _ =>
    .op (.waitDma2 (agRecvS l.1 l.2 (sl3 s)) (agM l.1 l.2 (sl3 (s - 1))) (agM l.1 l.2 (sl3 s)) (agM_words _ _ _) (agM_words _ _ _)) fun _ => snd

/-- Handing both neighbours a slot back. -/
def crSignalP (c : Dev nD) (p : Fin 2) (k : TProg F) : TProg F :=
  .op (.semSignal (Dev.tc (bwd 0 c)) (crS p 0) (1#32 : BitVec 32).toInt) fun _ =>
  .op (.semSignal (Dev.tc (bwd 1 c)) (crS p 1) (1#32 : BitVec 32).toInt) fun _ => k

/-- Waiting for a slot of both neighbours. -/
def crWaitP (p : Fin 2) (k : TProg F) : TProg F :=
  .op (.semWait (crS p 0) (1#32 : BitVec 32).toInt) fun _ =>
  .op (.semWait (crS p 1) (1#32 : BitVec 32).toInt) fun _ => k

/-- Step `s` of the scatter. -/
def rsStepP (kv : FVec F S4x1024 .f32) (w : FVec F S1024x1024 .bf16) (c : Dev nD) (s : ℕ) (k : TProg F) : TProg F :=
  let tail : TProg F := if s < 6 then pairP kv w c (s + 2) k else k
  let sig : TProg F := if s < 5 then crSignalP c 0 tail else tail
  let body : TProg F := overP (rsLaneP c s) lanes sig
  if 1 ≤ s ∧ s < 6 then crWaitP 0 body else body

/-- Step `s` of the gather. -/
def agStepP (c : Dev nD) (s : ℕ) (k : TProg F) : TProg F :=
  let sig : TProg F := if 1 ≤ s ∧ s < 5 then crSignalP c 1 k else k
  let body : TProg F := overP (agLaneP c s) lanes sig
  if 2 ≤ s ∧ s < 6 then crWaitP 1 body else body

/-- The last `n` steps of the gather. -/
def agLoopP (c : Dev nD) : ℕ → TProg F
  | 0 => .ret ⟨⟩
  | n + 1 => agStepP c (6 - n) (agLoopP c n)

/-- The last `n` steps of the scatter, then the gather. -/
def rsLoopP (kv : FVec F S4x1024 .f32) (w : FVec F S1024x1024 .bf16) (c : Dev nD) : ℕ → TProg F
  | 0 => overP (fun l => agSend0P c l.1 l.2) lanes' (agLoopP c 7)
  | n + 1 => rsStepP kv w c (6 - n) (rsLoopP kv w c n)

/-- The whole body on device `c`. -/
def prog (c : Dev nD) : TProg F :=
  .op (.semSignal (Dev.tc (bwd 0 c)) barS (1#32 : BitVec 32).toInt) fun _ =>
  .op (.semSignal (Dev.tc (bwd 1 c)) barS (1#32 : BitVec 32).toInt) fun _ =>
  .op (.semWait barS (2#32 : BitVec 32).toInt) fun _ =>
  .op (.load kM (Rect.unit (s := S4x1024) ![0, 0] S4x1024.size inb_S4x1024_S4x1024_0_0).toLoadRect (View.loadsAt_vmem h_S4x1024)) fun (kv : Vec F S4x1024 .f32) =>
  .op (.load wM (Rect.unit (s := S1024x1024) ![0, 0] S1024x1024.size inb_S1024x1024_S1024x1024_0_0).toLoadRect (View.loadsAt_vmem h_S1024x1024)) fun (wv : Vec F S1024x1024 .f32) =>
  let kv' : FVec F S4x1024 .f32 := shapeCast S4x1024 kv shapeCasts_S4x1024_S4x1024
  let w' : FVec F S1024x1024 .bf16 := truncf .bf16 (shapeCast S1024x1024 wv shapeCasts_S1024x1024_S1024x1024) bitsLt_bf16_f32
  startP (chunk 0 c 0) 0 <| startP (chunk 1 c 0) 1 <|
  halfP kv' w' (chunk 0 c 0) 0 <| overP (fun sub => rsSendP c 0 sub (chunk 0 c 0) 0) subs <|
  halfP kv' w' (chunk 1 c 0) 1 <| overP (fun sub => rsSendP c 1 sub (chunk 1 c 0) 0) subs <|
  pairP kv' w' c 1 <| rsLoopP kv' w' c 7

end Cert.K

end
-- ==== Proof.Proto.lean ====
/-
The protocol of the ring: the semaphore cells and their duties, the payments each device makes and
the credits it holds as lists of events, the levels that order the waits, and what each duty hands over.
-/
module

public import proofs.«01_k».proof.Proof.Text
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.TalkSites
public import Idealize.ShloMosaic.Lib.Tactic
public import Mathlib.Tactic.DeriveFintype

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (Dat Cfg Window BodyObligation cellOf)

variable {F : FTy → Type} [FloatOps F]

/-! ## The ring -/

theorem bwd_fwd : ∀ (d : Fin 2) (c : Dev nD), bwd d (fwd d c) = c := by decide +kernel
theorem fwd_bwd : ∀ (d : Fin 2) (c : Dev nD), fwd d (bwd d c) = c := by decide +kernel
theorem chunk_bwd : ∀ (d : Fin 2) (c : Dev nD), ∀ j < 7, chunk d (bwd d c) j = chunk d c (j + 1) := by decide +kernel
theorem chunk_bwd7 : ∀ (d : Fin 2) (c : Dev nD), chunk d (bwd d c) 7 = chunk d c 0 := by decide +kernel

/-- The devices shifted along direction `d`. -/
def ring (d : Fin 2) : Dev nD ≃ Dev nD := ⟨fwd d, bwd d, bwd_fwd d, fwd_bwd d⟩

/-! ## The resource algebra -/

abbrev UB : Type := URounds (GSem nD τ sig) ℕ
/-- The handed slots' own ledger: per device, phase and direction. -/
abbrev UX : Type := URounds (Dev nD × Fin 2 × Fin 2) ℕ
abbrev UU : Type := UR sig nD τ × (UB × (UX × Counters))

local notation "𝕄" => MT nD τ sig ℕ (Elt F) ℕ UU ℕ

abbrev EP : Emb (UR sig nD τ) (MT nD τ sig ℕ (Elt F) ℕ UU ℕ) := embL
/-- The rounds library's copy: the left half of the right factor. -/
def ER : Emb UB (MT nD τ sig ℕ (Elt F) ℕ UU ℕ) :=
  ((Emb.inl : Emb UB (UB × (UX × Counters))).trans (Emb.inr : Emb (UB × (UX × Counters)) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance

/-- The ledger's copy. -/
def EX : Emb UX (MT nD τ sig ℕ (Elt F) ℕ UU ℕ) :=
  (((Emb.inl : Emb UX (UX × Counters)).trans (Emb.inr : Emb (UX × Counters) (UB × (UX × Counters)))).trans (Emb.inr : Emb (UB × (UX × Counters)) UU)).trans
    (uEmb (nD := nD) (sig := sig) (Ix := ℕ) (Val := Elt F) (Name := ℕ) (U := UU) (Lvl := ℕ)).toEmb
instance EX_landsIn : (EX : Emb UX 𝕄).LandsIn (upEmb : UEmb _ 𝕄) := by unfold EX; infer_instance

instance bigSepL_storable {I : Type} (l : List I) (Φ : I → sProp 𝕄) [h : ∀ i, BI.Storable (upEmb : UEmb _ 𝕄) (Φ i)] :
    BI.Storable (upEmb : UEmb _ 𝕄) (bigSepL l Φ) := by
  induction l with
  | nil => show BI.Storable upEmb (iprop(emp) : sProp 𝕄); infer_instance
  | cons i l ih => rw [bigSepL_cons]; show BI.Storable upEmb iprop(Φ i ∗ bigSepL l Φ); infer_instance

/-! ## Cells -/

/-- The semaphores of the protocol. -/
inductive K : Type
  | bar
  | rsV (d : Fin 2) (sub : Fin 4) (b : Fin 2)
  | agV (d : Fin 2) (sub : Fin 4) (b : Fin 3)
  | cr (p d : Fin 2)
  | rsS (d : Fin 2) (sub : Fin 4)
  | agS (d : Fin 2) (sub : Fin 4)
  deriving DecidableEq, Fintype

/-- Where each lies. -/
def sem : K → SemLoc sig
  | .bar => .reg barS
  | .rsV d sub b => .dma (rsRecvS d sub b)
  | .agV d sub b => .dma (agRecvS d sub b)
  | .cr p d => .reg (crS p d)
  | .rsS d sub => .dma (rsSendS d sub)
  | .agS d sub => .dma (agSendS d sub)

theorem sem_injective : Function.Injective sem := by
  have h : ∀ a b : K, sem a = sem b → a = b := by decide +kernel
  exact fun a b => h a b

/-- A device's cell. -/
abbrev cell (c : Dev nD) (k : K) : GSem nD τ sig := ((c : Thread nD τ), sem k)

open Classical in
/-- Which of the protocol's semaphores a location is. -/
def kindOf (s : SemLoc sig) : Option K := if h : ∃ k, sem k = s then some h.choose else none

theorem kindOf_sem (k : K) : kindOf (sem k) = some k := by
  unfold kindOf
  have h : ∃ k', sem k' = sem k := ⟨k, rfl⟩
  rw [dif_pos h]
  exact congrArg some (sem_injective h.choose_spec)

/-- The credit of a transfer of 128 rows. -/
def N : ℕ := (rsM 0 0 0).view.dmaCredit
theorem N_pos : 0 < N := View.dmaCredit_pos _ (by decide)
theorem N_rs (d : Fin 2) (sub : Fin 4) (b : Fin 2) : (rsM d sub b).view.dmaCredit = N := rfl
theorem N_ag (d : Fin 2) (sub : Fin 4) (b : Fin 3) : (agM d sub b).view.dmaCredit = N := rfl
theorem N_row (g : Fin 8) (d : Fin 2) (sub : Fin 4) : (rowM g d sub).view.dmaCredit = N := rfl

/-! ## Events: what a device pays its neighbours, in program order -/

/-- A payment: a unit of the entry barrier, a message of the scatter or of the gather, a slot handed back. -/
inductive Ev : Type
  | bar (d : Fin 2)
  | rs (s : ℕ) (d : Fin 2) (sub : Fin 4)
  | ag (s : ℕ) (d : Fin 2) (sub : Fin 4)
  | cr (p : Fin 2) (k : ℕ) (d : Fin 2)
  deriving DecidableEq

/-- The semaphore paid, -/
def Ev.kind : Ev → K
  | .bar _ => .bar
  | .rs s d sub => .rsV d sub (sl2 s)
  | .ag s d sub => .agV d sub (sl3 s)
  | .cr p _ d => .cr p d
/-- its round, -/
def Ev.round : Ev → ℕ
  | .bar _ => 0
  | .rs s _ _ => s / 2
  | .ag s _ _ => s / 3
  | .cr _ _ _ => 0
/-- the duty, -/
def Ev.duty : Ev → ℕ
  | .bar d => d.val
  | .rs _ _ _ => 0
  | .ag _ _ _ => 0
  | .cr _ k _ => k
/-- the level, -/
def Ev.lvl : Ev → ℕ
  | .bar _ => 1
  | .rs s _ _ => 2 * s + 2
  | .ag s _ _ => 2 * s + 20
  | .cr p k _ => if p = 0 then 2 * k + 5 else 2 * k + 25
/-- the amount, -/
def Ev.amt : Ev → ℕ
  | .bar _ => 1
  | .rs _ _ _ => N
  | .ag _ _ _ => N
  | .cr _ _ _ => 1
/-- the direction, and whether it goes along it. -/
def Ev.dst (c : Dev nD) : Ev → Dev nD
  | .bar d => bwd d c
  | .rs _ d _ => fwd d c
  | .ag _ d _ => fwd d c
  | .cr _ _ d => bwd d c

theorem lvl_pos (e : Ev) : 0 < e.lvl := by cases e <;> simp only [Ev.lvl] <;> (try split) <;> omega

/-- The payment of an event by device `c`. -/
def pay (c : Dev nD) (e : Ev) : Pay nD τ sig := (cell (e.dst c) e.kind, e.lvl, e.amt)

/-- What step `s` of the scatter pays, what its last `n` steps and the gather pay. -/
def rsStepEv (s : ℕ) : List Ev :=
  (if s < 6 then lanes.map (fun l => .rs (s + 1) l.1 l.2) else []) ++ (if s < 5 then [.cr 0 s 0, .cr 0 s 1] else [])
def agStepEv (s : ℕ) : List Ev :=
  (if s < 6 then lanes.map (fun l => .ag (s + 1) l.1 l.2) else []) ++ (if 1 ≤ s ∧ s < 5 then [.cr 1 (s - 1) 0, .cr 1 (s - 1) 1] else [])
def agEv : ℕ → List Ev
  | 0 => []
  | n + 1 => agStepEv (6 - n) ++ agEv n
def rsEv : ℕ → List Ev
  | 0 => lanes'.map (fun l => .ag 0 l.1 l.2) ++ agEv 7
  | n + 1 => rsStepEv (6 - n) ++ rsEv n
/-- All a device pays. -/
def evs : List Ev := .bar 0 :: .bar 1 :: (subs.map (.rs 0 0 ·) ++ (subs.map (.rs 0 1 ·) ++ rsEv 7))

/-- What a device waits for, in program order. -/
def rsStepW (s : ℕ) : List Ev := (if 1 ≤ s ∧ s < 6 then [.cr 0 (s - 1) 0, .cr 0 (s - 1) 1] else []) ++ lanes.map (fun l => .rs s l.1 l.2)
def agStepW (s : ℕ) : List Ev := (if 2 ≤ s ∧ s < 6 then [.cr 1 (s - 2) 0, .cr 1 (s - 2) 1] else []) ++ lanes.map (fun l => .ag s l.1 l.2)
def agW : ℕ → List Ev
  | 0 => []
  | n + 1 => agStepW (6 - n) ++ agW n
def rsW : ℕ → List Ev
  | 0 => agW 7
  | n + 1 => rsStepW (6 - n) ++ rsW n
def wevs : List Ev := .bar 0 :: .bar 1 :: rsW 7

theorem evs_perm : evs.Perm wevs := by decide +kernel
theorem evs_nodup : evs.Nodup := by decide +kernel

/-- All of a list of payments lies above a level. -/
def Hi (i : ℕ) (l : List Ev) : Prop := ∀ e ∈ l, i < e.lvl ∧ e.lvl < 40
theorem Hi.append {i : ℕ} {l l' : List Ev} (h : Hi i l) (h' : Hi i l') : Hi i (l ++ l') := fun e he => (List.mem_append.mp he).elim (h e) (h' e)
theorem Hi.left {i : ℕ} {l l' : List Ev} (h : Hi i (l ++ l')) : Hi i l := fun e he => h e (List.mem_append_left _ he)
theorem Hi.right {i : ℕ} {l l' : List Ev} (h : Hi i (l ++ l')) : Hi i l' := fun e he => h e (List.mem_append_right _ he)
theorem Hi.tail {i : ℕ} {a : Ev} {l : List Ev} (h : Hi i (a :: l)) : Hi i l := fun e he => h e (List.mem_cons_of_mem _ he)
theorem Hi.mono {i j : ℕ} {l : List Ev} (h : Hi i l) (hj : j ≤ i) : Hi j l := fun e he => ⟨lt_of_le_of_lt hj (h e he).1, (h e he).2⟩
instance (i : ℕ) (l : List Ev) : Decidable (Hi i l) := by unfold Hi; infer_instance

theorem hi_rs : ∀ n ≤ 7, Hi (2 * (7 - n) + 3) (rsEv n) := by decide +kernel
theorem hi_rsStep : ∀ n < 7, Hi (2 * (6 - n) + 3) (rsStepEv (6 - n)) := by decide +kernel
theorem hi_ag : ∀ n ≤ 7, Hi (2 * (7 - n) + 21) (agEv n) := by decide +kernel
theorem hi_evs : Hi 0 evs := by decide +kernel

/-! ## Contents -/

/-- The 128 rows of a half chunk that lane `sub` carries. -/
def sub4 (v : FVec F S512x1024 .bf16) (sub : Fin 4) : FVec F S128x1024 .bf16 := fun i =>
  v (fun a => match a with
    | ⟨0, _⟩ => ⟨sub.val * 128 + (i 0).val, by have := (i 0).isLt; have h : S128x1024.size 0 = 128 := rfl; have := sub.isLt; show _ < 512; omega⟩
    | ⟨1, _⟩ => i 1)

/-- Each device's partial product of each half chunk. -/
abbrev Parts (F : FTy → Type) : Type := Dev nD → Fin 8 → Fin 2 → FVec F S512x1024 .bf16

section Contents

variable (part : Parts F)

/-- What device `c` sends as message `s` of the scatter in a lane: its own rows of its chunk first, then what it received added to its own. -/
def scat (d : Fin 2) (sub : Fin 4) : Dev nD → ℕ → FVec F S128x1024 .bf16
  | c, 0 => sub4 (part c (chunk d c 0) d) sub
  | c, s + 1 => acc (sub4 (part c (chunk d c (s + 1)) d) sub) (scat d sub (bwd d c) s)

/-- What device `c` sends as message `s` of the gather. -/
def gath (d : Fin 2) (sub : Fin 4) : Dev nD → ℕ → FVec F S128x1024 .bf16
  | c, 0 => scat part d sub c 7
  | c, s + 1 => gath d sub (bwd d c) s

/-- The own rows of a device. -/
abbrev own4 (c : Dev nD) (d : Fin 2) (sub : Fin 4) (j : ℕ) : FVec F S128x1024 .bf16 := sub4 (part c (chunk d c j) d) sub

/-! ## What the duties hand over -/

/-- A memref of device `c` owned with contents. -/
abbrev has (c : Dev nD) {sh : Shape} {e : EltTy} {sp : Space} (M : Memref sig .tc sp sh e) (X : sh.Idx → Elt F e) : sProp 𝕄 :=
  owns (c : Thread nD τ) M fullShare X
/-- A memref of device `c` owned with some contents. -/
abbrev hasAny (c : Dev nD) {sh : Shape} {e : EltTy} {sp : Space} (M : Memref sig .tc sp sh e) : sProp 𝕄 :=
  iprop(∃ X, owns (c : Thread nD τ) M fullShare X)

/-- What device `c` needs for message `s` of the scatter, of the gather: the neighbour's slot, and that its cell is at the message's round. -/
def permR (c : Dev nD) (d : Fin 2) (s : ℕ) (sub : Fin 4) : sProp 𝕄 :=
  iprop(hasAny (fwd d c) (rsM d sub (sl2 s)) ∗ reached ER (cell (fwd d c) (.rsV d sub (sl2 s))) (s / 2))
def permA (c : Dev nD) (d : Fin 2) (s : ℕ) (sub : Fin 4) : sProp 𝕄 :=
  iprop(hasAny (fwd d c) (agM d sub (sl3 s)) ∗ reached ER (cell (fwd d c) (.agV d sub (sl3 s))) (s / 3))

/-- What the entry barrier hands over: the neighbour's slots. -/
def barLane (c : Dev nD) (d : Fin 2) (sub : Fin 4) : sProp 𝕄 :=
  iprop((permR c d 0 sub ∗ permR c d 1 sub) ∗ permA c d 0 sub ∗ permA c d 1 sub ∗ permA c d 2 sub)

/-- What slot handing `k` frees: the slots for message `k + 2` of the scatter, `k + 3` of the gather. -/
def freed (c : Dev nD) (p d : Fin 2) (k : ℕ) : sProp 𝕄 :=
  bigSepL subs (fun sub => if p = 0 then permR c d (k + 2) sub else permA c d (k + 3) sub)

/-- The right to take what slot handing `k` freed, once. -/
def takeTok (c : Dev nD) (p d : Fin 2) (k : ℕ) : sProp 𝕄 := dutyTok EX (c, p, d) k 0

/-- What the first `R` slot handings freed, each until the right to it is spent. -/
def stack (c : Dev nD) (p d : Fin 2) : ℕ → sProp 𝕄
  | 0 => iprop(emp)
  | R + 1 => iprop((freed c p d R ∨ takeTok c p d R) ∗ stack c p d R)

/-- The ledger of the slots handed to device `c`. -/
def ledger (c : Dev nD) (p d : Fin 2) : sProp 𝕄 := iprop(∃ R, roundAuth EX (c, p, d) R ∅ 0 ∗ stack c p d R)

/-- The first `k` slot handings to device `c` have happened. -/
def laid (c : Dev nD) (p d : Fin 2) (k : ℕ) : sProp 𝕄 := reached EX (c, p, d) k

/-- What the duties of a cell hand its owner. -/
def payK (c : Dev nD) (r u : ℕ) : K → sProp 𝕄
  | .bar => bigSepL subs (barLane c (if u = 0 then 0 else 1))
  | .rsV d sub b => has c (rsM d sub b) (scat part d sub (bwd d c) (2 * r + b.val))
  | .agV d sub b => has c (agM d sub b) (gath part d sub (bwd d c) (3 * r + b.val))
  | .cr p d => laid c p d (u + 1)
  | .rsS d sub => has c (rowM (chunk d c r) d sub) (scat part d sub c r)
  | .agS d sub => if r = 0 then has c (rowM (chunk d c 7) d sub) (gath part d sub c 0)
      else owns (c : Thread nD τ) (agM d sub (sl3 (r - 1))) fullShare.left (gath part d sub c r)

/-- The duties of a cell, and their units. -/
def dutiesK (r : ℕ) : K → Finset ℕ
  | .bar => if r = 0 then {0, 1} else ∅
  | .rsV _ _ b => if 2 * r + b.val < 7 then {0} else ∅
  | .agV _ _ b => if 3 * r + b.val < 7 then {0} else ∅
  | .cr p _ => if r = 0 then Finset.range (if p = 0 then 5 else 4) else ∅
  | .rsS _ _ => if r < 7 then {0} else ∅
  | .agS _ _ => if r < 7 then {0} else ∅
def amountK : K → ℕ
  | .bar => 1
  | .rsV _ _ _ => N
  | .agV _ _ _ => N
  | .cr _ _ => 1
  | .rsS _ _ => N
  | .agS _ _ => N
theorem amountK_pos (k : K) : 0 < amountK k := by cases k <;> first | exact Nat.one_pos | exact N_pos

/-- The schedule. -/
def Rd : Schedule (GSem nD τ sig) ℕ 𝕄 where
  duties g r := if g.1.2 = .tc then (match kindOf g.2 with | some k => dutiesK r k | none => ∅) else ∅
  amount g _ _ := match kindOf g.2 with | some k => amountK k | none => 1
  payload g r u := match kindOf g.2 with | some k => payK part g.1.1 r u k | none => iprop(emp)
  amount_pos g _ _ _ := by split <;> first | exact amountK_pos _ | exact Nat.one_pos

omit [FloatOps F] in
instance permR_storable (c : Dev nD) (d : Fin 2) (s : ℕ) (sub : Fin 4) : BI.Storable (upEmb : UEmb _ 𝕄) (permR (F := F) c d s sub) := by unfold permR; infer_instance
omit [FloatOps F] in
instance permA_storable (c : Dev nD) (d : Fin 2) (s : ℕ) (sub : Fin 4) : BI.Storable (upEmb : UEmb _ 𝕄) (permA (F := F) c d s sub) := by unfold permA; infer_instance
omit [FloatOps F] in
instance barLane_storable (c : Dev nD) (d : Fin 2) (sub : Fin 4) : BI.Storable (upEmb : UEmb _ 𝕄) (barLane (F := F) c d sub) := by unfold barLane; infer_instance
omit [FloatOps F] in
instance freed_storable (c : Dev nD) (p d : Fin 2) (k : ℕ) : BI.Storable (upEmb : UEmb _ 𝕄) (freed (F := F) c p d k) := by
  unfold freed; split <;> infer_instance
omit [FloatOps F] in
instance takeTok_storable (c : Dev nD) (p d : Fin 2) (k : ℕ) : BI.Storable (upEmb : UEmb _ 𝕄) (takeTok (F := F) c p d k) := by unfold takeTok; infer_instance
omit [FloatOps F] in
instance laid_storable (c : Dev nD) (p d : Fin 2) (k : ℕ) : BI.Storable (upEmb : UEmb _ 𝕄) (laid (F := F) c p d k) := by unfold laid; infer_instance
omit [FloatOps F] in
instance laid_persistent (c : Dev nD) (p d : Fin 2) (k : ℕ) : BI.Persistent (laid (F := F) c p d k) := by unfold laid; infer_instance
omit [FloatOps F] in
instance stack_storable (c : Dev nD) (p d : Fin 2) (R : ℕ) : BI.Storable (upEmb : UEmb _ 𝕄) (stack (F := F) c p d R) := by
  induction R with
  | zero => unfold stack; infer_instance
  | succ R ih => unfold stack; infer_instance
omit [FloatOps F] in
instance ledger_storable (c : Dev nD) (p d : Fin 2) : BI.Storable (upEmb : UEmb _ 𝕄) (ledger (F := F) c p d) := by unfold ledger; infer_instance
instance payK_storable (c : Dev nD) (r u : ℕ) (k : K) : BI.Storable (upEmb : UEmb _ 𝕄) (payK part c r u k) := by
  cases k <;> unfold payK <;> (try split) <;> infer_instance
instance Rd_storable (g : GSem nD τ sig) (r u : ℕ) : BI.Storable (upEmb : UEmb _ 𝕄) ((Rd part).payload g r u) := by
  show BI.Storable upEmb (match kindOf g.2 with | some k => payK part g.1.1 r u k | none => iprop(emp))
  split <;> infer_instance

theorem duties_cell (c : Dev nD) (k : K) (r : ℕ) : (Rd part).duties (cell c k) r = dutiesK r k := by
  dsimp only [Rd, cell]; rw [if_pos rfl, kindOf_sem]
theorem amount_cell (c : Dev nD) (k : K) (r u : ℕ) : (Rd part).amount (cell c k) r u = amountK k := by
  dsimp only [Rd, cell]; rw [kindOf_sem]
theorem payload_cell (c : Dev nD) (k : K) (r u : ℕ) : (Rd part).payload (cell c k) r u = payK part c r u k := by
  dsimp only [Rd, cell]; rw [kindOf_sem]
theorem not_unitless (g : GSem nD τ sig) : ¬(Rd part).unitless g := fun h => h

end Contents

end Cert.K

end
-- ==== Proof.Views.lean ====
/-
Loads, stores and sets of the pieces the kernel moves: a row block, a half chunk as four row blocks,
a staging slot as its halo and its main rows.
-/
module

public import proofs.«01_k».proof.Proof.Proto
public import Idealize.ShloMosaic.Lib.Ring.FamCut
public import Idealize.ShloMosaic.Lib.Pipeline.BigSepL
public import Idealize.ShloMosaic.Lib.ValueLayout
public import Idealize.ShloMosaic.Lib.Pipeline.Value

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.ValueIdx

variable {F : FTy → Type} [FloatOps F]

local notation "𝕄" => MT nD τ sig ℕ (Elt F) ℕ UU ℕ

/-- No loop of the kernel needs a variant. -/
abbrev 𝒱₀ : Variants := Variants.none

/-- The weakest precondition of a program on device `c`. -/
abbrev Wp (c : Dev nD) (p : TProg F) (Q : PUnit → sProp 𝕄) : sProp 𝕄 :=
  wp frame (wpE (defs₀ (F := F)) 𝒱₀ (c : Thread nD τ) none) Set.univ p Q

/-! ## A piece: the squeeze of a slice -/

section Piece

variable {cs : CoreSpace} {sh s' : Shape} {e : EltTy} (c : Dev nD) (M : Memref sig .tc cs sh e) (r : Rect sh) (hr : ∀ a, r.stride a = 1)
  (hq : r.shape.Squeezes s')

/-- A load through a memref at a rectangle, holding the piece there: what it reads is the piece's contents, reshaped. -/
theorem wp_load_piece (hc : r.shape.ShapeCasts s') (q : PosShare TreeShare) (X : s'.Idx → Elt F e) {hl : M.view.LoadsAt r.toLoadRect}
    {k : (r.shape.Idx → Elt F e) → TProg F} {Q : PUnit → sProp 𝕄} :
    owns (c : Thread nD τ) ((M.slice r hr).squeeze s' hq) q X
      ⊢ iprop((∀ v, ⌜shapeCast s' v hc = X⌝ -∗ owns (c : Thread nD τ) ((M.slice r hr).squeeze s' hq) q X -∗ Wp c (k v) Q)
        -∗ Wp c (.op (.load M r.toLoadRect hl) k) Q) := by
  unfold owns
  iintro ⟨%f, %hf, H⟩ Hk
  iapply (wp_load_rect 𝒱₀ (c : Thread nD τ) none Set.univ (m := M) (r := r) (S := ((M.slice r hr).squeeze s' hq).view.set) (q := q) (f := f)
    (View.set_reshape (M.view.slice r) hq.numel_eq).ge) $$ H
  iintro H
  iapply Hk $$ %((M.access r).read (Elt F) f)
  · ipureintro
    rw [← hf]
    exact (Memref.read_squeeze_slice M r hr hq hc f).symm
  iexists f
  isplitr; · ipureintro; exact hf
  iexact H

/-- A store through a memref at a rectangle, holding the piece there: it then holds what was stored. -/
theorem wp_store_piece (hc : r.shape.ShapeCasts s') (hc' : s'.ShapeCasts r.shape) (X V : s'.Idx → Elt F e) {hx : (M.access r).Stores Finset.univ}
    {hm : (Finset.univ : Finset r.shape.Idx) = Finset.univ ∨ ∀ a, r.stride a = 1} {k : PUnit → TProg F} {Q : PUnit → sProp 𝕄} :
    owns (c : Thread nD τ) ((M.slice r hr).squeeze s' hq) fullShare X
      ⊢ iprop((owns (c : Thread nD τ) ((M.slice r hr).squeeze s' hq) fullShare V -∗ Wp c (k ⟨⟩) Q)
        -∗ Wp c (.op (.store M r (shapeCast r.shape V hc') Finset.univ hx hm) k) Q) := by
  unfold owns
  iintro ⟨%f, %hf, H⟩ Hk
  iapply (wp_store 𝒱₀ (c : Thread nD τ) none Set.univ (m := M) (r := r) (Mk := Finset.univ) (S := ((M.slice r hr).squeeze s' hq).view.set) (f := f)
    (View.set_reshape (M.view.slice r) hq.numel_eq).ge) $$ H
  iintro H
  iapply Hk
  iexists ((M.access r).write (Elt F) f (shapeCast r.shape V hc') Finset.univ)
  isplitr
  · ipureintro
    rw [Memref.read_squeeze_slice M r hr hq hc]
    show shapeCast s' ((M.access r).read (Elt F) ((M.access r).write (Elt F) f (shapeCast r.shape V hc') Finset.univ)) hc = V
    rw [View.read_write_univ]
    exact shapeCast_shapeCast V hc' hc
  iexact H

end Piece

/-- What a transfer leaves at its destination reads as what its source read. -/
theorem owns_landed (c : Dev nD) {sp : Space} {sh : Shape} {e : EltTy} (M : Memref sig .tc sp sh e) (f : Buf (Elt F) (M.view.loc (c : Thread nD τ))) (X : sh.Idx → Elt F e) :
    (M.view.loc (c : Thread nD τ) ↦[M.view.set]{fullShare} (M.view.write (Elt F) f X Finset.univ) : sProp 𝕄) ⊢ has c M X := by
  unfold has owns
  iintro H
  iexists _
  isplitr; · ipureintro; exact View.read_write_univ f X
  iexact H

/-! ## The result's rows -/

/-- The rows of a lane as a set of the result's indices. -/
theorem rowM_set (g : Fin 8) (d : Fin 2) (sub : Fin 4) : (rowM g d sub).view.set = (rowRect g d sub).set :=
  (View.set_reshape (oM.view.slice (rowRect g d sub)) squeezes_S1x128x1024_S128x1024.numel_eq).trans (View.set_slice_whole _ _)

theorem mem_row {g : Fin 8} {d : Fin 2} {sub : Fin 4} {i : S8x1024x1024.Idx} :
    i ∈ (rowRect g d sub).set ↔ (i 0).val = g.val ∧ d.val * 512 + sub.val * 128 ≤ (i 1).val ∧ (i 1).val < d.val * 512 + sub.val * 128 + 128 := by
  rw [Rect.mem_set_unit]
  constructor
  · intro h
    have h0 := h 0
    have h1 := h 1
    simp [rowOff] at h0 h1
    omega
  · rintro ⟨h0, h1, h2⟩ a
    match a with
    | ⟨0, _⟩ => show g.val ≤ (i 0).val ∧ (i 0).val < g.val + 1; omega
    | ⟨1, _⟩ => exact ⟨h1, h2⟩
    | ⟨2, _⟩ => exact ⟨Nat.zero_le _, by have := (i 2).isLt; show (i 2).val < 0 + 1024; simpa using this⟩

theorem mem_half {g : Fin 8} {d : Fin 2} {i : S8x1024x1024.Idx} :
    i ∈ (halfRect g d).set ↔ (i 0).val = g.val ∧ d.val * 512 ≤ (i 1).val ∧ (i 1).val < d.val * 512 + 512 := by
  rw [Rect.mem_set_unit]
  constructor
  · intro h
    have h0 := h 0
    have h1 := h 1
    simp [halfOff] at h0 h1
    omega
  · rintro ⟨h0, h1, h2⟩ a
    match a with
    | ⟨0, _⟩ => show g.val ≤ (i 0).val ∧ (i 0).val < g.val + 1; omega
    | ⟨1, _⟩ => exact ⟨h1, h2⟩
    | ⟨2, _⟩ => exact ⟨Nat.zero_le _, by have := (i 2).isLt; show (i 2).val < 0 + 1024; simpa using this⟩

theorem row_disjoint {g g' : Fin 8} {d d' : Fin 2} {sub sub' : Fin 4} (h : (g, d, sub) ≠ (g', d', sub')) :
    Disjoint (rowRect g d sub).set (rowRect g' d' sub').set := by
  rw [Finset.disjoint_left]
  intro i h1 h2
  rw [mem_row] at h1 h2
  refine h (Prod.ext (Fin.ext ?_) (Prod.ext (Fin.ext ?_) (Fin.ext ?_))) <;> have := sub.isLt <;> have := sub'.isLt <;> simp only <;> omega

theorem half_rows (g : Fin 8) (d : Fin 2) : (halfRect g d).set = Finset.univ.biUnion fun sub : Fin 4 => (rowRect g d sub).set := by
  ext i
  rw [mem_half, Finset.mem_biUnion]
  constructor
  · rintro ⟨h0, h1, h2⟩
    exact ⟨⟨((i 1).val - d.val * 512) / 128, by omega⟩, Finset.mem_univ _, mem_row.mpr ⟨h0, by simp only; omega, by simp only; omega⟩⟩
  · rintro ⟨sub, -, h⟩
    obtain ⟨h0, h1, h2⟩ := mem_row.mp h
    have := sub.isLt
    exact ⟨h0, by omega, by omega⟩

theorem all_rows : (Finset.univ : Finset S8x1024x1024.Idx) = Finset.univ.biUnion fun t : Fin 8 × Fin 2 × Fin 4 => (rowRect t.1 t.2.1 t.2.2).set := by
  ext i
  refine ⟨fun _ => ?_, fun _ => Finset.mem_univ _⟩
  have h0 : (i 0).val < 8 := (i 0).isLt
  have h1 : (i 1).val < 1024 := (i 1).isLt
  refine Finset.mem_biUnion.mpr ⟨(⟨(i 0).val, h0⟩, ⟨(i 1).val / 512, by omega⟩, ⟨(i 1).val % 512 / 128, by omega⟩), Finset.mem_univ _, mem_row.mpr ⟨rfl, ?_, ?_⟩⟩ <;>
    simp only <;> omega

/-- The result of device `c`. -/
abbrev oLoc (c : Dev nD) : Loc nD τ sig := (c : Thread nD τ).loc cc0_stg2_0

/-- A lane's rows owned are some contents of the result held there. -/
theorem row_any (c : Dev nD) (g : Fin 8) (d : Fin 2) (sub : Fin 4) :
    hasAny c (rowM g d sub) ⊢ (iprop(∃ f : Buf (Elt F) (oLoc c), oLoc c ↦[(rowRect g d sub).set]{fullShare} f) : sProp 𝕄) := by
  unfold hasAny owns
  iintro ⟨%X, %f, %hf, H⟩
  iexists f
  rw [← rowM_set]
  iexact H

/-- The contents of the result held on a lane's rows are the rows owned. -/
theorem row_has (c : Dev nD) (g : Fin 8) (d : Fin 2) (sub : Fin 4) (f : Buf (Elt F) (oLoc c)) :
    (oLoc c ↦[(rowRect g d sub).set]{fullShare} f : sProp 𝕄) ⊢ has c (rowM g d sub) ((rowM g d sub).view.read (Elt F) f) := by
  unfold has owns
  iintro H
  iexists f
  isplitr; · ipureintro; rfl
  rw [rowM_set]
  iexact H

theorem subs_sep (Φ : Fin 4 → sProp 𝕄) : bigSepL subs Φ = bigSep Finset.univ Φ :=
  (bigSep_univ_eq_bigSepL subs (by decide) (by decide) Φ).symm

/-- Four lanes' rows, at some contents, are the half chunk at some contents. -/
theorem rows_half (c : Dev nD) (g : Fin 8) (d : Fin 2) :
    bigSepL subs (fun sub => hasAny c (rowM g d sub)) ⊢ (iprop(∃ f : Buf (Elt F) (oLoc c), oLoc c ↦[(halfRect g d).set]{fullShare} f) : sProp 𝕄) := by
  rw [subs_sep]
  have h0 : bigSep Finset.univ (fun sub => hasAny c (rowM g d sub))
      ⊢ (bigSep Finset.univ (fun sub : Fin 4 => iprop(∃ f : Buf (Elt F) (oLoc c), oLoc c ↦[(rowRect g d sub).set]{fullShare} f)) : sProp 𝕄) :=
    bigSep_mono (s := Finset.univ) fun sub _ => row_any c g d sub
  iintro H
  ihave H := h0 $$ H
  ihave H1 := (bigSep_exists_pi Finset.univ (fun (sub : Fin 4) (f : Buf (Elt F) (oLoc c)) => (oLoc c ↦[(rowRect g d sub).set]{fullShare} f : sProp 𝕄))) $$ H
  icases H1 with ⟨%fs, H1⟩
  ihave H1 := (pointsTo_biUnion_join Finset.univ (fun sub : Fin 4 => (rowRect g d sub).set) fs (fs 0) (fun b _ b' _ h => row_disjoint (by simpa using h))) $$ H1
  icases H1 with ⟨%f, -, H1⟩
  iexists f
  rw [half_rows]
  iexact H1

/-- A half chunk held at some contents is its four lanes' rows. -/
theorem half_split (c : Dev nD) (g : Fin 8) (d : Fin 2) (f : Buf (Elt F) (oLoc c)) :
    (oLoc c ↦[(halfRect g d).set]{fullShare} f : sProp 𝕄) ⊢ bigSepL subs (fun sub => has c (rowM g d sub) ((rowM g d sub).view.read (Elt F) f)) := by
  rw [subs_sep, half_rows, pointsTo_biUnion _ _ (fun b _ b' _ h => row_disjoint (by simpa using h))]
  exact bigSep_mono (s := Finset.univ) fun sub _ => row_has c g d sub f

/-- A lane's rows of a half chunk just stored. -/
theorem read_row_half (g : Fin 8) (d : Fin 2) (sub : Fin 4) (f : (cc0_stg2_0 : Ref sig .tc).ty.Contents (Elt F)) (V : FVec F S512x1024 .bf16) :
    (rowM g d sub).view.read (Elt F) ((oM.access (halfRect g d)).write (Elt F) f (shapeCast S1x512x1024 V shapeCasts_S512x1024_S1x512x1024) Finset.univ) = sub4 V sub := by
  funext i
  obtain ⟨a, b, rfl⟩ : ∃ (a : Fin 128) (b : Fin 1024), i = ix2 a b := ⟨i 0, i 1, by funext t; match t with | ⟨0, _⟩ => rfl | ⟨1, _⟩ => rfl⟩
  rw [Memref.read_squeeze_slice oM (rowRect g d sub) (fun _ => rfl) squeezes_S1x128x1024_S128x1024 shapeCasts_S1x128x1024_S128x1024]
  refine (shapeCast_1ab_ab_apply _ _ a b).trans ?_
  have hlt : sub.val * 128 + a.val < 512 := by have := sub.isLt; have := a.isLt; omega
  have hemb : (rowRect g d sub).emb (ix3 (0 : Fin 1) a b) = (halfRect g d).emb (ix3 (0 : Fin 1) (⟨sub.val * 128 + a.val, hlt⟩ : Fin 512) b) := by
    funext t
    refine Fin.ext ?_
    match t with
    | ⟨0, _⟩ => rfl
    | ⟨1, _⟩ => show d.val * 512 + sub.val * 128 + 1 * a.val = d.val * 512 + 1 * (sub.val * 128 + a.val); omega
    | ⟨2, _⟩ => rfl
  rw [View.readAt_rect]
  show oM.view.read (Elt F) ((oM.view.slice (halfRect g d)).write (Elt F) f _ Finset.univ) ((rowRect g d sub).emb (ix3 (0 : Fin 1) a b)) = _
  rw [hemb, View.read_slice_write_emb (v := oM.view) _ _ _ (Finset.mem_univ _)]
  refine (shapeCast_ab_1ab_apply V _ (0 : Fin 1) _ b).trans ?_
  unfold sub4
  congr 1
  funext t
  match t with
  | ⟨0, _⟩ => rfl
  | ⟨1, _⟩ => rfl

/-- The load and the store of a half chunk, holding its four lanes' rows. -/
theorem wp_half (c : Dev nD) (g : Fin 8) (d : Fin 2) (V : FVec F S512x1024 .bf16) {hl : oM.view.LoadsAt (halfRect g d).toLoadRect}
    {hx : (oM.access (halfRect g d)).Stores Finset.univ} {hm : (Finset.univ : Finset (halfRect g d).shape.Idx) = Finset.univ ∨ ∀ a, (halfRect g d).stride a = 1}
    {k : PUnit → TProg F} {Q : PUnit → sProp 𝕄} :
    bigSepL subs (fun sub => hasAny c (rowM g d sub))
      ⊢ iprop((bigSepL subs (fun sub => has c (rowM g d sub) (sub4 V sub)) -∗ Wp c (k ⟨⟩) Q)
        -∗ Wp c (.op (.load oM (halfRect g d).toLoadRect hl) fun _ =>
            .op (.store oM (halfRect g d) (shapeCast S1x512x1024 V shapeCasts_S512x1024_S1x512x1024) Finset.univ hx hm) k) Q) := by
  iintro H Hk
  ihave H := (rows_half c g d) $$ H
  icases H with ⟨%f, H⟩
  iapply (wp_load_rect 𝒱₀ (c : Thread nD τ) none Set.univ (m := oM) (r := halfRect g d) (S := (halfRect g d).set) (q := fullShare) (f := f)
    (View.set_slice_whole _ _).le) $$ H
  iintro H
  iapply (wp_store 𝒱₀ (c : Thread nD τ) none Set.univ (m := oM) (r := halfRect g d) (Mk := Finset.univ) (S := (halfRect g d).set) (f := f)
    (View.set_slice_whole _ _).le) $$ H
  iintro H
  iapply Hk
  ihave H := (half_split c g d _) $$ H
  iapply (bigSepL_mono (l := subs) fun sub _ => Entails.of_eq (congrArg (has c (rowM g d sub)) (read_row_half g d sub f V))) $$ H

end Cert.K

end
-- ==== Proof.Stage.lean ====
/-
Loading half a chunk of the input into its staging slot and computing it: what the two copies of a
half leave in the slot, and the program's rule for starting them and for computing the half.
-/
module

public import proofs.«01_k».proof.Proof.Views
public import Idealize.ShloMosaic.Lib.Pipeline.SiteBlocks
public import Idealize.ShloMosaic.Lib.MixedBatch

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.ValueIdx
open Idealize.ShloMosaic.Transfers

variable {F : FTy → Type} [FloatOps F]

local notation "𝕄" => MT nD τ sig ℕ (Elt F) ℕ UU ℕ

/-! ## Levels -/

/-- The levels' facts: each cell may be waited on at every level below 40. -/
abbrev Lev : sProp 𝕄 := levAts (SiteBlocks.L 40) SiteBlocks.lv

/-- What device `c` still owes for a list of payments. -/
abbrev owed (c : Dev nD) (l : List Ev) : CellTallies nD τ sig ℕ := tallyL (l.map (pay c))

omit [FloatOps F] in
/-- A wait below everything still owed. -/
theorem mayWait (c : Dev nD) (sm : SemLoc sig) (i : ℕ) (hi : i < 40) (l : List Ev) (h : Hi i l) :
    (Lev : sProp 𝕄) ⊢ MayWait (c : Thread nD τ) sm i (owed c l) :=
  SiteBlocks.mayWait_of hi c sm _ fun g k hg => by
    obtain ⟨x, hx, rfl, rfl⟩ := TalkSites.tallyL_pos hg
    obtain ⟨e, he, rfl⟩ := List.mem_map.mp hx
    exact ⟨SiteBlocks.mem_L _ _ (h e he).2, (h e he).1⟩

/-! ## The staged rows -/

section Staged

variable (x : FVec F S2x4096x1024 .f32)

/-- A row of a batch of the input. -/
def xAt (b r : ℕ) (j : Fin 1024) : F .f32 := x (ix3 (⟨b % 2, Nat.mod_lt _ (by decide)⟩ : Fin 2) (⟨r % 4096, Nat.mod_lt _ (by decide)⟩ : Fin 4096) j)

/-- What the two copies of half `h` of chunk `g` leave in the staging slot: eight rows before, then the half's rows. -/
def stgRaw (g : Fin 8) (h : Fin 2) : FVec F S2x520x1024 .f32 := fun i =>
  if (i 1).val < 8 then xAt x (g.val / 4) (row0 g h - 8 + (i 1).val) (i 2) else xAt x (g.val / 4) (row0 g h + ((i 1).val - 8)) (i 2)

/-- What is computed from: the rows before a batch are zero. -/
def stgFin (g : Fin 8) (h : Fin 2) : FVec F S2x520x1024 .f32 := fun i =>
  if (i 1).val < 8 ∧ row0 g h = 0 then (Scalar.ofBits .f32 0x00000000#32 : F .f32) else stgRaw x g h i

/-- The same as an array of 520 rows. -/
def staged (g : Fin 8) (h : Fin 2) : FVec F S520x1024 .f32 := fun i => stgFin x g h (ix3 h (i 0 : Fin 520) (i 1 : Fin 1024))

end Staged

abbrev xLoc (c : Dev nD) : Loc nD τ sig := (c : Thread nD τ).loc main_arg0
abbrev tLoc (c : Dev nD) : Loc nD τ sig := (c : Thread nD τ).loc cc0_scratch0

theorem row0_lt : ∀ (g : Fin 8) (h : Fin 2), row0 g h + 512 ≤ 4096 ∧ g.val / 4 < 2 := by decide +kernel

/-- The slot's main rows, its halo and all of it as sets of the staging buffer's indices. -/
abbrev tmainRect (h : Fin 2) : Rect S2x520x1024 := Rect.unit (s := S2x520x1024) ![h.val, 8, 0] S1x512x1024.size (tmain_inb h)
theorem tmain_set (h : Fin 2) : (tmainM h).view.set = (tmainRect h).set :=
  (View.set_reshape (tM.view.slice (tmainRect h)) squeezes_S1x512x1024_S512x1024.numel_eq).trans (View.set_slice_whole _ _)
theorem thalo_set (h : Fin 2) : (thaloM h).view.set = (thaloRect h).set :=
  (View.set_reshape (tM.view.slice (thaloRect h)) squeezes_S1x8x1024_S8x1024.numel_eq).trans (View.set_slice_whole _ _)

theorem mem_tmain {h : Fin 2} {i : S2x520x1024.Idx} : i ∈ (tmainRect h).set ↔ (i 0).val = h.val ∧ 8 ≤ (i 1).val := by
  rw [Rect.mem_set_unit]
  have h1 : (i 1).val < 520 := (i 1).isLt
  constructor
  · intro H
    have h0 := H 0
    have h1 := H 1
    simp at h0 h1
    omega
  · rintro ⟨h0, h2⟩ a
    match a with
    | ⟨0, _⟩ => show h.val ≤ (i 0).val ∧ (i 0).val < h.val + 1; omega
    | ⟨1, _⟩ => exact ⟨h2, by show (i 1).val < 8 + 512; omega⟩
    | ⟨2, _⟩ => exact ⟨Nat.zero_le _, by have := (i 2).isLt; show (i 2).val < 0 + 1024; simpa using this⟩

theorem mem_thalo {h : Fin 2} {i : S2x520x1024.Idx} : i ∈ (thaloRect h).set ↔ (i 0).val = h.val ∧ (i 1).val < 8 := by
  rw [Rect.mem_set_unit]
  constructor
  · intro H
    have h0 := H 0
    have h1 := H 1
    simp at h0 h1
    omega
  · rintro ⟨h0, h2⟩ a
    match a with
    | ⟨0, _⟩ => show h.val ≤ (i 0).val ∧ (i 0).val < h.val + 1; omega
    | ⟨1, _⟩ => exact ⟨Nat.zero_le _, by show (i 1).val < 0 + 8; omega⟩
    | ⟨2, _⟩ => exact ⟨Nat.zero_le _, by have := (i 2).isLt; show (i 2).val < 0 + 1024; simpa using this⟩

theorem mem_tall {h : Fin 2} {i : S2x520x1024.Idx} : i ∈ (tallRect h).set ↔ (i 0).val = h.val := by
  rw [Rect.mem_set_unit]
  constructor
  · intro H
    have h0 := H 0
    simp at h0
    omega
  · rintro h0 a
    match a with
    | ⟨0, _⟩ => show h.val ≤ (i 0).val ∧ (i 0).val < h.val + 1; omega
    | ⟨1, _⟩ => exact ⟨Nat.zero_le _, by have := (i 1).isLt; show (i 1).val < 0 + 520; simpa using this⟩
    | ⟨2, _⟩ => exact ⟨Nat.zero_le _, by have := (i 2).isLt; show (i 2).val < 0 + 1024; simpa using this⟩

theorem tall_eq (h : Fin 2) : (tallRect h).set = (thaloRect h).set ∪ (tmainRect h).set := by
  ext i
  rw [Finset.mem_union, mem_tall, mem_thalo, mem_tmain]
  omega
theorem t_disjoint (h : Fin 2) : Disjoint (thaloRect h).set (tmainRect h).set := by
  rw [Finset.disjoint_left]
  intro i h1 h2
  rw [mem_thalo] at h1
  rw [mem_tmain] at h2
  omega

/-- The main copy leaves the half's rows. -/
theorem landed_main (x : FVec F S2x4096x1024 .f32) (g : Fin 8) (h : Fin 2) (f : (cc0_scratch0 : Ref sig .tc).ty.Contents (Elt F)) :
    ∀ i ∈ (tmainRect h).set, (tmainM h).view.write (Elt F) f ((mainM g h).view.read (Elt F) x) Finset.univ i = stgRaw x g h i := by
  intro i hi
  rw [← tmain_set, View.set, Finset.mem_map] at hi
  obtain ⟨j, -, rfl⟩ := hi
  obtain ⟨a, b, rfl⟩ : ∃ (a : Fin 512) (b : Fin 1024), j = ix2 a b := ⟨j 0, j 1, by funext t; match t with | ⟨0, _⟩ => rfl | ⟨1, _⟩ => rfl⟩
  rw [View.write_emb_of_mem _ _ (Finset.mem_univ _), Memref.read_squeeze_slice xM _ (fun _ => rfl) squeezes_S1x512x1024_S512x1024 shapeCasts_S1x512x1024_S512x1024]
  refine (cast_eq _ _).trans ((shapeCast_1ab_ab_apply _ _ a b).trans ?_)
  have he : (tmainM h).view.emb (ix2 a b) = (tmainRect h).emb (ix3 (0 : Fin 1) a b) :=
    congrArg (tmainRect h).emb (reshapeEquiv_ix2_1ab _ a b)
  rw [he]
  have hv : ((tmainRect h).emb (ix3 (0 : Fin 1) a b) 1).val = 8 + a.val := by show 8 + 1 * a.val = _; omega
  have hb := row0_lt g h
  have ha := a.isLt
  unfold stgRaw
  rw [if_neg (by rw [hv]; omega), hv]
  unfold xAt
  show x _ = x _
  congr 1
  funext t
  refine Fin.ext ?_
  match t with
  | ⟨0, _⟩ => show g.val / 4 + 1 * 0 = g.val / 4 % 2; omega
  | ⟨1, _⟩ => show row0 g h + 1 * a.val = (row0 g h + (8 + a.val - 8)) % 4096; omega
  | ⟨2, _⟩ => rfl

/-- The halo's copy leaves the rows before. -/
theorem landed_halo (x : FVec F S2x4096x1024 .f32) (g : Fin 8) (h : Fin 2) (f : (cc0_scratch0 : Ref sig .tc).ty.Contents (Elt F)) :
    ∀ i ∈ (thaloRect h).set, (thaloM h).view.write (Elt F) f ((haloM g h).view.read (Elt F) x) Finset.univ i = stgRaw x g h i := by
  intro i hi
  rw [← thalo_set, View.set, Finset.mem_map] at hi
  obtain ⟨j, -, rfl⟩ := hi
  obtain ⟨a, b, rfl⟩ : ∃ (a : Fin 8) (b : Fin 1024), j = ix2 a b := ⟨j 0, j 1, by funext t; match t with | ⟨0, _⟩ => rfl | ⟨1, _⟩ => rfl⟩
  rw [View.write_emb_of_mem _ _ (Finset.mem_univ _), Memref.read_squeeze_slice xM _ (fun _ => rfl) squeezes_S1x8x1024_S8x1024 shapeCasts_S1x8x1024_S8x1024]
  refine (cast_eq _ _).trans ((shapeCast_1ab_ab_apply _ _ a b).trans ?_)
  have he : (thaloM h).view.emb (ix2 a b) = (thaloRect h).emb (ix3 (0 : Fin 1) a b) :=
    congrArg (thaloRect h).emb (reshapeEquiv_ix2_1ab _ a b)
  rw [he]
  have hv : ((thaloRect h).emb (ix3 (0 : Fin 1) a b) 1).val = a.val := by show 0 + 1 * a.val = _; omega
  have hb := row0_lt g h
  have ha := a.isLt
  unfold stgRaw
  rw [if_pos (by rw [hv]; omega), hv]
  unfold xAt
  show x _ = x _
  congr 1
  funext t
  refine Fin.ext ?_
  match t with
  | ⟨0, _⟩ => show g.val / 4 + 1 * 0 = g.val / 4 % 2; omega
  | ⟨1, _⟩ => show row0 g h - 8 + 1 * a.val = (row0 g h - 8 + a.val) % 4096; omega
  | ⟨2, _⟩ => rfl

/-! ## The copies of a half -/

abbrev EC : UEmb Counters (MT nD τ sig ℕ (Elt F) ℕ UU ℕ) := countersEmb

section Copies

variable (c : Dev nD) (h : Fin 2) (q : PosShare TreeShare) (x : FVec F S2x4096x1024 .f32)

/-- The units and the deliveries of the two copies. -/
def copyA (h : Fin 2) : Fin 2 → ℕ := fun t => if t = 0 then (tmainM h).view.dmaCredit else (thaloM h).view.dmaCredit
def copyD (g : Fin 8) : Fin 2 → sProp 𝕄
  | 0 => iprop((tLoc c ↦[(tmainRect h).set]{fullShare} stgRaw x g h) ∗ (xLoc c ↦[(mainM g h).view.set]{q.left} x))
  | 1 => iprop((tLoc c ↦[(thaloRect h).set]{fullShare} stgRaw x g h) ∗ (xLoc c ↦[(haloM g h).view.set]{q.right} x))
instance copyD_storable (g : Fin 8) (t : Fin 2) : BI.Storable (upEmb : UEmb _ 𝕄) (copyD c h q x g t) := by
  match t with
  | 0 => unfold copyD; infer_instance
  | 1 => unfold copyD; infer_instance

/-- A staging slot at rest: its semaphore at zero, the slot at some contents, a share of the input. -/
def Idle : sProp 𝕄 := iprop(semVal ((c : Thread nD τ), .dma (copyS h)) 0 ∗ (∃ f : Buf (Elt F) (tLoc c), tLoc c ↦[(tallRect h).set]{fullShare} f) ∗ (xLoc c ↦{q} x))

/-- A staging slot being filled with half `h` of chunk `g`. -/
def Busy (g : Fin 8) : sProp 𝕄 :=
  iprop(MixedBatch EC (c : Thread nD τ) (.dma (copyS h)) 0 (copyA h) (copyD c h q x g) 2 0
    ∗ (xLoc c ↦[Finset.univ \ (mainM g h).view.set]{q.left} x) ∗ (xLoc c ↦[Finset.univ \ (haloM g h).view.set]{q.right} x))

theorem copyD_main (g : Fin 8) (f : Buf (Elt F) (tLoc c)) :
    iprop(((tmainM h).view.loc (c : Thread nD τ) ↦[(tmainRect h).set]{fullShare} ((tmainM h).view.write (Elt F) f ((mainM g h).view.read (Elt F) x) Finset.univ))
      ∗ ((mainM g h).view.loc (c : Thread nD τ) ↦[(mainM g h).view.set]{q.left} x)) ⊢ copyD c h q x g 0 := by
  unfold copyD
  exact sep_mono_left (Entails.of_eq (pointsTo_congr (landed_main x g h f)))
theorem copyD_halo (g : Fin 8) (f : Buf (Elt F) (tLoc c)) :
    iprop(((thaloM h).view.loc (c : Thread nD τ) ↦[(thaloRect h).set]{fullShare} ((thaloM h).view.write (Elt F) f ((haloM g h).view.read (Elt F) x) Finset.univ))
      ∗ ((haloM g h).view.loc (c : Thread nD τ) ↦[(haloM g h).view.set]{q.right} x)) ⊢ copyD c h q x g 1 := by
  unfold copyD
  exact sep_mono_left (Entails.of_eq (pointsTo_congr (landed_halo x g h f)))

theorem copyD_both (g : Fin 8) : bigSep Finset.univ (copyD c h q x g)
    ⊢ iprop(((tLoc c ↦[(tmainRect h).set]{fullShare} stgRaw x g h) ∗ (xLoc c ↦[(mainM g h).view.set]{q.left} x))
        ∗ ((tLoc c ↦[(thaloRect h).set]{fullShare} stgRaw x g h) ∗ (xLoc c ↦[(haloM g h).view.set]{q.right} x))) := by
  rw [bigSep_univ_eq_bigSepL [(0 : Fin 2), 1] (by decide) (by decide) (copyD c h q x g), bigSepL_cons_cons, bigSepL_singleton]
  unfold copyD
  exact .rfl

theorem copyA_0 (h : Fin 2) : copyA h 0 = (tmainM h).view.dmaCredit := if_pos rfl
theorem copyA_1 (h : Fin 2) : copyA h 1 = (thaloM h).view.dmaCredit := if_neg (by decide)
theorem copyA_sum (h : Fin 2) : sumTo (copyA h) 2 = (tmainM h).view.dmaCredit + (thaloM h).view.dmaCredit := by
  rw [sumTo_succ (copyA h) (by decide : 1 < 2), sumTo_succ (copyA h) (by decide : 0 < 2), sumTo_zero, Nat.zero_add]
  have h0 : copyA h ⟨0, by decide⟩ = (tmainM h).view.dmaCredit := copyA_0 h
  have h1 : copyA h ⟨1, by decide⟩ = (thaloM h).view.dmaCredit := copyA_1 h
  rw [h0, h1]
theorem copyA_pos (h : Fin 2) (t : Fin 2) : 0 < copyA h t := by
  unfold copyA
  split
  · exact View.dmaCredit_pos _ (by decide)
  · exact View.dmaCredit_pos _ (by decide)

/-- Starting the two copies of a half. -/
theorem wp_start (g : Fin 8) (k : TProg F) {Q : PUnit → sProp 𝕄} :
    Idle c h q x ⊢ iprop((Busy c h q x g -∗ Wp c k Q) -∗ Wp c (startP g h k) Q) := by
  unfold Idle startP
  iintro ⟨Hv, ⟨%f, Ht⟩, Hx⟩ Hk
  rw [tall_eq]
  ihave Ht' := (pointsTo_union (t_disjoint h)).1 $$ Ht
  icases Ht' with ⟨Hth, Htm⟩
  ihave Hx' := (pointsTo_share (PosShare.mem_left_op_right q)).1 $$ Hx
  icases Hx' with ⟨Hxl, Hxr⟩
  ihave Hxl' := (pointsTo_split_subset (Finset.subset_univ (mainM g h).view.set)).1 $$ Hxl
  icases Hxl' with ⟨Hxl, Hrl⟩
  ihave Hxr' := (pointsTo_split_subset (Finset.subset_univ (haloM g h).view.set)).1 $$ Hxr
  icases Hxr' with ⟨Hxr, Hrr⟩
  imod (mixedBatch_alloc' EC (c : Thread nD τ) 0 (copyA h) (copyD c h q x g) (E := Set.univ)) $$ Hv with HB
  iapply (wp_dmaMixedBatch EC 𝒱₀ (c : Thread nD τ) none (src := mainM g h) (via := .same) (dst := tmainM h) (sm := .dma (copyS h)) (q := q.left) (fs := x)
      (Sd := (tmainRect h).set) (fd := f) (D := copyD c h q x g) (j := 0) (u := 0) 0 (copyA h) (tmain_set h).le (by decide) ((View.amount_dma _ _).trans (copyA_0 h).symm) (Nat.zero_le _)
      (copyD_main c h q x g f)) $$ [Hxl Htm HB]
  · isplitl [Hxl]; · iexact Hxl
    isplitl [Htm]; · iexact Htm
    iexact HB
  iintro HB
  iapply (wp_dmaMixedBatch EC 𝒱₀ (c : Thread nD τ) none (src := haloM g h) (via := .same) (dst := thaloM h) (sm := .dma (copyS h)) (q := q.right) (fs := x)
      (Sd := (thaloRect h).set) (fd := f) (D := copyD c h q x g) (j := 1) (u := 0) 0 (copyA h) (thalo_set h).le (by decide) ((View.amount_dma _ _).trans (copyA_1 h).symm) (Nat.zero_le _)
      (copyD_halo c h q x g f)) $$ [Hxr Hth HB]
  · isplitl [Hxr]; · iexact Hxr
    isplitl [Hth]; · iexact Hth
    iexact HB
  iintro HB
  iapply Hk
  unfold Busy
  isplitl [HB]; · iexact HB
  isplitl [Hrl]; · iexact Hrl
  iexact Hrr

/-- The stores of zeros read as zero, and change nothing where there are rows before. -/
theorem zeroed (g : Fin 8) (f : (cc0_scratch0 : Ref sig .tc).ty.Contents (Elt F)) (h0 : row0 g h = 0) :
    ∀ i ∈ (thaloRect h).set, (tM.access (thaloRect h)).write (Elt F) f (shapeCast S1x8x1024 (zeros8 (F := F)) shapeCasts_S8x1024_S1x8x1024) Finset.univ i = stgFin x g h i := by
  intro i hi
  have hm := mem_thalo.mp hi
  obtain ⟨j, rfl⟩ := (thaloRect h).exists_idx_of_mem hi
  refine (View.write_emb_of_mem (v := tM.access (thaloRect h)) f _ (Finset.mem_univ j)).trans ((cast_eq _ _).trans ?_)
  unfold stgFin
  rw [if_pos ⟨hm.2, h0⟩]
  rfl

theorem fin_main (g : Fin 8) : ∀ i ∈ (tmainRect h).set, stgRaw x g h i = stgFin x g h i := by
  intro i hi
  have hm := mem_tmain.mp hi
  unfold stgFin
  rw [if_neg (by omega)]
theorem fin_halo (g : Fin 8) (h0 : ¬row0 g h = 0) : ∀ i ∈ (thaloRect h).set, stgRaw x g h i = stgFin x g h i := by
  intro i hi
  unfold stgFin
  rw [if_neg (fun H => h0 H.2)]

/-- Zeroing the rows before a batch, and leaving them otherwise. -/
theorem wp_zero (g : Fin 8) (k : TProg F) {Q : PUnit → sProp 𝕄} :
    (tLoc c ↦[(thaloRect h).set]{fullShare} stgRaw x g h : sProp 𝕄)
      ⊢ iprop(((tLoc c ↦[(thaloRect h).set]{fullShare} stgFin x g h) -∗ Wp c k Q) -∗ Wp c (zeroP g h k) Q) := by
  unfold zeroP
  by_cases h0 : row0 g h = 0
  · rw [if_pos h0]
    iintro H Hk
    iapply (wp_load_rect 𝒱₀ (c : Thread nD τ) none Set.univ (m := tM) (r := thaloRect h) (S := (thaloRect h).set) (q := fullShare) (f := stgRaw x g h)
      (View.set_slice_whole _ _).le) $$ H
    iintro H
    iapply (wp_store 𝒱₀ (c : Thread nD τ) none Set.univ (m := tM) (r := thaloRect h) (Mk := Finset.univ) (S := (thaloRect h).set) (f := stgRaw x g h)
      (View.set_slice_whole _ _).le) $$ H
    iintro H
    iapply Hk
    iapply (Entails.of_eq (pointsTo_congr (zeroed h x g (stgRaw x g h) h0))) $$ H
  · rw [if_neg h0]
    iintro H Hk
    iapply Hk
    iapply (Entails.of_eq (pointsTo_congr (fin_halo h x g h0))) $$ H

/-- What the load of the whole slot reads. -/
theorem read_tall (g : Fin 8) : shapeCast S520x1024 ((tM.access (tallRect h)).read (Elt F) (stgFin x g h)) shapeCasts_S1x520x1024_S520x1024 = staged x g h := by
  funext i
  obtain ⟨a, b, rfl⟩ : ∃ (a : Fin 520) (b : Fin 1024), i = ix2 a b := ⟨i 0, i 1, by funext t; match t with | ⟨0, _⟩ => rfl | ⟨1, _⟩ => rfl⟩
  refine (shapeCast_1ab_ab_apply _ _ a b).trans ?_
  show stgFin x g h ((tallRect h).emb (ix3 (0 : Fin 1) a b)) = stgFin x g h (ix3 h a b)
  congr 1
  funext t
  refine Fin.ext ?_
  match t with
  | ⟨0, _⟩ => show h.val + 1 * 0 = h.val; omega
  | ⟨1, _⟩ => show 0 + 1 * a.val = a.val; omega
  | ⟨2, _⟩ => show 0 + 1 * b.val = b.val; omega

/-- Waiting for a half's rows and computing it into the result. -/
theorem wp_comp (kv : FVec F S4x1024 .f32) (w : FVec F S1024x1024 .bf16) (g : Fin 8) (k : TProg F) (l : List Ev) (hl : Hi 0 l) (W : Waits sig ℕ) {Q : PUnit → sProp 𝕄} :
    iprop(Lev ∗ Busy c h q x g ∗ owes (c : Thread nD τ) (owed c l) W ∗ bigSepL subs (fun sub => hasAny c (rowM g h sub)))
      ⊢ iprop((iprop(Idle c h q x ∗ (∃ W', owes (c : Thread nD τ) (owed c l) W') ∗ bigSepL subs (fun sub => has c (rowM g h sub) (sub4 (half kv w (staged x g h)) sub))) -∗ Wp c k Q)
        -∗ Wp c (halfP kv w g h k) Q) := by
  unfold Busy halfP
  iintro ⟨#Hlev, ⟨HB, Hrl, Hrr⟩, HO, Hrows⟩ Hk
  iapply (wp_waitMixedBatchO EC 𝒱₀ (c : Thread nD τ) none (srcw := mainM g h) (dstw := tmainM h) 0 (A := copyA h) (J := (tmainM h).view.dmaCredit) rfl
      (D := copyD c h q x g) (j := 2) (u := 0) (by rw [copyA_sum]; omega) (O := owed c l) (W := W)) $$ [HB HO]
  · isplitl [HB]; · iexact HB
    isplitl [HO]; · iexact HO
    iapply (mayWait c _ 0 (by decide) l hl); iexact Hlev
  iintro ⟨HB, HO⟩
  iapply (wp_waitMixedBatchAllO EC 𝒱₀ (c : Thread nD τ) none (srcw := haloM g h) (dstw := thaloM h) 0 (A := copyA h) (J := (thaloM h).view.dmaCredit) rfl (copyA_pos h)
      (D := copyD c h q x g) (u := 0 + (tmainM h).view.dmaCredit) (by rw [copyA_sum]; omega) (O := owed c l)) $$ [HB HO]
  · isplitl [HB]; · iexact HB
    isplitl [HO]; · iexact HO
    iapply (mayWait c _ 0 (by decide) l hl); iexact Hlev
  iintro ⟨HD, Hv, HO⟩
  ihave HD' := (copyD_both c h q x g) $$ HD
  icases HD' with ⟨⟨Htm, Hxl⟩, ⟨Hth, Hxr⟩⟩
  iapply (wp_zero c h x g) $$ Hth
  iintro Hth
  ihave Htm' := (Entails.of_eq (pointsTo_congr (fin_main h x g))) $$ Htm
  ihave Ht := (pointsTo_union (ℓ := tLoc c) (q := fullShare) (f := stgFin x g h) (t_disjoint h)).2 $$ [Hth Htm']
  · isplitl [Hth]; · iexact Hth
    iexact Htm'
  rw [← tall_eq]
  iapply (wp_load_rect 𝒱₀ (c : Thread nD τ) none Set.univ (m := tM) (r := tallRect h) (S := (tallRect h).set) (q := fullShare) (f := stgFin x g h)
    (View.set_slice_whole _ _).le) $$ Ht
  iintro Ht
  rw [read_tall]
  iapply (wp_half c g h (half kv w (staged x g h))) $$ Hrows
  iintro Hrows
  iapply Hk
  isplitl [Hv Ht Hxl Hrl Hxr Hrr]
  · unfold Idle
    isplitl [Hv]; · iexact Hv
    isplitl [Ht]; · iexists _; iexact Ht
    iapply (pointsTo_share (PosShare.mem_left_op_right q)).2
    isplitl [Hxl Hrl]
    · iapply (pointsTo_split_subset (Finset.subset_univ (mainM g h).view.set)).2
      isplitl [Hxl]; · iexact Hxl
      iexact Hrl
    · iapply (pointsTo_split_subset (Finset.subset_univ (haloM g h).view.set)).2
      isplitl [Hxr]; · iexact Hxr
      iexact Hrr
  isplitl [HO]; · iexists _; iexact HO
  iexact Hrows

end Copies

end Cert.K

end
-- ==== Proof.Rules.lean ====
/-
The protocol's rules: the shared facts and what a device still has to pay, the rules for a transfer
sent and one waited for, for a slot handed over and one taken.
-/
module

public import proofs.«01_k».proof.Proof.Stage

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)

variable {F : FTy → Type} [FloatOps F]

local notation "𝕄" => MT nD τ sig ℕ (Elt F) ℕ UU ℕ

/-- Where the invariants live. -/
abbrev NameK : Type := Dev nD × K → ℕ
abbrev NameX : Type := Dev nD × Fin 2 × Fin 2 → ℕ

section Env

variable (part : Parts F) (κ : NameK) (κx : NameX)

/-- The facts every device shares: the cells' invariants, the ledgers, that every cell has reached round 0, the levels. -/
def Env : sProp 𝕄 :=
  iprop((∀ t : Dev nD × K, cellInv ER (Rd part) (κ t) (cell t.1 t.2)) ∗ (∀ t : Dev nD × Fin 2 × Fin 2, inv (κx t) (ledger (F := F) t.1 t.2.1 t.2.2))
    ∗ (∀ t : Dev nD × K, reached ER (cell t.1 t.2) 0) ∗ Lev)
instance Env_persistent : BI.Persistent (Env part κ κx) := by unfold Env; infer_instance

theorem Env.cell (c : Dev nD) (k : K) : Env part κ κx ⊢ cellInv ER (Rd part) (κ (c, k)) (cell c k) := by
  unfold Env
  iintro ⟨H, -, -, -⟩
  iapply H $$ %(c, k)
theorem Env.ledger (c : Dev nD) (p d : Fin 2) : Env part κ κx ⊢ inv (κx (c, p, d)) (ledger (F := F) c p d) := by
  unfold Env
  iintro ⟨-, H, -, -⟩
  iapply H $$ %(c, p, d)
theorem Env.reached (c : Dev nD) (k : K) : Env part κ κx ⊢ (Rounds.reached ER (Cert.K.cell c k) 0 : sProp 𝕄) := by
  unfold Env
  iintro ⟨-, -, H, -⟩
  iapply H $$ %(c, k)
theorem Env.lev : Env part κ κx ⊢ (Lev : sProp 𝕄) := by
  unfold Env
  iintro ⟨-, -, -, H⟩
  iexact H

end Env

/-! ## What a device still has to pay -/

/-- The right to a transfer's own completion. -/
def ownTok (c : Dev nD) : Ev → sProp 𝕄
  | .bar _ => iprop(emp)
  | .rs s d sub => dutyTok ER (cell c (.rsS d sub)) s 0
  | .ag s d sub => dutyTok ER (cell c (.agS d sub)) s 0
  | .cr _ _ _ => iprop(emp)
/-- The rights a payment spends. -/
def tok (c : Dev nD) (e : Ev) : sProp 𝕄 := iprop(dutyTok ER (cell (e.dst c) e.kind) e.round e.duty ∗ ownTok c e)

/-- Device `c` with the payments of a list to make. -/
def Duty (c : Dev nD) (l : List Ev) : sProp 𝕄 := iprop((∃ W, owes (c : Thread nD τ) (owed c l) W) ∗ bigSepL l (tok c))

/-- The right to a wait: its credit, and for a slot handed over the right to take it. -/
def wtok (c : Dev nD) : Ev → sProp 𝕄
  | .cr p k d => takeTok c p d k
  | _ => iprop(emp)
def wcr (c : Dev nD) (e : Ev) : sProp 𝕄 := iprop(cred (tallyAt (cell c e.kind) e.lvl e.amt) ∗ wtok c e)

omit [FloatOps F] in
theorem owed_cons (c : Dev nD) (e : Ev) (l : List Ev) : owed c (e :: l) = owed c l + tallyAt (cell (e.dst c) e.kind) e.lvl e.amt := by
  show tallyL (pay c e :: l.map (pay c)) = _
  rw [tallyL, add_comm]
  rfl

/-! ## Transfers -/

section Xfer

variable (part : Parts F) (κ : NameK) (κx : NameX) (c : Dev nD)

theorem expect_one (k : K) (r : ℕ) (hd : dutiesK r k = {0}) : (Rd part).expect (cell c k) r = amountK k := by
  unfold Schedule.expect Schedule.amountOf
  rw [duties_cell, hd, Finset.sum_singleton, amount_cell]

theorem payK_rsV (r : ℕ) (u : ℕ) (d : Fin 2) (sub : Fin 4) (b : Fin 2) : payK part c r u (.rsV d sub b) = has c (rsM d sub b) (scat part d sub (bwd d c) (2 * r + b)) := rfl
theorem payK_agV (r : ℕ) (u : ℕ) (d : Fin 2) (sub : Fin 4) (b : Fin 3) : payK part c r u (.agV d sub b) = has c (agM d sub b) (gath part d sub (bwd d c) (3 * r + b)) := rfl

/-- Waiting for the one transfer of a round. -/
theorem wp_wait1 (k : K) (q : DmaSem sig) (hq : sem k = .dma q) {sp sp' : Space} {s s' : Shape} {e e' : EltTy} {srcw : Memref sig .tc sp' s' e'} {dstw : Memref sig .tc sp s e}
    {h1 : srcw.view.WordExact} {h2 : dstw.view.WordExact} (hN : dstw.view.dmaCredit = N) (r : ℕ) (hd : dutiesK r k = {0}) (ha : amountK k = N)
    (i : ℕ) (hi : i < 40) (l : List Ev) (hl : Hi i l) (P : TProg F) {Q : PUnit → sProp 𝕄} :
    iprop(Env part κ κx ∗ cred (tallyAt (cell c k) i N) ∗ atPos ER (cell c k) r ∅ 0 ∗ Duty c l)
      ⊢ iprop(((payK part c r 0 k ∗ atPos ER (cell c k) (r + 1) ∅ 0 ∗ reached ER (cell c k) (r + 1) ∗ Duty c l) -∗ Wp c P Q)
        -∗ Wp c (.op (.waitDma2 q srcw dstw h1 h2) fun _ => P) Q) := by
  unfold Duty
  iintro ⟨#HE, Hc, Hat, ⟨%W, HO⟩, Ht⟩ Hk
  iapply (Rounds.wp_wait_rest_token 𝒱₀ ER (Rd part) (c : Thread nD τ) none (κ := κ (c, k)) (sm := sem k) (k' := N)
      (fun K => by rw [hq, ← hN]; exact wpE_waitDma2_eq 𝒱₀ (c : Thread nD τ) none Set.univ K) (Set.mem_univ _) i (O := owed c l) (W := W) (R := r) (m := 0) (T := ∅)
      (by rw [expect_one part c k r hd, ha, Nat.zero_add])) $$ [Hc HO Hat]
  · isplitr; · iapply (Env.cell part κ κx c k); iexact HE
    isplitl [Hc]; · iexact Hc
    isplitl [HO]; · iexact HO
    isplitr; · iapply (mayWait c _ i hi l hl); iapply (Env.lev part κ κx); iexact HE
    iexact Hat
  iintro ⟨HO, Hat, Hr, Hp⟩
  iapply Hk
  isplitl [Hp]
  · iapply (Entails.of_eq (show bigSep ((Rd part).duties (cell c k) r \ ∅) (fun u => (Rd part).payload (cell c k) r u) = payK part c r 0 k by
      rw [Finset.sdiff_empty, duties_cell, hd, bigSep_singleton, payload_cell])) $$ Hp
  isplitl [Hat]; · iexact Hat
  isplitl [Hr]; · iexact Hr
  isplitl [HO]; · iexists _; iexact HO
  iexact Ht

theorem scat_at (d : Fin 2) (sub : Fin 4) (s : ℕ) (h : s < 7) : 0 ∈ dutiesK (s / 2) (.rsV d sub (sl2 s)) ∧ 2 * (s / 2) + (sl2 s).val = s := by
  have : 2 * (s / 2) + (sl2 s).val = s := by show 2 * (s / 2) + s % 2 = s; omega
  refine ⟨?_, this⟩
  rw [show dutiesK (s / 2) (.rsV d sub (sl2 s)) = if 2 * (s / 2) + (sl2 s).val < 7 then {0} else ∅ from rfl, this, if_pos h]
  exact Finset.mem_singleton_self _
theorem gath_at (d : Fin 2) (sub : Fin 4) (s : ℕ) (h : s < 7) : 0 ∈ dutiesK (s / 3) (.agV d sub (sl3 s)) ∧ 3 * (s / 3) + (sl3 s).val = s := by
  have : 3 * (s / 3) + (sl3 s).val = s := by show 3 * (s / 3) + s % 3 = s; omega
  refine ⟨?_, this⟩
  rw [show dutiesK (s / 3) (.agV d sub (sl3 s)) = if 3 * (s / 3) + (sl3 s).val < 7 then {0} else ∅ from rfl, this, if_pos h]
  exact Finset.mem_singleton_self _

omit [FloatOps F] in
theorem owns_elim (b : Dev nD) {sp : Space} {s : Shape} {e : EltTy} (M : Memref sig .tc sp s e) (q : PosShare TreeShare) (X : s.Idx → Elt F e) :
    (owns (b : Thread nD τ) M q X : sProp 𝕄) ⊢ iprop(∃ f, ⌜M.view.read (Elt F) f = X⌝ ∗ (M.view.loc (b : Thread nD τ) ↦[M.view.set]{q} f)) := .rfl
omit [FloatOps F] in
theorem owns_intro (b : Dev nD) {sp : Space} {s : Shape} {e : EltTy} (M : Memref sig .tc sp s e) (q : PosShare TreeShare) (X : s.Idx → Elt F e) (f) (h : M.view.read (Elt F) f = X) :
    (M.view.loc (b : Thread nD τ) ↦[M.view.set]{q} f : sProp 𝕄) ⊢ owns (b : Thread nD τ) M q X := by
  unfold owns
  iintro H
  iexists f
  isplitr; · ipureintro; exact h
  iexact H

/-- Sending message `s` of the scatter. -/
theorem wp_rsSend (d : Fin 2) (sub : Fin 4) (s : ℕ) (hs : s < 7) (l : List Ev) (P : TProg F) {Q : PUnit → sProp 𝕄} :
    iprop(Env part κ κx ∗ Duty c (.rs s d sub :: l) ∗ has c (rowM (chunk d c s) d sub) (scat part d sub c s) ∗ permR c d s sub ∗ reached ER (cell c (.rsS d sub)) s)
      ⊢ iprop(((Duty c l ∗ cred (tallyAt (cell c (.rsS d sub)) 0 N)) -∗ Wp c P Q)
        -∗ Wp c (rsSendP c d sub (chunk d c s) (sl2 s) P) Q) := by
  unfold Duty permR rsSendP hasAny has
  rw [owed_cons, bigSepL_cons']
  iintro ⟨#HE, ⟨⟨%W, HO⟩, Ht, Hts⟩, Hs, ⟨⟨%X, Hd⟩, Hr2⟩, Hr1⟩ Hk
  ihave Hs' := (owns_elim c (rowM (chunk d c s) d sub) fullShare (scat part d sub c s)) $$ Hs
  icases Hs' with ⟨%fs, %hfs, Hs⟩
  ihave Hd' := (owns_elim (fwd d c) (rsM d sub (sl2 s)) fullShare X) $$ Hd
  icases Hd' with ⟨%fd, %hfd, Hd⟩
  unfold tok ownTok
  icases Ht with ⟨Ht2, Ht1⟩
  iapply (Rounds.wp_send_pointsTo 𝒱₀ ER (Rd part) (c : Thread nD τ) none (c' := Dev.tc (fwd d c)) (src := rowM (chunk d c s) d sub) (dst := rsM d sub (sl2 s))
      (sS := .dma (rsSendS d sub)) (sem := .dma (rsRecvS d sub (sl2 s))) (q := fullShare) (fs := fs) (fd := fd)
      (κ₁ := κ (c, .rsS d sub)) (κ₂ := κ (fwd d c, .rsV d sub (sl2 s))) (r₁ := s) (r₂ := s / 2) (d₁ := 0) (d₂ := 0)
      ((duties_cell part c (.rsS d sub) s).symm ▸ (by unfold dutiesK; rw [if_pos hs]; exact Finset.mem_singleton_self _))
      ((duties_cell part (fwd d c) (.rsV d sub (sl2 s)) (s / 2)).symm ▸ (scat_at d sub s hs).1)
      (2 * s + 2) 0 N (N_rs d sub (sl2 s)) (amount_cell part c (.rsS d sub) s 0) (amount_cell part (fwd d c) (.rsV d sub (sl2 s)) (s / 2) 0)
      (owed c l) rfl (W := W)
      (by
        rw [show (Rd part).payload ((c : Thread nD τ), .dma (rsSendS d sub)) s 0 = _ from payload_cell part c (.rsS d sub) s 0]
        exact owns_intro c _ fullShare _ fs hfs)
      (by
        rw [show (Rd part).payload (((fwd d c : Dev nD) : Thread nD τ), .dma (rsRecvS d sub (sl2 s))) (s / 2) 0 = _ from payload_cell part (fwd d c) (.rsV d sub (sl2 s)) (s / 2) 0, hfs]
        rw [payK_rsV, bwd_fwd, (scat_at d sub s hs).2]
        exact owns_landed (fwd d c) (rsM d sub (sl2 s)) fd _)) $$ [HO Ht1 Ht2 Hs Hd Hr1 Hr2]
  · isplitr; · iapply (Env.cell part κ κx c (.rsS d sub)); iexact HE
    isplitr; · iapply (Env.cell part κ κx (fwd d c) (.rsV d sub (sl2 s))); iexact HE
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO Hts]
  · isplitl [HO]; · iexists W; iexact HO
    iexact Hts
  iexact Hc

/-- Sending message `s` of the gather, from wherever it lies. -/
theorem wp_agSend (d : Fin 2) (sub : Fin 4) (s : ℕ) (hs : s < 7) (M : Memref sig .tc .vmem S128x1024 .bf16) {hM : M.view.WordExact} (q : PosShare TreeShare)
    (hp : owns (c : Thread nD τ) M q (gath part d sub c s) ⊢ payK part c s 0 (.agS d sub))
    (l : List Ev) (P : TProg F) {Q : PUnit → sProp 𝕄} :
    iprop(Env part κ κx ∗ Duty c (.ag s d sub :: l) ∗ owns (c : Thread nD τ) M q (gath part d sub c s) ∗ permA c d s sub ∗ reached ER (cell c (.agS d sub)) s)
      ⊢ iprop(((Duty c l ∗ cred (tallyAt (cell c (.agS d sub)) 0 N)) -∗ Wp c P Q)
        -∗ Wp c (.op (.enqueueDma M (.remote (Dev.tc (fwd d c)) (agM d sub (sl3 s)) (.dma (agSendS d sub))) (.dma (agRecvS d sub (sl3 s)))
            hM (agM_words d sub (sl3 s)) ⟨⟨rfl, Or.inl rfl⟩, trivial⟩) fun _ => P) Q) := by
  unfold Duty permA
  rw [owed_cons, bigSepL_cons']
  iintro ⟨#HE, ⟨⟨%W, HO⟩, Ht, Hts⟩, Hs, ⟨⟨%X, Hd⟩, Hr2⟩, Hr1⟩ Hk
  unfold tok ownTok
  icases Ht with ⟨Ht2, Ht1⟩
  ihave Hs' := (owns_elim c M q (gath part d sub c s)) $$ Hs
  icases Hs' with ⟨%fs, %hfs, Hs⟩
  ihave Hd' := (owns_elim (fwd d c) (agM d sub (sl3 s)) fullShare X) $$ Hd
  icases Hd' with ⟨%fd, %hfd, Hd⟩
  iapply (Rounds.wp_send_pointsTo 𝒱₀ ER (Rd part) (c : Thread nD τ) none (c' := Dev.tc (fwd d c)) (src := M) (dst := agM d sub (sl3 s))
      (sS := .dma (agSendS d sub)) (sem := .dma (agRecvS d sub (sl3 s))) (q := q) (fs := fs) (fd := fd)
      (κ₁ := κ (c, .agS d sub)) (κ₂ := κ (fwd d c, .agV d sub (sl3 s))) (r₁ := s) (r₂ := s / 3) (d₁ := 0) (d₂ := 0)
      ((duties_cell part c (.agS d sub) s).symm ▸ (by unfold dutiesK; rw [if_pos hs]; exact Finset.mem_singleton_self _))
      ((duties_cell part (fwd d c) (.agV d sub (sl3 s)) (s / 3)).symm ▸ (gath_at d sub s hs).1)
      (2 * s + 20) 0 N (N_ag d sub (sl3 s)) (amount_cell part c (.agS d sub) s 0) (amount_cell part (fwd d c) (.agV d sub (sl3 s)) (s / 3) 0)
      (owed c l) rfl (W := W)
      (by
        rw [show (Rd part).payload ((c : Thread nD τ), .dma (agSendS d sub)) s 0 = _ from payload_cell part c (.agS d sub) s 0]
        exact (owns_intro c _ q _ fs hfs).trans hp)
      (by
        rw [show (Rd part).payload (((fwd d c : Dev nD) : Thread nD τ), .dma (agRecvS d sub (sl3 s))) (s / 3) 0 = _ from payload_cell part (fwd d c) (.agV d sub (sl3 s)) (s / 3) 0, hfs]
        rw [payK_agV, bwd_fwd, (gath_at d sub s hs).2]
        exact owns_landed (fwd d c) (agM d sub (sl3 s)) fd _)) $$ [HO Ht1 Ht2 Hs Hd Hr1 Hr2]
  · isplitr; · iapply (Env.cell part κ κx c (.agS d sub)); iexact HE
    isplitr; · iapply (Env.cell part κ κx (fwd d c) (.agV d sub (sl3 s))); iexact HE
    isplitl [Hs]; · iexact Hs
    isplitl [Hd]; · iexact Hd
    isplitl [HO]; · iexact HO
    isplitl [Ht1]; · iexact Ht1
    isplitl [Hr1]; · iexact Hr1
    isplitl [Ht2]; · iexact Ht2
    iexact Hr2
  iintro ⟨Hc, HO⟩
  iapply Hk
  isplitl [HO Hts]
  · isplitl [HO]; · iexists W; iexact HO
    iexact Hts
  iexact Hc

end Xfer

end Cert.K

end
-- ==== Proof.Slots.lean ====
/-
Slots handed over: the ledger's two moves, the signal that hands a slot back, the wait that takes one, and the
entry barrier.
-/
module

public import proofs.«01_k».proof.Proof.Rules

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The ledger -/

omit [FloatOps F] in
/-- Handing `n` is among the first `R`: the right to it is exchanged for what it freed. -/
theorem stack_take (c : Dev nD) (p d : Fin 2) (n : ℕ) : ∀ R, n < R → iprop(stack (F := F) c p d R ∗ takeTok c p d n) ⊢ iprop(stack c p d R ∗ freed c p d n)
  | 0, h => absurd h (Nat.not_lt_zero _)
  | R + 1, h => by
    rw [stack]
    rcases Nat.lt_succ_iff_lt_or_eq.mp h with h | rfl
    · iintro ⟨⟨Hh, Hs⟩, Ht⟩
      ihave H := (stack_take c p d n R h) $$ [Hs Ht]
      · isplitl [Hs] <;> iassumption
      icases H with ⟨Hs, Hf⟩
      isplitr [Hf]
      · isplitl [Hh] <;> iassumption
      iexact Hf
    · iintro ⟨⟨Hh, Hs⟩, Ht⟩
      icases Hh with (Hf | Ht')
      · isplitr [Hf]
        · isplitl [Ht]
          · iright; iexact Ht
          iexact Hs
        iexact Hf
      · iexfalso
        unfold takeTok
        iapply (dutyTok_dutyTok_false (E := EX) (g := (c, p, d)) (r := n) (d := 0))
        isplitl [Ht] <;> iassumption

omit [FloatOps F] in
/-- Entering a slot handing in the ledger. -/
theorem deposit (c : Dev nD) (p d : Fin 2) (k : ℕ) (ι : ℕ) :
    iprop(inv ι (ledger (F := F) c p d) ∗ atPos EX (c, p, d) k ∅ 0 ∗ freed c p d k) ⊢ iprop(|={Set.univ}=> (atPos EX (c, p, d) (k + 1) ∅ 0 ∗ laid c p d (k + 1))) := by
  iintro ⟨HI, Hat, Hf⟩
  imod (inv_acc (Set.mem_univ ι)) $$ HI with ⟨HL, Hclose⟩
  unfold ledger
  icases HL with ⟨%R, Hra, Hst⟩
  ihave %hR := (roundAuth_atPos_agree (E := EX) (g := (c, p, d)) (R := R) (C := ∅) (m := 0) (R' := k) (C' := ∅) (m' := 0)) $$ [Hra Hat]
  · isplitl [Hra] <;> iassumption
  obtain ⟨rfl, -, -⟩ := hR
  imod (roundAuth_atPos_move (E := EX) (g := (c, p, d)) (R := k) (C := ∅) (m := 0) (k + 1) ∅ 0 (Nat.le_succ k)) $$ [Hra Hat] with ⟨Hra, Hat⟩
  · isplitl [Hra] <;> iassumption
  imod (roundAuth_witness (E := EX) (g := (c, p, d)) (R := k + 1) (C := ∅) (m := 0)) $$ Hra with ⟨Hra, Hw⟩
  imod Hclose $$ [Hra Hst Hf] with -
  · iexists (k + 1)
    isplitl [Hra]; · iexact Hra
    rw [stack]
    isplitl [Hf]
    · ileft; iexact Hf
    iexact Hst
  imodintro
  isplitl [Hat]; · iexact Hat
  unfold laid; iexact Hw

omit [FloatOps F] in
/-- Taking a slot from the ledger. -/
theorem take (c : Dev nD) (p d : Fin 2) (n : ℕ) (ι : ℕ) :
    iprop(inv ι (ledger (F := F) c p d) ∗ laid c p d (n + 1) ∗ takeTok c p d n) ⊢ iprop(|={Set.univ}=> freed c p d n) := by
  iintro ⟨HI, #Hw, Ht⟩
  imod (inv_acc (Set.mem_univ ι)) $$ HI with ⟨HL, Hclose⟩
  unfold ledger
  icases HL with ⟨%R, Hra, Hst⟩
  ihave %hR := (roundAuth_reached_le (E := EX) (g := (c, p, d)) (R := R) (C := ∅) (m := 0) (r := n + 1)) $$ [Hra Hw]
  · isplitl [Hra]; · iexact Hra
    unfold laid; iexact Hw
  ihave H := (stack_take c p d n R hR) $$ [Hst Ht]
  · isplitl [Hst] <;> iassumption
  icases H with ⟨Hst, Hf⟩
  imod Hclose $$ [Hra Hst] with -
  · iexists R
    isplitl [Hra] <;> iassumption
  imodintro
  iexact Hf

/-! ## The signal and the wait -/

/-- How many slots are handed over in a phase. -/
abbrev units (p : Fin 2) : ℕ := if p = 0 then 5 else 4

/-- Device `c` after taking the first `n` slots. -/
def Taken (c : Dev nD) (p d : Fin 2) (n : ℕ) : sProp 𝕄 :=
  iprop(∃ T, ⌜n + (Finset.range (units p) \ T).card ≤ units p⌝ ∗ atPos ER (cell c (.cr p d)) 0 T n ∗ bigSep T (fun j => laid c p d (j + 1)))

section Slots

variable (part : Parts F) (κ : NameK) (κx : NameX) (c : Dev nD)

/-- Handing slot `k` back to the neighbour. -/
theorem wp_give (p d : Fin 2) (k : ℕ) (hk : k < units p) (l : List Ev) (P : TProg F) {Q : PUnit → sProp 𝕄} :
    iprop(Env part κ κx ∗ Duty c (.cr p k d :: l) ∗ atPos EX (bwd d c, p, d) k ∅ 0 ∗ freed (bwd d c) p d k)
      ⊢ iprop(((Duty c l ∗ atPos EX (bwd d c, p, d) (k + 1) ∅ 0) -∗ Wp c P Q)
        -∗ Wp c (.op (.semSignal (Dev.tc (bwd d c)) (crS p d) (1#32 : BitVec 32).toInt) fun _ => P) Q) := by
  unfold Duty
  rw [owed_cons, bigSepL_cons', tok, ownTok]
  iintro ⟨#HE, ⟨⟨%W, HO⟩, ⟨Ht, -⟩, Hts⟩, Hat, Hf⟩ Hk
  iapply (fupd_wp frame (wpE defs₀ 𝒱₀ (c : Thread nD τ) none) Set.univ _ _)
  imod (deposit (bwd d c) p d k (κx (bwd d c, p, d))) $$ [Hat Hf] with ⟨Hat, Hl⟩
  · isplitr; · iapply (Env.ledger part κ κx (bwd d c) p d); iexact HE
    isplitl [Hat] <;> iassumption
  imodintro
  iapply (Rounds.wp_signal 𝒱₀ ER (Rd part) (c : Thread nD τ) none (dst := ((bwd d c : Dev nD) : Thread nD τ)) (sem := crS p d) (κ := κ (bwd d c, .cr p d)) (r := 0)
      (d := k) ((duties_cell part (bwd d c) (.cr p d) 0).symm ▸ (show k ∈ dutiesK 0 (.cr p d) from Finset.mem_range.mpr hk))
      ((amount_cell part (bwd d c) (.cr p d) 0 k).trans (show 1 = (1#32 : BitVec 32).toNat by decide)) (Ev.lvl (.cr p k d)) (owed c l) rfl (W := W)) $$ [HO Ht Hl]
  · isplitr; · iapply (Env.cell part κ κx (bwd d c) (.cr p d)); iexact HE
    isplitl [HO]; · iexact HO
    isplitl [Ht]; · iexact Ht
    isplitl [Hl]
    · iapply (Entails.of_eq (show laid (bwd d c) p d (k + 1) = (Rd part).payload (((bwd d c : Dev nD) : Thread nD τ), SemLoc.reg (crS p d)) 0 k from (payload_cell part (bwd d c) (.cr p d) 0 k).symm))
      iexact Hl
    iapply (Env.reached part κ κx (bwd d c) (.cr p d)); iexact HE
  iintro HO
  iapply Hk
  isplitl [HO Hts]
  · isplitl [HO]; · iexists W; iexact HO
    iexact Hts
  iexact Hat

theorem expect_cr (p d : Fin 2) : (Rd part).expect (cell c (.cr p d)) 0 = units p := by
  unfold Schedule.expect Schedule.amountOf
  rw [duties_cell, Finset.sum_congr rfl (fun u _ => amount_cell part c (.cr p d) 0 u)]
  show ∑ _u ∈ Finset.range (units p), 1 = _
  rw [Finset.sum_const, Finset.card_range, smul_eq_mul, Nat.mul_one]

theorem bigSep_pick {S : Finset ℕ} {j : ℕ} (hj : j ∈ S) (Φ : ℕ → sProp 𝕄) : bigSep S Φ ⊢ Φ j := bigSep_elim hj

/-- Of `n + 1` units taken, one is of a handing after the first `n`. -/
theorem late_unit (n m : ℕ) (S : Finset ℕ) (hS : S ⊆ Finset.range m) (h : n + 1 + (Finset.range m \ S).card ≤ m) : ∃ j ∈ S, n ≤ j := by
  by_contra hc
  have hc' : ∀ j ∈ S, j < n := fun j hj => Nat.lt_of_not_le fun hn => hc ⟨j, hj, hn⟩
  have h1 : S.card ≤ n := by
    have := Finset.card_le_card (show S ⊆ Finset.range n from fun j hj => Finset.mem_range.mpr (hc' j hj))
    rwa [Finset.card_range] at this
  have h2 := Finset.card_sdiff_add_card_eq_card hS
  rw [Finset.card_range] at h2
  omega

/-- Taking slot `n`. -/
theorem wp_get (p d : Fin 2) (n : ℕ) (i : ℕ) (hi : Ev.lvl (.cr p n d) = i) (h40 : i < 40) (l : List Ev) (hl : Hi i l) (P : TProg F) {Q : PUnit → sProp 𝕄} :
    iprop(Env part κ κx ∗ Duty c l ∗ wcr c (.cr p n d) ∗ Taken c p d n)
      ⊢ iprop(((Duty c l ∗ Taken c p d (n + 1) ∗ freed c p d n) -∗ Wp c P Q)
        -∗ Wp c (.op (.semWait (crS p d) (1#32 : BitVec 32).toInt) fun _ => P) Q) := by
  subst hi
  unfold Duty wcr wtok Taken
  iintro ⟨#HE, ⟨⟨%W, HO⟩, Hts⟩, ⟨Hc, Htk⟩, ⟨%T, -, Hat, #HT⟩⟩ Hk
  iapply (Rounds.wp_wait 𝒱₀ ER (Rd part) (c : Thread nD τ) none (sm := .reg (crS p d)) (κ := κ (c, .cr p d)) (wpE_semWait_eq 𝒱₀ (c : Thread nD τ) none Set.univ) (Set.mem_univ _)
      (cr := Finsupp.single (Ev.lvl (.cr p n d)) 1) (O := owed c l) (W := W) {(SemLoc.reg (crS p d), Ev.lvl (.cr p n d))} (R := 0) (m := n) (T := T)
      ((Util.total_single _ _).trans (by decide)) (image_single_subset _ _ _)) $$ [Hc HO Hat]
  · isplitr; · iapply (Env.cell part κ κx c (.cr p d)); iexact HE
    isplitl [Hc]; · iexact Hc
    isplitl [HO]; · iexact HO
    isplitr; · iapply (mayWait c (.reg (crS p d)) _ h40 l hl); iapply (Env.lev part κ κx); iexact HE
    iexact Hat
  iintro %S ⟨%hS, HO, Hat, Hp⟩
  have h1 : (Rd part).duties (cell c (.cr p d)) 0 = Finset.range (units p) := duties_cell part c (.cr p d) 0
  have hS2 : S ⊆ Finset.range (units p) := h1 ▸ hS.2.1
  have hS3 : n + 1 + (Finset.range (units p) \ S).card ≤ units p := by
    have := hS.2.2
    rw [show (Rd part).expect ((c : Thread nD τ), SemLoc.reg (crS p d)) 0 = units p from expect_cr part c p d,
      show (Rd part).duties ((c : Thread nD τ), SemLoc.reg (crS p d)) 0 = Finset.range (units p) from h1] at this
    exact this
  obtain ⟨j, hj, hn⟩ := late_unit n _ S hS2 hS3
  ihave #HS := (show iprop(bigSep T (fun j => laid (F := F) c p d (j + 1)) ∗ bigSep (S \ T) (fun u => (Rd part).payload (cell c (.cr p d)) 0 u)) ⊢ bigSep S (fun j => laid c p d (j + 1)) by
    rw [bigSep_sdiff_split hS.1]
    exact sep_mono .rfl (bigSep_mono fun u _ => Entails.of_eq (payload_cell part c (.cr p d) 0 u))) $$ [Hp]
  · isplitr; · iexact HT
    iexact Hp
  iapply (fupd_wp frame (wpE defs₀ 𝒱₀ (c : Thread nD τ) none) Set.univ _ _)
  imod (take c p d n (κx (c, p, d))) $$ [Htk] with Hf
  · isplitr; · iapply (Env.ledger part κ κx c p d); iexact HE
    isplitr
    · iapply (show laid c p d (j + 1) ⊢ laid (F := F) c p d (n + 1) from reached_mono (E := EX) (g := (c, p, d)) (Nat.succ_le_succ hn))
      iapply (bigSep_pick hj (fun j => laid (F := F) c p d (j + 1))); iexact HS
    iexact Htk
  imodintro
  iapply Hk
  isplitl [HO Hts]
  · isplitl [HO]; · iexists _; iexact HO
    iexact Hts
  isplitl [Hat]
  · iexists S
    isplitr; · ipureintro; exact hS3
    isplitl [Hat]; · iexact Hat
    iexact HS
  iexact Hf

/-! ## The entry barrier -/

/-- What a device hands its neighbour at the barrier: its own slots. -/
theorem wp_barSignal (d : Fin 2) (l : List Ev) (P : TProg F) {Q : PUnit → sProp 𝕄} :
    iprop(Env part κ κx ∗ Duty c (.bar d :: l) ∗ bigSepL subs (barLane (bwd d c) d))
      ⊢ iprop((Duty c l -∗ Wp c P Q)
        -∗ Wp c (.op (.semSignal (Dev.tc (bwd d c)) barS (1#32 : BitVec 32).toInt) fun _ => P) Q) := by
  unfold Duty
  rw [owed_cons, bigSepL_cons', tok, ownTok]
  iintro ⟨#HE, ⟨⟨%W, HO⟩, ⟨Ht, -⟩, Hts⟩, Hf⟩ Hk
  iapply (Rounds.wp_signal 𝒱₀ ER (Rd part) (c : Thread nD τ) none (dst := ((bwd d c : Dev nD) : Thread nD τ)) (sem := barS) (κ := κ (bwd d c, .bar)) (r := 0)
      (d := d.val) ((duties_cell part (bwd d c) .bar 0).symm ▸ (show d.val ∈ ({0, 1} : Finset ℕ) by revert d; decide))
      ((amount_cell part (bwd d c) .bar 0 d.val).trans (by decide)) 1 (owed c l) rfl (W := W)) $$ [HO Ht Hf]
  · isplitr; · iapply (Env.cell part κ κx (bwd d c) .bar); iexact HE
    isplitl [HO]; · iexact HO
    isplitl [Ht]; · iexact Ht
    isplitl [Hf]
    · iapply (Entails.of_eq (show bigSepL subs (barLane (bwd d c) d) = (Rd part).payload (((bwd d c : Dev nD) : Thread nD τ), SemLoc.reg barS) 0 d.val by
        refine Eq.trans ?_ (payload_cell part (bwd d c) .bar 0 d.val).symm
        show _ = bigSepL subs (barLane (bwd d c) (if d.val = 0 then 0 else 1))
        congr 2
        revert d; decide))
      iexact Hf
    iapply (Env.reached part κ κx (bwd d c) .bar); iexact HE
  iintro HO
  iapply Hk
  isplitl [HO]; · iexists W; iexact HO
  iexact Hts

/-- What it gets: its neighbours' slots. -/
theorem wp_barWait (l : List Ev) (hl : Hi 1 l) (P : TProg F) {Q : PUnit → sProp 𝕄} :
    iprop(Env part κ κx ∗ Duty c l ∗ wcr c (.bar 0) ∗ wcr c (.bar 1) ∗ atPos ER (cell c .bar) 0 ∅ 0)
      ⊢ iprop(((Duty c l ∗ atPos ER (cell c .bar) 1 ∅ 0 ∗ bigSepL subs (barLane c 0) ∗ bigSepL subs (barLane c 1)) -∗ Wp c P Q)
        -∗ Wp c (.op (.semWait barS (2#32 : BitVec 32).toInt) fun _ => P) Q) := by
  unfold Duty wcr
  iintro ⟨#HE, ⟨⟨%W, HO⟩, Hts⟩, ⟨Hc, -⟩, ⟨Hc', -⟩, Hat⟩ Hk
  iapply (Rounds.wp_wait_rest_token 𝒱₀ ER (Rd part) (c : Thread nD τ) none (sm := .reg barS) (κ := κ (c, .bar)) (wpE_semWait_eq 𝒱₀ (c : Thread nD τ) none Set.univ) (Set.mem_univ _)
      1 (O := owed c l) (W := W) (R := 0) (m := 0) (T := ∅)
      (by
        rw [show (Rd part).expect ((c : Thread nD τ), SemLoc.reg barS) 0 = 2 by
          unfold Schedule.expect Schedule.amountOf
          rw [show (Rd part).duties ((c : Thread nD τ), SemLoc.reg barS) 0 = ({0, 1} : Finset ℕ) from duties_cell part c .bar 0,
            Finset.sum_congr rfl (fun u _ => show (Rd part).amount ((c : Thread nD τ), SemLoc.reg barS) 0 u = 1 from amount_cell part c .bar 0 u)]
          rfl]
        decide)) $$ [Hc Hc' HO Hat]
  · isplitr; · iapply (Env.cell part κ κx c .bar); iexact HE
    isplitl [Hc Hc']
    · iapply (Entails.of_eq (congrArg (fun t => (cred t : sProp 𝕄)) (tallyAt_add (cell c .bar) 1 1 1)))
      iapply (cred_add _ _).2
      isplitl [Hc]; · iexact Hc
      iexact Hc'
    isplitl [HO]; · iexact HO
    isplitr; · iapply (mayWait c (.reg barS) 1 (by decide) l hl); iapply (Env.lev part κ κx); iexact HE
    iexact Hat
  iintro ⟨HO, Hat, -, Hp⟩
  iapply Hk
  isplitl [HO Hts]
  · isplitl [HO]; · iexists _; iexact HO
    iexact Hts
  isplitl [Hat]; · iexact Hat
  iapply (Entails.of_eq (show bigSep ((Rd part).duties ((c : Thread nD τ), SemLoc.reg barS) 0 \ ∅) (fun u => (Rd part).payload ((c : Thread nD τ), SemLoc.reg barS) 0 u)
      = iprop(bigSepL subs (barLane c 0) ∗ bigSepL subs (barLane c 1)) by
    rw [Finset.sdiff_empty, show (Rd part).duties ((c : Thread nD τ), SemLoc.reg barS) 0 = ({0, 1} : Finset ℕ) from duties_cell part c .bar 0,
      bigSep_insert (by decide), bigSep_singleton,
      show (Rd part).payload ((c : Thread nD τ), SemLoc.reg barS) 0 0 = _ from payload_cell part c .bar 0 0,
      show (Rd part).payload ((c : Thread nD τ), SemLoc.reg barS) 0 1 = _ from payload_cell part c .bar 0 1]
    rfl)) $$ Hp

end Slots

end Cert.K

end
-- ==== Proof.Lane.lean ====
/-
One lane of one step: of the scatter, and of the gather.
-/
module

public import proofs.«01_k».proof.Proof.Slots
public import Idealize.ShloMosaic.Lib.MemrefSat

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Loads and stores of a lane's pieces -/

section Pieces

variable (c : Dev nD) (d : Fin 2) (sub : Fin 4) (q : PosShare TreeShare) (X : FVec F S128x1024 .bf16)

theorem wp_load_row (g : Fin 8) {hl : oM.view.LoadsAt (rowRect g d sub).toLoadRect} {k : Vec F S1x128x1024 .bf16 → TProg F} {Q : PUnit → sProp 𝕄} :
    owns (c : Thread nD τ) (rowM g d sub) q X
      ⊢ iprop((∀ v : Vec F S1x128x1024 .bf16, ⌜shapeCast S128x1024 v shapeCasts_S1x128x1024_S128x1024 = X⌝ -∗ owns (c : Thread nD τ) (rowM g d sub) q X -∗ Wp c (k v) Q)
        -∗ Wp c (.op (.load oM (rowRect g d sub).toLoadRect hl) k) Q) :=
  wp_load_piece c oM (rowRect g d sub) (fun _ => rfl) squeezes_S1x128x1024_S128x1024 shapeCasts_S1x128x1024_S128x1024 q X
theorem wp_load_rs (b : Fin 2) {hl : rM.view.LoadsAt (rsRect d sub b).toLoadRect} {k : Vec F S1x1x1x128x1024 .bf16 → TProg F} {Q : PUnit → sProp 𝕄} :
    owns (c : Thread nD τ) (rsM d sub b) q X
      ⊢ iprop((∀ v : Vec F S1x1x1x128x1024 .bf16, ⌜shapeCast S128x1024 v shapeCasts_S1x1x1x128x1024_S128x1024 = X⌝ -∗ owns (c : Thread nD τ) (rsM d sub b) q X -∗ Wp c (k v) Q)
        -∗ Wp c (.op (.load rM (rsRect d sub b).toLoadRect hl) k) Q) :=
  wp_load_piece c rM (rsRect d sub b) (fun _ => rfl) squeezes_S1x1x1x128x1024_S128x1024 shapeCasts_S1x1x1x128x1024_S128x1024 q X
theorem wp_load_ag (b : Fin 3) {hl : gM.view.LoadsAt (agRect d sub b).toLoadRect} {k : Vec F S1x1x1x128x1024 .bf16 → TProg F} {Q : PUnit → sProp 𝕄} :
    owns (c : Thread nD τ) (agM d sub b) q X
      ⊢ iprop((∀ v : Vec F S1x1x1x128x1024 .bf16, ⌜shapeCast S128x1024 v shapeCasts_S1x1x1x128x1024_S128x1024 = X⌝ -∗ owns (c : Thread nD τ) (agM d sub b) q X -∗ Wp c (k v) Q)
        -∗ Wp c (.op (.load gM (agRect d sub b).toLoadRect hl) k) Q) :=
  wp_load_piece c gM (agRect d sub b) (fun _ => rfl) squeezes_S1x1x1x128x1024_S128x1024 shapeCasts_S1x1x1x128x1024_S128x1024 q X
theorem wp_store_row (g : Fin 8) (V : FVec F S128x1024 .bf16) {hx : (oM.access (rowRect g d sub)).Stores Finset.univ}
    {hm : (Finset.univ : Finset (rowRect g d sub).shape.Idx) = Finset.univ ∨ ∀ a, (rowRect g d sub).stride a = 1} {k : PUnit → TProg F} {Q : PUnit → sProp 𝕄} :
    has c (rowM g d sub) X
      ⊢ iprop((has c (rowM g d sub) V -∗ Wp c (k ⟨⟩) Q)
        -∗ Wp c (.op (.store oM (rowRect g d sub) (shapeCast S1x128x1024 V shapeCasts_S128x1024_S1x128x1024) Finset.univ hx hm) k) Q) :=
  wp_store_piece c oM (rowRect g d sub) (fun _ => rfl) squeezes_S1x128x1024_S128x1024 shapeCasts_S1x128x1024_S128x1024 shapeCasts_S128x1024_S1x128x1024 X V

end Pieces

omit [FloatOps F] in
theorem ite_elim {b : Prop} [Decidable b] (h : b) (P Q : sProp 𝕄) : (if b then P else Q) ⊢ P := Entails.of_eq (if_pos h)
omit [FloatOps F] in
theorem ite_elim' {b : Prop} [Decidable b] (h : ¬b) (P Q : sProp 𝕄) : (if b then P else Q) ⊢ Q := Entails.of_eq (if_neg h)

/-! ## The scatter -/

/-- The positions of device `c` in the cells of a lane before step `n` of the scatter. -/
def RPos (c : Dev nD) (n : ℕ) (l : Fin 2 × Fin 4) : sProp 𝕄 :=
  iprop(atPos ER (cell c (.rsS l.1 l.2)) n ∅ 0 ∗ atPos ER (cell c (.rsV l.1 l.2 (sl2 n))) (n / 2) ∅ 0 ∗ atPos ER (cell c (.rsV l.1 l.2 (sl2 (n + 1)))) ((n + 1) / 2) ∅ 0)
/-- With the credit of the transfer under way. -/
def RIn (c : Dev nD) (n : ℕ) (l : Fin 2 × Fin 4) : sProp 𝕄 := iprop(cred (tallyAt (cell c (.rsS l.1 l.2)) 0 N) ∗ RPos c n l)
/-- The payment a lane makes. -/
def rEv (s : ℕ) (l : Fin 2 × Fin 4) : List Ev := if s < 6 then [.rs (s + 1) l.1 l.2] else []

section Lanes

variable (part : Parts F) (κ : NameK) (κx : NameX) (c : Dev nD)

/-- What a lane of step `s` starts from: its own rows of the next chunk, the credit of the message to come, the neighbour's slot. -/
def RPre (s : ℕ) (l : Fin 2 × Fin 4) : sProp 𝕄 :=
  iprop(RIn c s l ∗ has c (rowM (chunk l.1 c (s + 1)) l.1 l.2) (own4 part c l.1 l.2 (s + 1)) ∗ wcr c (.rs s l.1 l.2)
    ∗ (if s < 6 then permR c l.1 (s + 1) l.2 else emp))
/-- What it leaves: the slot it read, the rows it sent, and after the last step the sum. -/
def RPost (s : ℕ) (l : Fin 2 × Fin 4) : sProp 𝕄 :=
  iprop((if s < 6 then RIn c (s + 1) l else iprop(RPos c 7 l ∗ has c (rowM (chunk l.1 c 7) l.1 l.2) (scat part l.1 l.2 c 7)))
    ∗ permR (bwd l.1 c) l.1 (s + 2) l.2 ∗ hasAny c (rowM (chunk l.1 c s) l.1 l.2))

omit [FloatOps F] in
theorem sl2_two (s : ℕ) : sl2 (s + 2) = sl2 s := Fin.ext (by show (s + 2) % 2 = s % 2; omega)
omit [FloatOps F] in
theorem sl3_three (s : ℕ) : sl3 (s + 3) = sl3 s := Fin.ext (by show (s + 3) % 3 = s % 3; omega)

theorem wp_rsLane (s : ℕ) (hs : s < 7) (l : Fin 2 × Fin 4) (ls : List Ev) (hl : Hi (2 * s + 3) (rEv s l ++ ls)) (P : TProg F) {Q : PUnit → sProp 𝕄} :
    iprop(Env part κ κx ∗ Duty c (rEv s l ++ ls) ∗ RPre part c s l)
      ⊢ iprop(((Duty c ls ∗ RPost part c s l) -∗ Wp c P Q) -∗ Wp c (rsLaneP c s l P) Q) := by
  unfold RPre RIn RPos rsLaneP wcr
  iintro ⟨#HE, HD, ⟨Hc, HaS, HaV, HaV'⟩, Hrow, ⟨Hcv, -⟩, Hperm⟩ Hk
  iapply (wp_wait1 part κ κx c (.rsS l.1 l.2) (rsSendS l.1 l.2) rfl (N_row (chunk l.1 c (s + 1)) l.1 l.2) s (if_pos hs) rfl 0 (by decide) _ (hl.mono (Nat.zero_le _))) $$ [Hc HaS HD]
  · isplitr; · iexact HE
    isplitl [Hc]; · iexact Hc
    isplitl [HaS] <;> iassumption
  iintro ⟨Hsent, HaS, #HrS, HD⟩
  iapply (wp_wait1 part κ κx c (.rsV l.1 l.2 (sl2 s)) (rsRecvS l.1 l.2 (sl2 s)) rfl (N_rs l.1 l.2 (sl2 s)) (s / 2)
    (by rw [show dutiesK (s / 2) (.rsV l.1 l.2 (sl2 s)) = if 2 * (s / 2) + (sl2 s).val < 7 then {0} else ∅ from rfl, (scat_at l.1 l.2 s hs).2, if_pos hs]) rfl
    (2 * s + 2) (by omega) _ (hl.mono (Nat.le_succ _))) $$ [Hcv HaV HD]
  · isplitr; · iexact HE
    isplitl [Hcv]; · iexact Hcv
    isplitl [HaV] <;> iassumption
  iintro ⟨Hslot, HaV, #HrV, HD⟩
  ihave Hslot := (show payK part c (s / 2) 0 (.rsV l.1 l.2 (sl2 s)) ⊢ has c (rsM l.1 l.2 (sl2 s)) (scat part l.1 l.2 (bwd l.1 c) s) by
    rw [payK_rsV, (scat_at l.1 l.2 s hs).2]) $$ Hslot
  iapply (wp_load_row c l.1 l.2 fullShare _ (chunk l.1 c (s + 1))) $$ Hrow
  iintro %v %hv Hrow
  iapply (wp_load_rs c l.1 l.2 fullShare _ (sl2 s)) $$ Hslot
  iintro %u %hu Hslot
  iapply (wp_load_row c l.1 l.2 fullShare _ (chunk l.1 c (s + 1))) $$ Hrow
  iintro %v' %hv' Hrow
  rw [hv, hu]
  iapply (wp_store_row c l.1 l.2 _ (chunk l.1 c (s + 1)) (acc (own4 part c l.1 l.2 (s + 1)) (scat part l.1 l.2 (bwd l.1 c) s))) $$ Hrow
  iintro Hrow
  ihave Hfree := (show iprop(has c (rsM l.1 l.2 (sl2 s)) (scat part l.1 l.2 (bwd l.1 c) s) ∗ reached ER (cell c (.rsV l.1 l.2 (sl2 s))) (s / 2 + 1)) ⊢ permR (F := F) (bwd l.1 c) l.1 (s + 2) l.2 by
    unfold permR
    rw [fwd_bwd, sl2_two, show (s + 2) / 2 = s / 2 + 1 by omega]
    iintro ⟨H, Hr⟩
    isplitl [H]; · iexists _; iexact H
    iexact Hr) $$ [Hslot]
  · isplitl [Hslot]; · iexact Hslot
    iexact HrV
  ihave Hsent := (show payK part c s 0 (.rsS l.1 l.2) ⊢ hasAny c (rowM (chunk l.1 c s) l.1 l.2) by
    show has c (rowM (chunk l.1 c s) l.1 l.2) (scat part l.1 l.2 c s) ⊢ _
    iintro H; iexists _; iexact H) $$ Hsent
  ihave HaV := (show atPos ER (cell c (.rsV l.1 l.2 (sl2 s))) (s / 2 + 1) ∅ 0 ⊢ (atPos ER (cell c (.rsV l.1 l.2 (sl2 (s + 1 + 1)))) ((s + 1 + 1) / 2) ∅ 0 : sProp 𝕄) by
    rw [sl2_two, show (s + 1 + 1) / 2 = s / 2 + 1 by omega]) $$ HaV
  by_cases h6 : s < 6
  · ihave Hperm := (ite_elim h6 _ _) $$ Hperm
    rw [if_pos h6]
    ihave HD := (Entails.of_eq (show Duty c (rEv s l ++ ls) = Duty (F := F) c (.rs (s + 1) l.1 l.2 :: ls) by rw [rEv, if_pos h6]; rfl)) $$ HD
    iapply (wp_rsSend part κ κx c l.1 l.2 (s + 1) (by omega) ls P) $$ [HD Hrow Hperm]
    · isplitr; · iexact HE
      isplitl [HD]; · iexact HD
      isplitl [Hrow]; · iexact Hrow
      isplitl [Hperm]; · iexact Hperm
      iexact HrS
    iintro ⟨HD, Hc⟩
    iapply Hk
    unfold RPost RIn RPos
    rw [if_pos h6]
    isplitl [HD]; · iexact HD
    isplitl [Hc HaS HaV HaV']
    · isplitl [Hc]; · iexact Hc
      isplitl [HaS]; · iexact HaS
      isplitl [HaV']; · iexact HaV'
      iexact HaV
    isplitl [Hfree] <;> iassumption
  · have : s = 6 := by omega
    subst this
    ihave Hperm := (ite_elim' h6 _ _) $$ Hperm
    rw [if_neg h6]
    ihave HD := (Entails.of_eq (show Duty c (rEv 6 l ++ ls) = Duty (F := F) c ls by rw [rEv, if_neg h6]; rfl)) $$ HD
    iapply Hk
    unfold RPost RPos
    rw [if_neg h6]
    isplitl [HD]; · iexact HD
    isplitl [Hrow HaS HaV HaV']
    · isplitr [Hrow]
      · isplitl [HaS]; · iexact HaS
        isplitl [HaV']; · iexact HaV'
        iexact HaV
      iexact Hrow
    isplitl [Hfree] <;> iassumption

/-! ## The gather -/

/-- The positions of device `c` in the cells of a lane before step `n` of the gather. -/
def APos (n : ℕ) (l : Fin 2 × Fin 4) : sProp 𝕄 :=
  iprop(atPos ER (cell c (.agS l.1 l.2)) n ∅ 0 ∗ atPos ER (cell c (.agV l.1 l.2 (sl3 n))) (n / 3) ∅ 0 ∗ atPos ER (cell c (.agV l.1 l.2 (sl3 (n + 1)))) ((n + 1) / 3) ∅ 0
    ∗ atPos ER (cell c (.agV l.1 l.2 (sl3 (n + 2)))) ((n + 2) / 3) ∅ 0)
/-- With the credit of the transfer under way, and half of the slot it reads. -/
def AIn (n : ℕ) (l : Fin 2 × Fin 4) : sProp 𝕄 :=
  iprop(cred (tallyAt (cell c (.agS l.1 l.2)) 0 N) ∗ APos c n l
    ∗ (if n = 0 then emp else iprop(owns (c : Thread nD τ) (agM l.1 l.2 (sl3 (n - 1))) fullShare.right (gath part l.1 l.2 c n)
        ∗ reached ER (cell c (.agV l.1 l.2 (sl3 (n + 2)))) ((n + 2) / 3))))
/-- The payment a lane makes. -/
def aEv (s : ℕ) (l : Fin 2 × Fin 4) : List Ev := if s < 6 then [.ag (s + 1) l.1 l.2] else []
/-- What a lane of step `s` starts from: the rows it writes, the credit of the message to come, the neighbour's slot. -/
def APre (s : ℕ) (l : Fin 2 × Fin 4) : sProp 𝕄 :=
  iprop(AIn part c s l ∗ hasAny c (rowM (chunk l.1 c s) l.1 l.2) ∗ wcr c (.ag s l.1 l.2) ∗ (if s < 6 then permA c l.1 (s + 1) l.2 else emp))
/-- What it leaves: the rows written, and the slot (at the first step the rows) it had sent. -/
def APost (s : ℕ) (l : Fin 2 × Fin 4) : sProp 𝕄 :=
  iprop((if s < 6 then AIn part c (s + 1) l else iprop(APos c 7 l ∗ hasAny c (agM l.1 l.2 (sl3 6))))
    ∗ (if s = 0 then has c (rowM (chunk l.1 c 7) l.1 l.2) (gath part l.1 l.2 c 0) else permA (bwd l.1 c) l.1 (s + 2) l.2)
    ∗ has c (rowM (chunk l.1 c s) l.1 l.2) (gath part l.1 l.2 (bwd l.1 c) s))

/-- The part of a lane after its waits. -/
def agSndP (s : ℕ) (l : Fin 2 × Fin 4) (k : TProg F) : TProg F :=
  let fin : TProg F :=
    .op (.load gM (agRect l.1 l.2 (sl3 s)).toLoadRect (View.loadsAt_vmem h_S1x1x1x128x1024)) fun (u : Vec F S1x1x1x128x1024 .bf16) =>
    .op (.load oM (rowRect (chunk l.1 c s) l.1 l.2).toLoadRect (View.loadsAt_vmem h_S1x128x1024)) fun _ =>
    .op (.store oM (rowRect (chunk l.1 c s) l.1 l.2)
      (shapeCast S1x128x1024 (shapeCast S128x1024 u shapeCasts_S1x1x1x128x1024_S128x1024) shapeCasts_S128x1024_S1x128x1024) Finset.univ
      (View.stores_vmem h_S1x128x1024 ((Memref.isWhole_whole cc0_stg2_0).storeExact_slice rfl _ (rowRect_packed _ _ _)) (fun _ => rfl)) (.inl rfl)) fun _ =>
    k
  if s < 6 then agSendP c l.1 l.2 (sl3 s) (sl3 (s + 1)) fin else fin

theorem payK_agS (d : Fin 2) (sub : Fin 4) (s : ℕ) : payK part c (s + 1) 0 (.agS d sub) = owns (c : Thread nD τ) (agM d sub (sl3 s)) fullShare.left (gath part d sub c (s + 1)) := by
  dsimp only [payK]
  rw [if_neg (Nat.succ_ne_zero s), Nat.add_sub_cancel]

/-- Copying a received slot into the result. -/
theorem wp_agFin (s : ℕ) (l : Fin 2 × Fin 4) (q : PosShare TreeShare) (X : FVec F S128x1024 .bf16) (k : TProg F) {Q : PUnit → sProp 𝕄}
    {h1 : gM.view.LoadsAt (agRect l.1 l.2 (sl3 s)).toLoadRect} {h2 : oM.view.LoadsAt (rowRect (chunk l.1 c s) l.1 l.2).toLoadRect}
    {hx : (oM.access (rowRect (chunk l.1 c s) l.1 l.2)).Stores Finset.univ}
    {hm : (Finset.univ : Finset (rowRect (chunk l.1 c s) l.1 l.2).shape.Idx) = Finset.univ ∨ ∀ a, (rowRect (chunk l.1 c s) l.1 l.2).stride a = 1} :
    iprop(owns (c : Thread nD τ) (agM l.1 l.2 (sl3 s)) q X ∗ hasAny c (rowM (chunk l.1 c s) l.1 l.2))
      ⊢ iprop(((owns (c : Thread nD τ) (agM l.1 l.2 (sl3 s)) q X ∗ has c (rowM (chunk l.1 c s) l.1 l.2) X) -∗ Wp c k Q)
        -∗ Wp c (.op (.load gM (agRect l.1 l.2 (sl3 s)).toLoadRect h1) fun (u : Vec F S1x1x1x128x1024 .bf16) =>
            .op (.load oM (rowRect (chunk l.1 c s) l.1 l.2).toLoadRect h2) fun _ =>
            .op (.store oM (rowRect (chunk l.1 c s) l.1 l.2)
              (shapeCast S1x128x1024 (shapeCast S128x1024 u shapeCasts_S1x1x1x128x1024_S128x1024) shapeCasts_S128x1024_S1x128x1024) Finset.univ hx hm) fun _ => k) Q) := by
  iintro ⟨Hslot, ⟨%Y, Hrow⟩⟩ Hk
  iapply (wp_load_ag c l.1 l.2 q X (sl3 s)) $$ Hslot
  iintro %u %hu Hslot
  iapply (wp_load_row c l.1 l.2 fullShare Y (chunk l.1 c s)) $$ Hrow
  iintro %v %hv Hrow
  rw [hu]
  iapply (wp_store_row c l.1 l.2 Y (chunk l.1 c s) X) $$ Hrow
  iintro Hrow
  iapply Hk
  isplitl [Hslot] <;> iassumption

/-- The part after the waits: forward, copy. -/
theorem wp_agSnd (s : ℕ) (hs : s < 7) (l : Fin 2 × Fin 4) (ls : List Ev) (k : TProg F) {Q : PUnit → sProp 𝕄} :
    iprop(Env part κ κx ∗ Duty c (aEv s l ++ ls) ∗ has c (agM l.1 l.2 (sl3 s)) (gath part l.1 l.2 (bwd l.1 c) s) ∗ hasAny c (rowM (chunk l.1 c s) l.1 l.2)
        ∗ (if s < 6 then permA c l.1 (s + 1) l.2 else emp) ∗ reached ER (cell c (.agS l.1 l.2)) (s + 1))
      ⊢ iprop(((Duty c ls ∗ has c (rowM (chunk l.1 c s) l.1 l.2) (gath part l.1 l.2 (bwd l.1 c) s)
          ∗ (if s < 6 then iprop(cred (tallyAt (cell c (.agS l.1 l.2)) 0 N) ∗ owns (c : Thread nD τ) (agM l.1 l.2 (sl3 s)) fullShare.right (gath part l.1 l.2 c (s + 1)))
              else hasAny c (agM l.1 l.2 (sl3 6)))) -∗ Wp c k Q)
        -∗ Wp c (agSndP c s l k) Q) := by
  unfold agSndP agSendP
  by_cases h6 : s < 6
  · rw [if_pos h6, if_pos h6, if_pos h6, aEv, if_pos h6]
    iintro ⟨#HE, HD, Hslot, Hrow, Hperm, #HrS⟩ Hk
    ihave H := (owns_halves (c : Thread nD τ) (agM l.1 l.2 (sl3 s)) fullShare (gath part l.1 l.2 (bwd l.1 c) s)).1 $$ Hslot
    icases H with ⟨HL, HR⟩
    iapply (wp_agSend part κ κx c l.1 l.2 (s + 1) (by omega) (agM l.1 l.2 (sl3 s)) fullShare.left
      (Entails.of_eq (payK_agS part c l.1 l.2 s).symm) ls) $$ [HD HL Hperm]
    · isplitr; · iexact HE
      isplitl [HD]; · iexact HD
      isplitl [HL]; · iexact HL
      isplitl [Hperm]; · iexact Hperm
      iexact HrS
    iintro ⟨HD, Hc⟩
    iapply (wp_agFin c s l fullShare.right _ k) $$ [HR Hrow]
    · isplitl [HR] <;> iassumption
    iintro ⟨HR, Hrow⟩
    iapply Hk
    isplitl [HD]; · iexact HD
    isplitl [Hrow]; · iexact Hrow
    isplitl [Hc]; · iexact Hc
    iexact HR
  · have : s = 6 := by omega
    subst this
    rw [if_neg h6, if_neg h6, if_neg h6, aEv, if_neg h6]
    iintro ⟨#HE, HD, Hslot, Hrow, -, #HrS⟩ Hk
    iapply (wp_agFin c 6 l fullShare _ k) $$ [Hslot Hrow]
    · isplitl [Hslot] <;> iassumption
    iintro ⟨Hslot, Hrow⟩
    iapply Hk
    isplitl [HD]; · iexact HD
    isplitl [Hrow]; · iexact Hrow
    iexists _
    iexact Hslot

theorem agLane_eq (s : ℕ) (l : Fin 2 × Fin 4) (k : TProg F) : agLaneP c s l k = if s = 0 then
    .op (.waitDma2 (agSendS l.1 l.2) (agM l.1 l.2 (sl3 s)) (rowM (chunk l.1 c 7) l.1 l.2) (agM_words _ _ _) (rowM_words _ _ _)) fun _ =>
    .op (.waitDma2 (agRecvS l.1 l.2 (sl3 s)) (rowM (chunk l.1 c 7) l.1 l.2) (agM l.1 l.2 (sl3 s)) (rowM_words _ _ _) (agM_words _ _ _)) fun _ => agSndP c s l k
  else
    .op (.waitDma2 (agSendS l.1 l.2) (agM l.1 l.2 (sl3 s)) (agM l.1 l.2 (sl3 (s - 1))) (agM_words _ _ _) (agM_words _ _ _)) fun _ =>
    .op (.waitDma2 (agRecvS l.1 l.2 (sl3 s)) (agM l.1 l.2 (sl3 (s - 1))) (agM l.1 l.2 (sl3 s)) (agM_words _ _ _) (agM_words _ _ _)) fun _ => agSndP c s l k := rfl

theorem wp_agLane (s : ℕ) (hs : s < 7) (l : Fin 2 × Fin 4) (ls : List Ev) (hl : Hi (2 * s + 21) (aEv s l ++ ls)) (P : TProg F) {Q : PUnit → sProp 𝕄} :
    iprop(Env part κ κx ∗ Duty c (aEv s l ++ ls) ∗ APre part c s l)
      ⊢ iprop(((Duty c ls ∗ APost part c s l) -∗ Wp c P Q) -∗ Wp c (agLaneP c s l P) Q) := by
  have hrecv : ∀ {sp' : Space} {s' : Shape} {e' : EltTy} {M : Memref sig .tc sp' s' e'} {h1 : M.view.WordExact} (Q' : PUnit → sProp 𝕄),
      iprop(Env part κ κx ∗ cred (tallyAt (cell c (.agV l.1 l.2 (sl3 s))) (2 * s + 20) N) ∗ atPos ER (cell c (.agV l.1 l.2 (sl3 s))) (s / 3) ∅ 0 ∗ Duty c (aEv s l ++ ls))
      ⊢ iprop(((has c (agM l.1 l.2 (sl3 s)) (gath part l.1 l.2 (bwd l.1 c) s) ∗ atPos ER (cell c (.agV l.1 l.2 (sl3 (s + 3)))) ((s + 3) / 3) ∅ 0
            ∗ reached ER (cell c (.agV l.1 l.2 (sl3 (s + 3)))) ((s + 3) / 3) ∗ Duty c (aEv s l ++ ls)) -∗ Wp c (agSndP c s l P) Q')
        -∗ Wp c (.op (.waitDma2 (agRecvS l.1 l.2 (sl3 s)) M (agM l.1 l.2 (sl3 s)) h1 (agM_words _ _ _)) fun _ => agSndP c s l P) Q') := by
    intro sp' s' e' M h1 Q'
    have h := wp_wait1 part κ κx c (.agV l.1 l.2 (sl3 s)) (agRecvS l.1 l.2 (sl3 s)) rfl (srcw := M) (h1 := h1) (h2 := agM_words l.1 l.2 (sl3 s)) (N_ag l.1 l.2 (sl3 s)) (s / 3)
      (by rw [show dutiesK (s / 3) (.agV l.1 l.2 (sl3 s)) = if 3 * (s / 3) + (sl3 s).val < 7 then {0} else ∅ from rfl, (gath_at l.1 l.2 s hs).2, if_pos hs]) rfl
      (2 * s + 20) (by omega) _ (hl.mono (Nat.le_succ _)) (agSndP c s l P) (Q := Q')
    rw [payK_agV, (gath_at l.1 l.2 s hs).2] at h
    rw [sl3_three, show (s + 3) / 3 = s / 3 + 1 by omega]
    exact h
  have hend : iprop(((Duty c ls ∗ APost part c s l) -∗ Wp c P Q)
      ∗ Env part κ κx ∗ Duty c (aEv s l ++ ls) ∗ has c (agM l.1 l.2 (sl3 s)) (gath part l.1 l.2 (bwd l.1 c) s) ∗ hasAny c (rowM (chunk l.1 c s) l.1 l.2)
      ∗ (if s < 6 then permA c l.1 (s + 1) l.2 else emp) ∗ reached ER (cell c (.agS l.1 l.2)) (s + 1) ∗ APos c (s + 1) l
      ∗ reached ER (cell c (.agV l.1 l.2 (sl3 (s + 3)))) ((s + 3) / 3)
      ∗ (if s = 0 then has c (rowM (chunk l.1 c 7) l.1 l.2) (gath part l.1 l.2 c 0) else permA (bwd l.1 c) l.1 (s + 2) l.2))
      ⊢ Wp c (agSndP c s l P) Q := by
    iintro ⟨Hk, #HE, HD, Hslot, Hrow, Hperm, #HrS, Hpos, #HrV, Hold⟩
    iapply (wp_agSnd part κ κx c s hs l ls P) $$ [HD Hslot Hrow Hperm]
    · isplitr; · iexact HE
      isplitl [HD]; · iexact HD
      isplitl [Hslot]; · iexact Hslot
      isplitl [Hrow]; · iexact Hrow
      isplitl [Hperm]; · iexact Hperm
      iexact HrS
    iintro ⟨HD, Hrow, Hrest⟩
    iapply Hk
    isplitl [HD]; · iexact HD
    unfold APost AIn
    isplitl [Hpos Hrest]
    · by_cases h6 : s < 6
      · ihave Hrest := (ite_elim h6 _ _) $$ Hrest
        rw [if_pos h6]
        icases Hrest with ⟨Hc, Hr⟩
        isplitl [Hc]; · iexact Hc
        isplitl [Hpos]; · iexact Hpos
        rw [if_neg (Nat.succ_ne_zero s), Nat.add_sub_cancel]
        isplitl [Hr]; · iexact Hr
        iexact HrV
      · have : s = 6 := by omega
        subst this
        ihave Hrest := (ite_elim' h6 _ _) $$ Hrest
        rw [if_neg h6]
        isplitl [Hpos] <;> iassumption
    isplitl [Hold] <;> iassumption
  rw [agLane_eq]
  unfold APre AIn APos wcr
  iintro ⟨#HE, HD, ⟨Hc, ⟨HaS, HaV, HaV', HaV''⟩, Hold⟩, Hrow, ⟨Hcv, -⟩, Hperm⟩ Hk
  by_cases h0 : s = 0
  · ihave Hold := (ite_elim h0 _ _) $$ Hold
    rw [if_pos h0]
    iapply (wp_wait1 part κ κx c (.agS l.1 l.2) (agSendS l.1 l.2) rfl (N_row (chunk l.1 c 7) l.1 l.2) s (if_pos hs) rfl 0 (by decide) _ (hl.mono (Nat.zero_le _))) $$ [Hc HaS HD]
    · isplitr; · iexact HE
      isplitl [Hc]; · iexact Hc
      isplitl [HaS] <;> iassumption
    iintro ⟨Hsent, HaS, #HrS, HD⟩
    iapply (hrecv Q) $$ [Hcv HaV HD]
    · isplitr; · iexact HE
      isplitl [Hcv]; · iexact Hcv
      isplitl [HaV] <;> iassumption
    iintro ⟨Hslot, HaV, #HrV, HD⟩
    iapply hend
    isplitl [Hk]; · iexact Hk
    isplitr; · iexact HE
    isplitl [HD]; · iexact HD
    isplitl [Hslot]; · iexact Hslot
    isplitl [Hrow]; · iexact Hrow
    isplitl [Hperm]; · iexact Hperm
    isplitr; · iexact HrS
    isplitl [HaS HaV HaV' HaV'']
    · unfold APos
      isplitl [HaS]; · iexact HaS
      isplitl [HaV']; · iexact HaV'
      isplitl [HaV'']; · iexact HaV''
      iexact HaV
    isplitr; · iexact HrV
    rw [if_pos h0]
    iapply (show payK part c s 0 (.agS l.1 l.2) ⊢ has c (rowM (chunk l.1 c 7) l.1 l.2) (gath part l.1 l.2 c 0) by
      show (if s = 0 then _ else _) ⊢ _; rw [if_pos h0])
    iexact Hsent
  · ihave Hold := (ite_elim' h0 _ _) $$ Hold
    rw [if_neg h0]
    icases Hold with ⟨HR, #HrO⟩
    iapply (wp_wait1 part κ κx c (.agS l.1 l.2) (agSendS l.1 l.2) rfl (N_ag l.1 l.2 (sl3 (s - 1))) s (if_pos hs) rfl 0 (by decide) _ (hl.mono (Nat.zero_le _))) $$ [Hc HaS HD]
    · isplitr; · iexact HE
      isplitl [Hc]; · iexact Hc
      isplitl [HaS] <;> iassumption
    iintro ⟨HL, HaS, #HrS, HD⟩
    ihave HL := (show payK part c s 0 (.agS l.1 l.2) ⊢ owns (c : Thread nD τ) (agM l.1 l.2 (sl3 (s - 1))) fullShare.left (gath part l.1 l.2 c s) by
      show (if s = 0 then _ else _) ⊢ _; rw [if_neg h0]) $$ HL
    ihave Hback := (owns_halves (c : Thread nD τ) (agM l.1 l.2 (sl3 (s - 1))) fullShare (gath part l.1 l.2 c s)).2 $$ [HL HR]
    · isplitl [HL] <;> iassumption
    iapply (hrecv Q) $$ [Hcv HaV HD]
    · isplitr; · iexact HE
      isplitl [Hcv]; · iexact Hcv
      isplitl [HaV] <;> iassumption
    iintro ⟨Hslot, HaV, #HrV, HD⟩
    iapply hend
    isplitl [Hk]; · iexact Hk
    isplitr; · iexact HE
    isplitl [HD]; · iexact HD
    isplitl [Hslot]; · iexact Hslot
    isplitl [Hrow]; · iexact Hrow
    isplitl [Hperm]; · iexact Hperm
    isplitr; · iexact HrS
    isplitl [HaS HaV HaV' HaV'']
    · unfold APos
      isplitl [HaS]; · iexact HaS
      isplitl [HaV']; · iexact HaV'
      isplitl [HaV'']; · iexact HaV''
      iexact HaV
    isplitr; · iexact HrV
    rw [if_neg h0]
    unfold permA
    rw [fwd_bwd, show sl3 (s - 1) = sl3 (s + 2) from (sl3_three (s - 1)).symm.trans (congrArg sl3 (by omega))]
    isplitl [Hback]; · iexists _; iexact Hback
    iexact HrO

end Lanes

end Cert.K

end
-- ==== Proof.Lists.lean ====
/-
A lane's rule run over a list of lanes, and what a list of lanes holds regrouped.
-/
module

public import proofs.«01_k».proof.Proof.Lane
public import Idealize.ShloMosaic.Lib.Pipeline.TalkSched

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Lists of assertions -/

omit [FloatOps F] in
theorem lsep {I : Type} (l : List I) (Φ Ψ : I → sProp 𝕄) : bigSepL l (fun i => iprop(Φ i ∗ Ψ i)) ⊣⊢ iprop(bigSepL l Φ ∗ bigSepL l Ψ) := by
  induction l with
  | nil =>
    constructor
    · show emp ⊢ iprop(emp ∗ emp)
      iintro -
      isplitl [] <;> iempintro
    · show iprop(emp ∗ emp) ⊢ emp
      iintro -
      iempintro
  | cons a l ih =>
    rw [bigSepL_cons', bigSepL_cons', bigSepL_cons']
    constructor
    · iintro ⟨⟨H1, H2⟩, H⟩
      ihave H := ih.1 $$ H
      icases H with ⟨H3, H4⟩
      isplitl [H1 H3]
      · isplitl [H1] <;> iassumption
      isplitl [H2] <;> iassumption
    · iintro ⟨⟨H1, H3⟩, H2, H4⟩
      isplitl [H1 H2]
      · isplitl [H1] <;> iassumption
      iapply ih.2
      isplitl [H3] <;> iassumption

omit [FloatOps F] in
theorem lanes_eq (Φ : Fin 2 × Fin 4 → sProp 𝕄) : bigSepL lanes Φ = iprop(bigSepL subs (fun sub => Φ (0, sub)) ∗ bigSepL subs (fun sub => Φ (1, sub))) := by
  rw [TalkSites.bigSepL_perm (show lanes.Perm (subs.map (Prod.mk 0) ++ subs.map (Prod.mk 1)) by decide) (by decide), bigSepL_append, bigSepL_map, bigSepL_map]
omit [FloatOps F] in
theorem lanes'_eq (Φ : Fin 2 × Fin 4 → sProp 𝕄) : bigSepL lanes' Φ = bigSepL lanes Φ :=
  TalkSites.bigSepL_perm (by decide) (by decide) Φ

/-- A rule for each element run over a list. -/
theorem wp_over (c : Dev nD) {A : Type} (f : A → TProg F → TProg F) (ev : A → List Ev) (Pre Post : A → sProp 𝕄) (E : sProp 𝕄) [BI.Persistent E] (i : ℕ)
    (h : ∀ a ls P (Q : PUnit → sProp 𝕄), Hi i (ev a ++ ls) → iprop(E ∗ Duty c (ev a ++ ls) ∗ Pre a) ⊢ iprop(((Duty c ls ∗ Post a) -∗ Wp c P Q) -∗ Wp c (f a P) Q)) :
    ∀ (L : List A) (ls : List Ev) (P : TProg F) (Q : PUnit → sProp 𝕄), Hi i (L.flatMap ev ++ ls) →
      iprop(E ∗ Duty c (L.flatMap ev ++ ls) ∗ bigSepL L Pre) ⊢ iprop(((Duty c ls ∗ bigSepL L Post) -∗ Wp c P Q) -∗ Wp c (overP f L P) Q)
  | [], ls, P, Q, _ => by
    show iprop(E ∗ Duty c ls ∗ emp) ⊢ iprop(((Duty c ls ∗ emp) -∗ Wp c P Q) -∗ Wp c P Q)
    iintro ⟨-, HD, He⟩ Hk
    iapply Hk
    isplitl [HD] <;> iassumption
  | a :: L, ls, P, Q, hl => by
    rw [bigSepL_cons', bigSepL_cons', List.flatMap_cons, List.append_assoc] at *
    iintro ⟨#HE, HD, Ha, HL⟩ Hk
    rw [overP]
    iapply (h a (L.flatMap ev ++ ls) (overP f L P) Q hl) $$ [HD Ha]
    · isplitr; · iexact HE
      isplitl [HD] <;> iassumption
    iintro ⟨HD, Ha⟩
    iapply (wp_over c f ev Pre Post E i h L ls P Q hl.right) $$ [HD HL]
    · isplitr; · iexact HE
      isplitl [HD] <;> iassumption
    iintro ⟨HD, HL⟩
    iapply Hk
    isplitl [HD]; · iexact HD
    isplitl [Ha] <;> iassumption

/-! ## A step's parts -/

/-- Both directions of: the handings made so far by device `c`; those taken; a handing; what it frees. -/
def AtX (c : Dev nD) (p : Fin 2) (k : ℕ) : sProp 𝕄 := iprop(atPos EX (bwd 0 c, p, 0) k ∅ 0 ∗ atPos EX (bwd 1 c, p, 1) k ∅ 0)
def Take2 (c : Dev nD) (p : Fin 2) (n : ℕ) : sProp 𝕄 := iprop(Taken c p 0 n ∗ Taken c p 1 n)
def Free2 (c : Dev nD) (p : Fin 2) (k : ℕ) : sProp 𝕄 := iprop(freed (bwd 0 c) p 0 k ∗ freed (bwd 1 c) p 1 k)
def Get2 (c : Dev nD) (p : Fin 2) (k : ℕ) : sProp 𝕄 := iprop(freed c p 0 k ∗ freed c p 1 k)

/-- The rows of chunk `j` of both directions, with some contents; with the device's own partial product. -/
def Rows (c : Dev nD) (j : ℕ) : sProp 𝕄 := bigSepL lanes (fun l => hasAny c (rowM (chunk l.1 c j) l.1 l.2))
def Own (part : Parts F) (c : Dev nD) (j : ℕ) : sProp 𝕄 := bigSepL lanes (fun l => has c (rowM (chunk l.1 c j) l.1 l.2) (own4 part c l.1 l.2 j))

section Parts

variable (part : Parts F) (κ : NameK) (κx : NameX) (c : Dev nD)

theorem wp_give2 (p : Fin 2) (k : ℕ) (hk : k < units p) (ls : List Ev) (P : TProg F) {Q : PUnit → sProp 𝕄} :
    iprop(Env part κ κx ∗ Duty c (.cr p k 0 :: .cr p k 1 :: ls) ∗ AtX c p k ∗ Free2 c p k)
      ⊢ iprop(((Duty c ls ∗ AtX c p (k + 1)) -∗ Wp c P Q) -∗ Wp c (crSignalP c p P) Q) := by
  unfold AtX Free2 crSignalP
  iintro ⟨#HE, HD, ⟨HA, HA'⟩, HF, HF'⟩ Hk
  iapply (wp_give part κ κx c p 0 k hk) $$ [HD HA HF]
  · isplitr; · iexact HE
    isplitl [HD]; · iexact HD
    isplitl [HA] <;> iassumption
  iintro ⟨HD, HA⟩
  iapply (wp_give part κ κx c p 1 k hk) $$ [HD HA' HF']
  · isplitr; · iexact HE
    isplitl [HD]; · iexact HD
    isplitl [HA']
    · iexact HA'
    iexact HF'
  iintro ⟨HD, HA'⟩
  iapply Hk
  isplitl [HD]; · iexact HD
  isplitl [HA]
  · iexact HA
  iexact HA'

theorem wp_get2 (p : Fin 2) (n i : ℕ) (hi : ∀ d, Ev.lvl (.cr p n d) = i) (h40 : i < 40) (ls : List Ev) (hl : Hi i ls) (P : TProg F) {Q : PUnit → sProp 𝕄} :
    iprop(Env part κ κx ∗ Duty c ls ∗ Take2 c p n ∗ bigSepL [.cr p n 0, .cr p n 1] (wcr c))
      ⊢ iprop(((Duty c ls ∗ Take2 c p (n + 1) ∗ Get2 c p n) -∗ Wp c P Q) -∗ Wp c (crWaitP p P) Q) := by
  unfold Take2 Get2 crWaitP
  rw [bigSepL_cons', bigSepL_singleton]
  iintro ⟨#HE, HD, ⟨HA, HA'⟩, HF, HF'⟩ Hk
  iapply (wp_get part κ κx c p 0 n i (hi 0) h40 ls hl) $$ [HD HA HF]
  · isplitr; · iexact HE
    isplitl [HD]; · iexact HD
    isplitl [HF] <;> iassumption
  iintro ⟨HD, HA, HG⟩
  iapply (wp_get part κ κx c p 1 n i (hi 1) h40 ls hl) $$ [HD HA' HF']
  · isplitr; · iexact HE
    isplitl [HD]; · iexact HD
    isplitl [HF']
    · iexact HF'
    iexact HA'
  iintro ⟨HD, HA', HG'⟩
  iapply Hk
  isplitl [HD]; · iexact HD
  isplitl [HA HA']
  · isplitl [HA]
    · iexact HA
    iexact HA'
  isplitl [HG]
  · iexact HG
  iexact HG'

variable (kv : FVec F S4x1024 .f32) (w : FVec F S1024x1024 .bf16) (q : Fin 2 → PosShare TreeShare) (x : FVec F S2x4096x1024 .f32)

/-- Both staging slots at rest. -/
def Idle2 : sProp 𝕄 := iprop(Idle c 0 (q 0) x ∗ Idle c 1 (q 1) x)

theorem wp_comp' (h : Fin 2) (hpart : ∀ g, part c g h = half kv w (staged x g h)) (g : Fin 8) (ls : List Ev) (hl : Hi 0 ls) (P : TProg F) {Q : PUnit → sProp 𝕄} :
    iprop(Env part κ κx ∗ Duty c ls ∗ Busy c h (q h) x g ∗ bigSepL subs (fun sub => hasAny c (rowM g h sub)))
      ⊢ iprop(((Duty c ls ∗ Idle c h (q h) x ∗ bigSepL subs (fun sub => has c (rowM g h sub) (sub4 (part c g h) sub))) -∗ Wp c P Q)
        -∗ Wp c (halfP kv w g h P) Q) := by
  unfold Duty
  rw [hpart]
  iintro ⟨#HE, ⟨⟨%W, HO⟩, Ht⟩, HB, HR⟩ Hk
  iapply (wp_comp c h (q h) x kv w g P ls hl W) $$ [HO HB HR]
  · isplitr; · iapply (Env.lev part κ κx); iexact HE
    isplitl [HB]; · iexact HB
    isplitl [HO] <;> iassumption
  iintro ⟨HI, HO, HR⟩
  iapply Hk
  isplitl [HO Ht]
  · isplitl [HO] <;> iassumption
  isplitl [HI] <;> iassumption

/-- Both half chunks of a step computed. -/
theorem wp_pair (hpart : ∀ g h, part c g h = half kv w (staged x g h)) (j : ℕ) (ls : List Ev) (hl : Hi 0 ls) (P : TProg F) {Q : PUnit → sProp 𝕄} :
    iprop(Env part κ κx ∗ Duty c ls ∗ Idle2 c q x ∗ Rows c j)
      ⊢ iprop(((Duty c ls ∗ Idle2 c q x ∗ Own part c j) -∗ Wp c P Q) -∗ Wp c (pairP kv w c j P) Q) := by
  unfold Idle2 Rows Own pairP
  rw [lanes_eq, lanes_eq]
  iintro ⟨#HE, HD, ⟨HI, HI'⟩, HR, HR'⟩ Hk
  iapply (wp_start c 0 (q 0) x (chunk 0 c j)) $$ HI
  iintro HB
  iapply (wp_start c 1 (q 1) x (chunk 1 c j)) $$ HI'
  iintro HB'
  iapply (wp_comp' part κ κx c kv w q x 0 (fun g => hpart g 0) (chunk 0 c j) ls hl) $$ [HD HB HR]
  · isplitr; · iexact HE
    isplitl [HD]; · iexact HD
    isplitl [HB] <;> iassumption
  iintro ⟨HD, HI, HR⟩
  iapply (wp_comp' part κ κx c kv w q x 1 (fun g => hpart g 1) (chunk 1 c j) ls hl) $$ [HD HB' HR']
  · isplitr; · iexact HE
    isplitl [HD]; · iexact HD
    isplitl [HB']
    · iexact HB'
    iexact HR'
  iintro ⟨HD, HI', HR'⟩
  iapply Hk
  isplitl [HD]; · iexact HD
  isplitl [HI HI']
  · isplitl [HI]
    · iexact HI
    iexact HI'
  isplitl [HR]
  · iexact HR
  iexact HR'

end Parts

end Cert.K

end
-- ==== Proof.Scatter.lean ====
/-
The scatter's steps, and its loop.
-/
module

public import proofs.«01_k».proof.Proof.Lists

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Scatter

variable (part : Parts F) (κ : NameK) (κx : NameX) (c : Dev nD)
variable (kv : FVec F S4x1024 .f32) (w : FVec F S1024x1024 .bf16) (q : Fin 2 → PosShare TreeShare) (x : FVec F S2x4096x1024 .f32)

/-- The rows sent and back: of chunks `0 … s - 1`. -/
def Done : ℕ → sProp 𝕄
  | 0 => iprop(emp)
  | s + 1 => iprop(Rows c s ∗ Done s)
/-- The rows not yet computed: of the last `n` chunks. -/
def Todo : ℕ → sProp 𝕄
  | 0 => iprop(emp)
  | n + 1 => iprop(Rows c (7 - n) ∗ Todo n)
/-- The slots freed by the steps before `s` and not handed back. -/
def Back : ℕ → sProp 𝕄
  | 0 => iprop(emp)
  | s + 1 => iprop((if s < 5 then emp else Free2 c 0 s) ∗ Back s)

/-- The lanes before step `s`: the transfers under way and the rows to add to; after the last step, the sums. -/
def Under (s : ℕ) : sProp 𝕄 :=
  if s < 7 then iprop(bigSepL lanes (RIn c s) ∗ Own part c (s + 1))
  else iprop(bigSepL lanes (RPos c 7) ∗ bigSepL lanes (fun l => has c (rowM (chunk l.1 c 7) l.1 l.2) (scat part l.1 l.2 c 7)))

/-- The neighbour's slots for message `s`. -/
def Perms (s : ℕ) : sProp 𝕄 := bigSepL lanes (fun l => permR c l.1 s l.2)

/-- The device before step `s` of the scatter. -/
def RSt (s : ℕ) : sProp 𝕄 :=
  iprop(Under part c s ∗ (if s = 0 then Perms c 1 else emp) ∗ Take2 c 0 (min (s - 1) 5) ∗ AtX c 0 (min s 5) ∗ Done c s ∗ Todo c (6 - s) ∗ Idle2 c q x ∗ Back c s)

omit [FloatOps F] in
theorem get_perms (s : ℕ) : Get2 (F := F) c 0 s ⊢ Perms c (s + 2) := by
  unfold Get2 Perms freed
  rw [lanes_eq]
  exact .rfl
omit [FloatOps F] in
theorem free_perms (s : ℕ) : bigSepL lanes (fun l => permR (F := F) (bwd l.1 c) l.1 (s + 2) l.2) ⊢ Free2 c 0 s := by
  unfold Free2 freed
  rw [lanes_eq]
  exact .rfl

omit [FloatOps F] in
theorem lemp {I : Type} (l : List I) : (emp : sProp 𝕄) ⊢ bigSepL l (fun _ => iprop(emp)) := by
  induction l with
  | nil => exact .rfl
  | cons a l ih =>
    rw [bigSepL_cons']
    iintro -
    isplitl []; · iempintro
    iapply ih
    iempintro
omit [FloatOps F] in
theorem perms_lanes (s : ℕ) : (if s < 6 then Perms (F := F) c (s + 1) else iprop(emp)) ⊢ bigSepL lanes (fun l => if s < 6 then permR c l.1 (s + 1) l.2 else iprop(emp)) := by
  by_cases h6 : s < 6
  · simp only [if_pos h6]; exact .rfl
  · simp only [if_neg h6]; exact lemp lanes

theorem wp_rsTake (s : ℕ) (hs : s < 7) (ls : List Ev) (hl : Hi (2 * s + 3) ls) (P : TProg F) {Q : PUnit → sProp 𝕄} :
    iprop(Env part κ κx ∗ Duty c ls ∗ (if s = 0 then Perms c 1 else emp) ∗ Take2 c 0 (min (s - 1) 5) ∗ bigSepL (if 1 ≤ s ∧ s < 6 then [.cr 0 (s - 1) 0, .cr 0 (s - 1) 1] else []) (wcr c))
      ⊢ iprop(((Duty c ls ∗ (if s < 6 then Perms c (s + 1) else emp) ∗ Take2 c 0 (min s 5)) -∗ Wp c P Q) -∗ Wp c (if 1 ≤ s ∧ s < 6 then crWaitP 0 P else P) Q) := by
  by_cases h : 1 ≤ s ∧ s < 6
  · obtain ⟨n, rfl⟩ : ∃ n, s = n + 1 := ⟨s - 1, by omega⟩
    rw [if_pos h, if_pos h, if_neg (Nat.succ_ne_zero n), if_pos h.2, show min (n + 1 - 1) 5 = n by omega, show min (n + 1) 5 = n + 1 by omega, show n + 1 - 1 = n by omega]
    iintro ⟨#HE, HD, -, HT, Hc⟩ Hk
    iapply (wp_get2 part κ κx c 0 n (2 * n + 5) (fun _ => rfl) (by omega) ls (hl.mono (by omega))) $$ [HD HT Hc]
    · isplitr; · iexact HE
      isplitl [HD]; · iexact HD
      isplitl [HT] <;> iassumption
    iintro ⟨HD, HT, HG⟩
    iapply Hk
    isplitl [HD]; · iexact HD
    isplitl [HG]
    · iapply (get_perms c n); iexact HG
    iexact HT
  · rw [if_neg h, if_neg h]
    have hs' : s = 0 ∨ s = 6 := by omega
    rcases hs' with rfl | rfl
    · rw [if_pos rfl, if_pos (by decide)]
      iintro ⟨#HE, HD, HP, HT, -⟩ Hk
      iapply Hk
      isplitl [HD]; · iexact HD
      isplitl [HP] <;> iassumption
    · rw [if_neg (by decide), if_neg (by decide), show min (6 - 1) 5 = min 6 5 from rfl]
      iintro ⟨#HE, HD, HP, HT, -⟩ Hk
      iapply Hk
      isplitl [HD]; · iexact HD
      isplitl [HP] <;> iassumption

theorem rsStep_lanes (s : ℕ) (ls : List Ev) : (if s < 6 then lanes.map (fun l => Ev.rs (s + 1) l.1 l.2) else []) ++ ls = lanes.flatMap (rEv s) ++ ls := by
  unfold rEv
  split <;> rfl

theorem wp_rsLanes (s : ℕ) (hs : s < 7) (ls : List Ev) (hl : Hi (2 * s + 3) ((if s < 6 then lanes.map (fun l => Ev.rs (s + 1) l.1 l.2) else []) ++ ls)) (P : TProg F) {Q : PUnit → sProp 𝕄} :
    iprop(Env part κ κx ∗ Duty c ((if s < 6 then lanes.map (fun l => Ev.rs (s + 1) l.1 l.2) else []) ++ ls) ∗ Under part c s ∗ (if s < 6 then Perms c (s + 1) else emp)
        ∗ bigSepL (lanes.map fun l => Ev.rs s l.1 l.2) (wcr c))
      ⊢ iprop(((Duty c ls ∗ (if s < 6 then bigSepL lanes (RIn c (s + 1))
            else iprop(bigSepL lanes (RPos c 7) ∗ bigSepL lanes (fun l => has c (rowM (chunk l.1 c 7) l.1 l.2) (scat part l.1 l.2 c 7))))
          ∗ Free2 c 0 s ∗ Rows c s) -∗ Wp c P Q) -∗ Wp c (overP (rsLaneP c s) lanes P) Q) := by
  rw [rsStep_lanes] at *
  rw [bigSepL_map]
  have hpre : iprop(Under part c s ∗ (if s < 6 then Perms c (s + 1) else emp) ∗ bigSepL lanes (fun l => wcr c (.rs s l.1 l.2))) ⊢ bigSepL lanes (RPre part c s) := by
    unfold Under RPre
    rw [if_pos hs]
    iintro ⟨⟨HI, HO⟩, HP, Hc⟩
    iapply (lsep lanes (RIn c s) _).2
    isplitl [HI]; · iexact HI
    iapply (lsep lanes _ _).2
    isplitl [HO]
    · unfold Own; iexact HO
    iapply (lsep lanes _ _).2
    isplitl [Hc]; · iexact Hc
    iapply (perms_lanes c s); iexact HP
  have hpost : bigSepL lanes (RPost part c s) ⊢ iprop((if s < 6 then bigSepL lanes (RIn c (s + 1))
            else iprop(bigSepL lanes (RPos c 7) ∗ bigSepL lanes (fun l => has c (rowM (chunk l.1 c 7) l.1 l.2) (scat part l.1 l.2 c 7))))
          ∗ Free2 c 0 s ∗ Rows c s) := by
    unfold RPost
    iintro H
    ihave H := (lsep lanes _ _).1 $$ H
    icases H with ⟨HI, H⟩
    ihave H := (lsep lanes _ _).1 $$ H
    icases H with ⟨HF, HR⟩
    isplitl [HI]
    · by_cases h6 : s < 6
      · rw [if_pos h6]
        iapply (bigSepL_mono (l := lanes) fun l _ => Entails.of_eq (if_pos h6)) $$ HI
      · rw [if_neg h6]
        iapply (lsep lanes _ _).1
        iapply (bigSepL_mono (l := lanes) fun l _ => Entails.of_eq (if_neg h6)) $$ HI
    isplitl [HF]
    · iapply (free_perms c s); iexact HF
    unfold Rows; iexact HR
  iintro ⟨#HE, HD, HU, HP, Hc⟩ Hk
  ihave Hpre := hpre $$ [HU HP Hc]
  · isplitl [HU]; · iexact HU
    isplitl [HP] <;> iassumption
  iapply (wp_over c (rsLaneP c s) (rEv s) (RPre part c s) (RPost part c s) (Env part κ κx) (2 * s + 3) (fun l ls P Q hl => wp_rsLane part κ κx c s hs l ls hl P) lanes ls P Q hl) $$ [HD Hpre]
  · isplitr; · iexact HE
    isplitl [HD] <;> iassumption
  iintro ⟨HD, Hpost⟩
  iapply Hk
  isplitl [HD]; · iexact HD
  iapply hpost; iexact Hpost

theorem wp_rsGive (s : ℕ) (ls : List Ev) (P : TProg F) {Q : PUnit → sProp 𝕄} :
    iprop(Env part κ κx ∗ Duty c ((if s < 5 then [.cr 0 s 0, .cr 0 s 1] else []) ++ ls) ∗ AtX c 0 (min s 5) ∗ Free2 c 0 s ∗ Back c s)
      ⊢ iprop(((Duty c ls ∗ AtX c 0 (min (s + 1) 5) ∗ Back c (s + 1)) -∗ Wp c P Q) -∗ Wp c (if s < 5 then crSignalP c 0 P else P) Q) := by
  rw [Back]
  by_cases h : s < 5
  · rw [if_pos h, if_pos h, if_pos h, show min s 5 = s by omega, show min (s + 1) 5 = s + 1 by omega]
    iintro ⟨#HE, HD, HA, HF, HB⟩ Hk
    iapply (wp_give2 part κ κx c 0 s h ls) $$ [HD HA HF]
    · isplitr; · iexact HE
      isplitl [HD]; · iexact HD
      isplitl [HA] <;> iassumption
    iintro ⟨HD, HA⟩
    iapply Hk
    isplitl [HD]; · iexact HD
    isplitl [HA]; · iexact HA
    isplitr; · iempintro
    iexact HB
  · rw [if_neg h, if_neg h, if_neg h, show min s 5 = 5 by omega, show min (s + 1) 5 = 5 by omega]
    iintro ⟨#HE, HD, HA, HF, HB⟩ Hk
    iapply Hk
    isplitl [HD]; · iexact HD
    isplitl [HA]; · iexact HA
    isplitl [HF] <;> iassumption

theorem wp_rsPair (hpart : ∀ g h, part c g h = half kv w (staged x g h)) (s : ℕ) (hs : s < 7) (ls : List Ev) (hl : Hi 0 ls) (P : TProg F) {Q : PUnit → sProp 𝕄} :
    iprop(Env part κ κx ∗ Duty c ls ∗ Todo c (6 - s) ∗ Idle2 c q x)
      ⊢ iprop(((Duty c ls ∗ Todo c (6 - (s + 1)) ∗ Idle2 c q x ∗ (if s < 6 then Own part c (s + 2) else emp)) -∗ Wp c P Q)
        -∗ Wp c (if s < 6 then pairP kv w c (s + 2) P else P) Q) := by
  by_cases h : s < 6
  · obtain ⟨n, hn⟩ : ∃ n, 6 - s = n + 1 := ⟨5 - s, by omega⟩
    rw [if_pos h, if_pos h, hn, show 6 - (s + 1) = n by omega, Todo, show 7 - n = s + 2 by omega]
    iintro ⟨#HE, HD, ⟨HR, HT⟩, HI⟩ Hk
    iapply (wp_pair part κ κx c kv w q x hpart (s + 2) ls hl) $$ [HD HI HR]
    · isplitr; · iexact HE
      isplitl [HD]; · iexact HD
      isplitl [HI] <;> iassumption
    iintro ⟨HD, HI, HO⟩
    iapply Hk
    isplitl [HD]; · iexact HD
    isplitl [HT]; · iexact HT
    isplitl [HI] <;> iassumption
  · rw [if_neg h, if_neg h, show 6 - s = 0 by omega, show 6 - (s + 1) = 0 by omega]
    iintro ⟨#HE, HD, HT, HI⟩ Hk
    iapply Hk
    isplitl [HD]; · iexact HD
    isplitl [HT]; · iexact HT
    isplitl [HI]; · iexact HI
    iempintro

/-- One step of the scatter. -/
theorem wp_rsStep (hpart : ∀ g h, part c g h = half kv w (staged x g h)) (s : ℕ) (hs : s < 7) (ls : List Ev) (hl : Hi (2 * s + 3) (rsStepEv s ++ ls)) (P : TProg F) {Q : PUnit → sProp 𝕄} :
    iprop(Env part κ κx ∗ Duty c (rsStepEv s ++ ls) ∗ RSt part c q x s ∗ bigSepL (rsStepW s) (wcr c))
      ⊢ iprop(((Duty c ls ∗ RSt part c q x (s + 1)) -∗ Wp c P Q) -∗ Wp c (rsStepP kv w c s P) Q) := by
  unfold RSt rsStepP rsStepW
  rw [rsStepEv, List.append_assoc] at *
  rw [bigSepL_append, show s + 1 - 1 = s by omega, if_neg (Nat.succ_ne_zero s)]
  iintro ⟨#HE, HD, ⟨HU, HP, HT, HA, HDn, HTd, HI, HB⟩, Hc1, Hc2⟩ Hk
  iapply (wp_rsTake part κ κx c s hs _ hl) $$ [HD HP HT Hc1]
  · isplitr; · iexact HE
    isplitl [HD]; · iexact HD
    isplitl [HP]; · iexact HP
    isplitl [HT] <;> iassumption
  iintro ⟨HD, HP, HT⟩
  iapply (wp_rsLanes part κ κx c s hs _ hl) $$ [HD HU HP Hc2]
  · isplitr; · iexact HE
    isplitl [HD]; · iexact HD
    isplitl [HU]; · iexact HU
    isplitl [HP] <;> iassumption
  iintro ⟨HD, HU, HF, HR⟩
  iapply (wp_rsGive part κ κx c s ls) $$ [HD HA HF HB]
  · isplitr; · iexact HE
    isplitl [HD]; · iexact HD
    isplitl [HA]; · iexact HA
    isplitl [HF] <;> iassumption
  iintro ⟨HD, HA, HB⟩
  iapply (wp_rsPair part κ κx c kv w q x hpart s hs ls (hl.right.right.mono (Nat.zero_le _))) $$ [HD HTd HI]
  · isplitr; · iexact HE
    isplitl [HD]; · iexact HD
    isplitl [HTd] <;> iassumption
  iintro ⟨HD, HTd, HI, HO⟩
  iapply Hk
  isplitl [HD]; · iexact HD
  isplitl [HU HO]
  · unfold Under
    by_cases h6 : s < 6
    · ihave HU := (ite_elim h6 _ _) $$ HU
      ihave HO := (ite_elim h6 _ _) $$ HO
      rw [if_pos (show s + 1 < 7 by omega)]
      isplitl [HU] <;> iassumption
    · ihave HU := (ite_elim' h6 _ _) $$ HU
      rw [if_neg (show ¬ s + 1 < 7 by omega)]
      iexact HU
  isplitr; · iempintro
  isplitl [HT]; · iexact HT
  isplitl [HA]; · iexact HA
  isplitl [HDn HR]
  · rw [Done]
    isplitl [HR] <;> iassumption
  isplitl [HTd]; · iexact HTd
  isplitl [HI] <;> iassumption

/-- The scatter's loop, the gather following. -/
theorem wp_rsLoop (hpart : ∀ g h, part c g h = half kv w (staged x g h)) {Q : PUnit → sProp 𝕄} :
    ∀ (n s : ℕ), s + n = 7 →
      iprop(Env part κ κx ∗ Duty c (rsEv n) ∗ RSt part c q x s ∗ bigSepL (rsW n) (wcr c))
        ⊢ iprop(((Duty c (rsEv 0) ∗ RSt part c q x 7 ∗ bigSepL (rsW 0) (wcr c)) -∗ Wp c (rsLoopP kv w c 0) Q) -∗ Wp c (rsLoopP kv w c n) Q)
  | 0, s, h => by
    obtain rfl : s = 7 := by omega
    iintro ⟨#HE, HD, HS, HW⟩ Hk
    iapply Hk
    isplitl [HD]; · iexact HD
    isplitl [HS] <;> iassumption
  | n + 1, s, h => by
    obtain rfl : s = 6 - n := by omega
    have hl : Hi (2 * (6 - n) + 3) (rsStepEv (6 - n) ++ rsEv n) := by
      have := hi_rs (n + 1) (by omega)
      rwa [show 7 - (n + 1) = 6 - n by omega] at this
    rw [show rsW (n + 1) = rsStepW (6 - n) ++ rsW n from rfl, show rsEv (n + 1) = rsStepEv (6 - n) ++ rsEv n from rfl,
      show rsLoopP kv w c (n + 1) = rsStepP kv w c (6 - n) (rsLoopP kv w c n) from rfl, bigSepL_append]
    iintro ⟨#HE, HD, HS, HW1, HW⟩ Hk
    iapply (wp_rsStep part κ κx c kv w q x hpart (6 - n) (by omega) (rsEv n) hl) $$ [HD HS HW1]
    · isplitr; · iexact HE
      isplitl [HD]; · iexact HD
      isplitl [HS] <;> iassumption
    iintro ⟨HD, HS⟩
    iapply (wp_rsLoop hpart n (6 - n + 1) (by omega)) $$ [HD HS HW]
    · isplitr; · iexact HE
      isplitl [HD]; · iexact HD
      isplitl [HS] <;> iassumption
    iexact Hk

end Scatter

end Cert.K

end
-- ==== Proof.Gather.lean ====
/-
The gather's steps, and its loop.
-/
module

public import proofs.«01_k».proof.Proof.Scatter

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Gather

variable (part : Parts F) (κ : NameK) (κx : NameX) (c : Dev nD)

/-- The rows still to be written: of chunks `7 - n … 6`. -/
def ATodo : ℕ → sProp 𝕄
  | 0 => iprop(emp)
  | n + 1 => iprop(Rows c (6 - n) ∗ ATodo n)
/-- The rows written by the steps before `s`. -/
def AFin : ℕ → sProp 𝕄
  | 0 => iprop(emp)
  | s + 1 => iprop(bigSepL lanes (fun l => has c (rowM (chunk l.1 c s) l.1 l.2) (gath part l.1 l.2 (bwd l.1 c) s)) ∗ AFin s)
/-- The slots freed by the steps before `s` and not handed back. -/
def ABack : ℕ → sProp 𝕄
  | 0 => iprop(emp)
  | s + 1 => iprop((if s < 5 then emp else Free2 c 1 (s - 1)) ∗ ABack s)

/-- The lanes before step `s`. -/
def AUnder (s : ℕ) : sProp 𝕄 :=
  if s < 7 then bigSepL lanes (AIn part c s)
  else iprop(bigSepL lanes (APos c 7) ∗ bigSepL lanes (fun l => hasAny c (agM l.1 l.2 (sl3 6))))

/-- The neighbour's slots for message `s`. -/
def PermsA (s : ℕ) : sProp 𝕄 := bigSepL lanes (fun l => permA c l.1 s l.2)
/-- The device's own sum, back from the first transfer. -/
def Sum7 : sProp 𝕄 := bigSepL lanes (fun l => has c (rowM (chunk l.1 c 7) l.1 l.2) (gath part l.1 l.2 c 0))

/-- The device before step `s` of the gather. -/
def ASt (s : ℕ) : sProp 𝕄 :=
  iprop(AUnder part c s ∗ ((if s = 0 then PermsA c 1 else emp) ∗ (if s ≤ 1 then PermsA c 2 else emp)) ∗ Take2 c 1 (min (s - 2) 4) ∗ AtX c 1 (min (s - 1) 4)
    ∗ ATodo c (7 - s) ∗ AFin part c s ∗ (if s = 0 then emp else Sum7 part c) ∗ ABack c s)

omit [FloatOps F] in
theorem get_permsA (s : ℕ) : Get2 (F := F) c 1 s ⊢ PermsA c (s + 3) := by
  unfold Get2 PermsA freed
  rw [lanes_eq]
  exact .rfl
omit [FloatOps F] in
theorem free_permsA (s : ℕ) (h : 1 ≤ s) : bigSepL lanes (fun l => permA (F := F) (bwd l.1 c) l.1 (s + 2) l.2) ⊢ Free2 c 1 (s - 1) := by
  obtain ⟨n, rfl⟩ : ∃ n, s = n + 1 := ⟨s - 1, by omega⟩
  unfold Free2 freed
  rw [lanes_eq]
  exact .rfl
omit [FloatOps F] in
theorem permsA_lanes (s : ℕ) : (if s < 6 then PermsA (F := F) c (s + 1) else iprop(emp)) ⊢ bigSepL lanes (fun l => if s < 6 then permA c l.1 (s + 1) l.2 else iprop(emp)) := by
  by_cases h6 : s < 6
  · simp only [if_pos h6]; exact .rfl
  · simp only [if_neg h6]; exact lemp lanes

theorem wp_agTake (s : ℕ) (hs : s < 7) (ls : List Ev) (hl : Hi (2 * s + 21) ls) (P : TProg F) {Q : PUnit → sProp 𝕄} :
    iprop(Env part κ κx ∗ Duty c ls ∗ ((if s = 0 then PermsA c 1 else emp) ∗ (if s ≤ 1 then PermsA c 2 else emp)) ∗ Take2 c 1 (min (s - 2) 4)
        ∗ bigSepL (if 2 ≤ s ∧ s < 6 then [.cr 1 (s - 2) 0, .cr 1 (s - 2) 1] else []) (wcr c))
      ⊢ iprop(((Duty c ls ∗ (if s < 6 then PermsA c (s + 1) else emp) ∗ (if s = 0 then PermsA c 2 else emp) ∗ Take2 c 1 (min (s - 1) 4)) -∗ Wp c P Q)
        -∗ Wp c (if 2 ≤ s ∧ s < 6 then crWaitP 1 P else P) Q) := by
  by_cases h : 2 ≤ s ∧ s < 6
  · obtain ⟨n, rfl⟩ : ∃ n, s = n + 2 := ⟨s - 2, by omega⟩
    rw [if_pos h, if_pos h, if_neg (show ¬ n + 2 = 0 by omega), if_neg (show ¬ n + 2 ≤ 1 by omega), if_pos h.2, if_neg (show ¬ n + 2 = 0 by omega),
      show min (n + 2 - 2) 4 = n by omega, show min (n + 2 - 1) 4 = n + 1 by omega, show n + 2 - 2 = n by omega]
    iintro ⟨#HE, HD, -, HT, Hc⟩ Hk
    iapply (wp_get2 part κ κx c 1 n (2 * n + 25) (fun _ => rfl) (by omega) ls (hl.mono (by omega))) $$ [HD HT Hc]
    · isplitr; · iexact HE
      isplitl [HD]; · iexact HD
      isplitl [HT] <;> iassumption
    iintro ⟨HD, HT, HG⟩
    iapply Hk
    isplitl [HD]; · iexact HD
    isplitl [HG]
    · iapply (get_permsA c n); iexact HG
    isplitr; · iempintro
    iexact HT
  · rw [if_neg h, if_neg h]
    have hs' : s = 0 ∨ s = 1 ∨ s = 6 := by omega
    rcases hs' with rfl | rfl | rfl
    · rw [if_pos rfl, if_pos (by decide), if_pos (by decide), if_pos rfl, show min (0 - 2) 4 = min (0 - 1) 4 from rfl]
      iintro ⟨#HE, HD, ⟨HP, HP'⟩, HT, -⟩ Hk
      iapply Hk
      isplitl [HD]; · iexact HD
      isplitl [HP]; · iexact HP
      isplitl [HP'] <;> iassumption
    · rw [if_neg (by decide), if_pos (by decide), if_pos (by decide), if_neg (by decide), show min (1 - 2) 4 = min (1 - 1) 4 from rfl]
      iintro ⟨#HE, HD, ⟨-, HP⟩, HT, -⟩ Hk
      iapply Hk
      isplitl [HD]; · iexact HD
      isplitl [HP]; · iexact HP
      isplitr; · iempintro
      iexact HT
    · rw [if_neg (by decide), if_neg (by decide), if_neg (by decide), if_neg (by decide), show min (6 - 2) 4 = min (6 - 1) 4 from rfl]
      iintro ⟨#HE, HD, -, HT, -⟩ Hk
      iapply Hk
      isplitl [HD]; · iexact HD
      isplitr; · iempintro
      isplitr; · iempintro
      iexact HT

theorem agStep_lanes (s : ℕ) (ls : List Ev) : (if s < 6 then lanes.map (fun l => Ev.ag (s + 1) l.1 l.2) else []) ++ ls = lanes.flatMap (aEv s) ++ ls := by
  unfold aEv
  split <;> rfl

theorem wp_agLanes (s : ℕ) (hs : s < 7) (ls : List Ev) (hl : Hi (2 * s + 21) ((if s < 6 then lanes.map (fun l => Ev.ag (s + 1) l.1 l.2) else []) ++ ls)) (P : TProg F) {Q : PUnit → sProp 𝕄} :
    iprop(Env part κ κx ∗ Duty c ((if s < 6 then lanes.map (fun l => Ev.ag (s + 1) l.1 l.2) else []) ++ ls) ∗ AUnder part c s ∗ (if s < 6 then PermsA c (s + 1) else emp)
        ∗ bigSepL (lanes.map fun l => Ev.ag s l.1 l.2) (wcr c) ∗ Rows c s)
      ⊢ iprop(((Duty c ls ∗ AUnder part c (s + 1) ∗ (if s = 0 then Sum7 part c else Free2 c 1 (s - 1))
          ∗ bigSepL lanes (fun l => has c (rowM (chunk l.1 c s) l.1 l.2) (gath part l.1 l.2 (bwd l.1 c) s))) -∗ Wp c P Q) -∗ Wp c (overP (agLaneP c s) lanes P) Q) := by
  rw [agStep_lanes] at *
  rw [bigSepL_map]
  have hpre : iprop(AUnder part c s ∗ (if s < 6 then PermsA c (s + 1) else emp) ∗ bigSepL lanes (fun l => wcr c (.ag s l.1 l.2)) ∗ Rows c s) ⊢ bigSepL lanes (APre part c s) := by
    unfold AUnder APre
    rw [if_pos hs]
    iintro ⟨HI, HP, Hc, HR⟩
    iapply (lsep lanes (AIn part c s) _).2
    isplitl [HI]; · iexact HI
    iapply (lsep lanes _ _).2
    isplitl [HR]
    · unfold Rows; iexact HR
    iapply (lsep lanes _ _).2
    isplitl [Hc]; · iexact Hc
    iapply (permsA_lanes c s); iexact HP
  have hpost : bigSepL lanes (APost part c s) ⊢ iprop(AUnder part c (s + 1) ∗ (if s = 0 then Sum7 part c else Free2 c 1 (s - 1))
          ∗ bigSepL lanes (fun l => has c (rowM (chunk l.1 c s) l.1 l.2) (gath part l.1 l.2 (bwd l.1 c) s))) := by
    unfold APost AUnder
    iintro H
    ihave H := (lsep lanes _ _).1 $$ H
    icases H with ⟨HI, H⟩
    ihave H := (lsep lanes _ _).1 $$ H
    icases H with ⟨HF, HR⟩
    isplitl [HI]
    · by_cases h6 : s < 6
      · rw [if_pos (show s + 1 < 7 by omega)]
        iapply (bigSepL_mono (l := lanes) fun l _ => Entails.of_eq (if_pos h6)) $$ HI
      · rw [if_neg (show ¬ s + 1 < 7 by omega)]
        iapply (lsep lanes _ _).1
        iapply (bigSepL_mono (l := lanes) fun l _ => Entails.of_eq (if_neg h6)) $$ HI
    isplitl [HF]
    · by_cases h0 : s = 0
      · rw [if_pos h0]
        unfold Sum7
        iapply (bigSepL_mono (l := lanes) fun l _ => Entails.of_eq (if_pos h0)) $$ HF
      · rw [if_neg h0]
        iapply (free_permsA c s (by omega))
        iapply (bigSepL_mono (l := lanes) fun l _ => Entails.of_eq (if_neg h0)) $$ HF
    iexact HR
  iintro ⟨#HE, HD, HU, HP, Hc, HR⟩ Hk
  ihave Hpre := hpre $$ [HU HP Hc HR]
  · isplitl [HU]; · iexact HU
    isplitl [HP]; · iexact HP
    isplitl [Hc] <;> iassumption
  iapply (wp_over c (agLaneP c s) (aEv s) (APre part c s) (APost part c s) (Env part κ κx) (2 * s + 21) (fun l ls P Q hl => wp_agLane part κ κx c s hs l ls hl P) lanes ls P Q hl) $$ [HD Hpre]
  · isplitr; · iexact HE
    isplitl [HD] <;> iassumption
  iintro ⟨HD, Hpost⟩
  iapply Hk
  isplitl [HD]; · iexact HD
  iapply hpost; iexact Hpost

theorem wp_agGive (s : ℕ) (ls : List Ev) (P : TProg F) {Q : PUnit → sProp 𝕄} :
    iprop(Env part κ κx ∗ Duty c ((if 1 ≤ s ∧ s < 5 then [.cr 1 (s - 1) 0, .cr 1 (s - 1) 1] else []) ++ ls) ∗ AtX c 1 (min (s - 1) 4)
        ∗ (if s = 0 then Sum7 part c else Free2 c 1 (s - 1)) ∗ (if s = 0 then emp else Sum7 part c) ∗ ABack c s)
      ⊢ iprop(((Duty c ls ∗ AtX c 1 (min s 4) ∗ Sum7 part c ∗ ABack c (s + 1)) -∗ Wp c P Q) -∗ Wp c (if 1 ≤ s ∧ s < 5 then crSignalP c 1 P else P) Q) := by
  rw [ABack]
  by_cases h : 1 ≤ s ∧ s < 5
  · rw [if_pos h, if_pos h, if_neg (show ¬ s = 0 by omega), if_neg (show ¬ s = 0 by omega), if_pos h.2, show min (s - 1) 4 = s - 1 by omega, show min s 4 = s - 1 + 1 by omega]
    iintro ⟨#HE, HD, HA, HF, H7, HB⟩ Hk
    iapply (wp_give2 part κ κx c 1 (s - 1) (show s - 1 < 4 by omega) ls) $$ [HD HA HF]
    · isplitr; · iexact HE
      isplitl [HD]; · iexact HD
      isplitl [HA] <;> iassumption
    iintro ⟨HD, HA⟩
    iapply Hk
    isplitl [HD]; · iexact HD
    isplitl [HA]; · iexact HA
    isplitl [H7]; · iexact H7
    isplitr; · iempintro
    iexact HB
  · rw [if_neg h, if_neg h]
    by_cases h0 : s = 0
    · subst h0
      rw [if_pos rfl, if_pos rfl, if_pos (by decide), show min (0 - 1) 4 = min 0 4 from rfl]
      iintro ⟨#HE, HD, HA, H7, -, HB⟩ Hk
      iapply Hk
      isplitl [HD]; · iexact HD
      isplitl [HA]; · iexact HA
      isplitl [H7]; · iexact H7
      isplitr; · iempintro
      iexact HB
    · rw [if_neg h0, if_neg h0, if_neg (show ¬ s < 5 by omega), show min (s - 1) 4 = 4 by omega, show min s 4 = 4 by omega]
      iintro ⟨#HE, HD, HA, HF, H7, HB⟩ Hk
      iapply Hk
      isplitl [HD]; · iexact HD
      isplitl [HA]; · iexact HA
      isplitl [H7]; · iexact H7
      isplitl [HF] <;> iassumption

/-- One step of the gather. -/
theorem wp_agStep (s : ℕ) (hs : s < 7) (ls : List Ev) (hl : Hi (2 * s + 21) (agStepEv s ++ ls)) (P : TProg F) {Q : PUnit → sProp 𝕄} :
    iprop(Env part κ κx ∗ Duty c (agStepEv s ++ ls) ∗ ASt part c s ∗ bigSepL (agStepW s) (wcr c))
      ⊢ iprop(((Duty c ls ∗ ASt part c (s + 1)) -∗ Wp c P Q) -∗ Wp c (agStepP c s P) Q) := by
  unfold ASt agStepP agStepW
  rw [agStepEv, List.append_assoc] at *
  obtain ⟨n, hn⟩ : ∃ n, 7 - s = n + 1 := ⟨6 - s, by omega⟩
  rw [bigSepL_append, show s + 1 - 2 = s - 1 by omega, show s + 1 - 1 = s by omega, if_neg (Nat.succ_ne_zero s), if_neg (Nat.succ_ne_zero s), hn, show 7 - (s + 1) = n by omega, ATodo, show 6 - n = s by omega, AFin]
  iintro ⟨#HE, HD, ⟨HU, HP, HT, HA, ⟨HR, HTd⟩, HFn, H7, HB⟩, Hc1, Hc2⟩ Hk
  iapply (wp_agTake part κ κx c s hs _ hl) $$ [HD HP HT Hc1]
  · isplitr; · iexact HE
    isplitl [HD]; · iexact HD
    isplitl [HP]; · iexact HP
    isplitl [HT] <;> iassumption
  iintro ⟨HD, HP, HP2, HT⟩
  iapply (wp_agLanes part κ κx c s hs _ hl) $$ [HD HU HP Hc2 HR]
  · isplitr; · iexact HE
    isplitl [HD]; · iexact HD
    isplitl [HU]; · iexact HU
    isplitl [HP]; · iexact HP
    isplitl [Hc2] <;> iassumption
  iintro ⟨HD, HU, HF, HR⟩
  iapply (wp_agGive part κ κx c s ls) $$ [HD HA HF HB H7]
  · isplitr; · iexact HE
    isplitl [HD]; · iexact HD
    isplitl [HA]; · iexact HA
    isplitl [HF]; · iexact HF
    isplitl [H7] <;> iassumption
  iintro ⟨HD, HA, H7, HB⟩
  iapply Hk
  isplitl [HD]; · iexact HD
  isplitl [HU]; · iexact HU
  isplitl [HP2]
  · isplitr; · iempintro
    by_cases h0 : s = 0
    · ihave HP2 := (ite_elim h0 _ _) $$ HP2
      rw [if_pos (show s + 1 ≤ 1 by omega)]
      iexact HP2
    · ihave HP2 := (ite_elim' h0 _ _) $$ HP2
      rw [if_neg (show ¬ s + 1 ≤ 1 by omega)]
      iexact HP2
  isplitl [HT]; · iexact HT
  isplitl [HA]; · iexact HA
  isplitl [HTd]; · iexact HTd
  isplitl [HR HFn]
  · isplitl [HR] <;> iassumption
  isplitl [H7]; · iexact H7
  iexact HB

/-- The gather's loop. -/
theorem wp_agLoop {Q : PUnit → sProp 𝕄} :
    ∀ (n s : ℕ), s + n = 7 →
      iprop(Env part κ κx ∗ Duty c (agEv n) ∗ ASt part c s ∗ bigSepL (agW n) (wcr c))
        ⊢ iprop(((Duty c [] ∗ ASt part c 7) -∗ Wp c (.ret ⟨⟩) Q) -∗ Wp c (agLoopP c n) Q)
  | 0, s, h => by
    obtain rfl : s = 7 := by omega
    iintro ⟨#HE, HD, HS, HW⟩ Hk
    iapply Hk
    isplitl [HD]; · iexact HD
    iexact HS
  | n + 1, s, h => by
    obtain rfl : s = 6 - n := by omega
    have hl : Hi (2 * (6 - n) + 21) (agStepEv (6 - n) ++ agEv n) := by
      have := hi_ag (n + 1) (by omega)
      rwa [show 7 - (n + 1) = 6 - n by omega] at this
    rw [show agW (n + 1) = agStepW (6 - n) ++ agW n from rfl, show agEv (n + 1) = agStepEv (6 - n) ++ agEv n from rfl,
      show agLoopP (F := F) c (n + 1) = agStepP c (6 - n) (agLoopP c n) from rfl, bigSepL_append]
    iintro ⟨#HE, HD, HS, HW1, HW⟩ Hk
    iapply (wp_agStep part κ κx c (6 - n) (by omega) (agEv n) hl) $$ [HD HS HW1]
    · isplitr; · iexact HE
      isplitl [HD]; · iexact HD
      isplitl [HS] <;> iassumption
    iintro ⟨HD, HS⟩
    iapply (wp_agLoop n (6 - n + 1) (by omega)) $$ [HD HS HW]
    · isplitr; · iexact HE
      isplitl [HD]; · iexact HD
      isplitl [HS] <;> iassumption
    iexact Hk

end Gather

end Cert.K

end
-- ==== Proof.Whole.lean ====
/-
The whole body of a device: the barrier, the first transfers, the scatter, the gather.
-/
module

public import proofs.«01_k».proof.Proof.Gather

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The whole body as its parts -/

/-- The body after its two loads. -/
def afterP (kv : FVec F S4x1024 .f32) (w : FVec F S1024x1024 .bf16) (c : Dev nD) : TProg F :=
  startP (chunk 0 c 0) 0 <| startP (chunk 1 c 0) 1 <|
  halfP kv w (chunk 0 c 0) 0 <| overP (fun sub => rsSendP c 0 sub (chunk 0 c 0) 0) subs <|
  halfP kv w (chunk 1 c 0) 1 <| overP (fun sub => rsSendP c 1 sub (chunk 1 c 0) 0) subs <|
  pairP kv w c 1 <| rsLoopP kv w c 7

theorem prog_eq (c : Dev nD) : prog (F := F) c =
  .op (.semSignal (Dev.tc (bwd 0 c)) barS (1#32 : BitVec 32).toInt) fun _ =>
  .op (.semSignal (Dev.tc (bwd 1 c)) barS (1#32 : BitVec 32).toInt) fun _ =>
  .op (.semWait barS (2#32 : BitVec 32).toInt) fun _ =>
  .op (.load kM (Rect.unit (s := S4x1024) ![0, 0] S4x1024.size inb_S4x1024_S4x1024_0_0).toLoadRect (View.loadsAt_vmem h_S4x1024)) fun (kv : Vec F S4x1024 .f32) =>
  .op (.load wM (Rect.unit (s := S1024x1024) ![0, 0] S1024x1024.size inb_S1024x1024_S1024x1024_0_0).toLoadRect (View.loadsAt_vmem h_S1024x1024)) fun (wv : Vec F S1024x1024 .f32) =>
  afterP (shapeCast S4x1024 kv shapeCasts_S4x1024_S4x1024) (truncf .bf16 (shapeCast S1024x1024 wv shapeCasts_S1024x1024_S1024x1024) bitsLt_bf16_f32) c := rfl

section Whole

variable (part : Parts F) (κ : NameK) (κx : NameX) (c : Dev nD)
variable (kv : FVec F S4x1024 .f32) (w : FVec F S1024x1024 .bf16) (q : Fin 2 → PosShare TreeShare) (x : FVec F S2x4096x1024 .f32)

/-! ## The first transfers -/

/-- What a device holds for both loops: its cells' positions, the ledgers', the rows still to be computed, the staging slots. -/
def Held : sProp 𝕄 :=
  iprop(bigSepL lanes (RPos c 0) ∗ bigSepL lanes (APos c 0) ∗ (Take2 c 0 0 ∗ Take2 c 1 0) ∗ (AtX c 0 0 ∗ AtX c 1 0) ∗ Idle2 c q x ∗ Rows c 0 ∗ Rows c 1 ∗ Todo c 6)

/-- The neighbours' slots the barrier hands over. -/
def Slots : sProp 𝕄 := iprop(bigSepL subs (barLane c 0) ∗ bigSepL subs (barLane c 1))

omit [FloatOps F] in
theorem slots_perms : Slots (F := F) c ⊢ iprop((bigSepL subs (fun sub => permR c 0 0 sub) ∗ bigSepL subs (fun sub => permR c 1 0 sub)) ∗ Perms c 1
    ∗ PermsA c 0 ∗ PermsA c 1 ∗ PermsA c 2) := by
  unfold Slots Perms PermsA
  rw [lanes_eq, lanes_eq, lanes_eq, lanes_eq]
  have h : ∀ d : Fin 2, bigSepL subs (barLane (F := F) c d) ⊢ iprop(bigSepL subs (fun sub => permR c d 0 sub) ∗ bigSepL subs (fun sub => permR c d 1 sub)
      ∗ bigSepL subs (fun sub => permA c d 0 sub) ∗ bigSepL subs (fun sub => permA c d 1 sub) ∗ bigSepL subs (fun sub => permA c d 2 sub)) := by
    intro d
    unfold barLane
    iintro H
    ihave H := (lsep subs _ _).1 $$ H
    icases H with ⟨HR, HA⟩
    ihave HR := (lsep subs _ _).1 $$ HR
    icases HR with ⟨HR0, HR1⟩
    ihave HA := (lsep subs _ _).1 $$ HA
    icases HA with ⟨HA0, HA⟩
    ihave HA := (lsep subs _ _).1 $$ HA
    icases HA with ⟨HA1, HA2⟩
    isplitl [HR0]; · iexact HR0
    isplitl [HR1]; · iexact HR1
    isplitl [HA0]; · iexact HA0
    isplitl [HA1] <;> iassumption
  iintro ⟨H, H'⟩
  ihave H := (h 0) $$ H
  icases H with ⟨HR0, HR1, HA0, HA1, HA2⟩
  ihave H' := (h 1) $$ H'
  icases H' with ⟨HR0', HR1', HA0', HA1', HA2'⟩
  isplitl [HR0 HR0']
  · isplitl [HR0] <;> iassumption
  isplitl [HR1 HR1']
  · isplitl [HR1] <;> iassumption
  isplitl [HA0 HA0']
  · isplitl [HA0] <;> iassumption
  isplitl [HA1 HA1']
  · isplitl [HA1] <;> iassumption
  isplitl [HA2] <;> iassumption

/-- The four first transfers of a direction. -/
theorem wp_rsFirst (d : Fin 2) (ls : List Ev) (P : TProg F) {Q : PUnit → sProp 𝕄} (hl : Hi 0 (subs.flatMap (fun sub => [Ev.rs 0 d sub]) ++ ls)) :
    iprop(Env part κ κx ∗ Duty c (subs.map (.rs 0 d ·) ++ ls) ∗ bigSepL subs (fun sub => has c (rowM (chunk d c 0) d sub) (sub4 (part c (chunk d c 0) d) sub))
        ∗ bigSepL subs (fun sub => permR c d 0 sub))
      ⊢ iprop(((Duty c ls ∗ bigSepL subs (fun sub => cred (tallyAt (cell c (.rsS d sub)) 0 N))) -∗ Wp c P Q)
        -∗ Wp c (overP (fun sub => rsSendP c d sub (chunk d c 0) 0) subs P) Q) := by
  iintro ⟨#HE, HD, HR, HP⟩ Hk
  iapply (wp_over c (fun sub => rsSendP c d sub (chunk d c 0) 0) (fun sub => [Ev.rs 0 d sub])
    (fun sub => iprop(has c (rowM (chunk d c 0) d sub) (sub4 (part c (chunk d c 0) d) sub) ∗ permR c d 0 sub))
    (fun sub => cred (tallyAt (cell c (.rsS d sub)) 0 N)) (Env part κ κx) 0
    (fun sub ls P Q _ => by
      iintro ⟨#HE, HD, HR, HP⟩ Hk
      iapply (wp_rsSend part κ κx c d sub 0 (by decide) ls P) $$ [HD HR HP]
      · isplitr; · iexact HE
        isplitl [HD]; · iexact HD
        isplitl [HR]; · iexact HR
        isplitl [HP]; · iexact HP
        iapply (Env.reached part κ κx c (.rsS d sub)); iexact HE
      iexact Hk) subs ls P Q hl) $$ [HD HR HP]
  · isplitr; · iexact HE
    isplitl [HD]; · iexact HD
    iapply (lsep subs _ _).2
    isplitl [HR] <;> iassumption
  iexact Hk

/-- The gather's first transfers: the device's own sum. -/
theorem wp_agFirst (ls : List Ev) (P : TProg F) {Q : PUnit → sProp 𝕄} (hl : Hi 0 (lanes'.flatMap (fun l => [Ev.ag 0 l.1 l.2]) ++ ls)) :
    iprop(Env part κ κx ∗ Duty c (lanes'.map (fun l => .ag 0 l.1 l.2) ++ ls) ∗ bigSepL lanes (fun l => has c (rowM (chunk l.1 c 7) l.1 l.2) (scat part l.1 l.2 c 7))
        ∗ PermsA c 0)
      ⊢ iprop(((Duty c ls ∗ bigSepL lanes (fun l => cred (tallyAt (cell c (.agS l.1 l.2)) 0 N))) -∗ Wp c P Q)
        -∗ Wp c (overP (fun l => agSend0P c l.1 l.2) lanes' P) Q) := by
  unfold PermsA
  rw [← lanes'_eq, ← lanes'_eq (fun l => permA c l.1 0 l.2), ← lanes'_eq (fun l => cred _)]
  iintro ⟨#HE, HD, HR, HP⟩ Hk
  iapply (wp_over c (fun l => agSend0P c l.1 l.2) (fun l => [Ev.ag 0 l.1 l.2])
    (fun l => iprop(has c (rowM (chunk l.1 c 7) l.1 l.2) (scat part l.1 l.2 c 7) ∗ permA c l.1 0 l.2))
    (fun l => cred (tallyAt (cell c (.agS l.1 l.2)) 0 N)) (Env part κ κx) 0
    (fun l ls P Q _ => by
      iintro ⟨#HE, HD, HR, HP⟩ Hk
      iapply (wp_agSend part κ κx c l.1 l.2 0 (by decide) (rowM (chunk l.1 c 7) l.1 l.2) fullShare (by dsimp only [payK]; rw [if_pos rfl]) ls P) $$ [HD HR HP]
      · isplitr; · iexact HE
        isplitl [HD]; · iexact HD
        isplitl [HR]; · iexact HR
        isplitl [HP]; · iexact HP
        iapply (Env.reached part κ κx c (.agS l.1 l.2)); iexact HE
      iexact Hk) lanes' ls P Q hl) $$ [HD HR HP]
  · isplitr; · iexact HE
    isplitl [HD]; · iexact HD
    iapply (lsep lanes' _ _).2
    isplitl [HR] <;> iassumption
  iexact Hk

/-! ## The loops, and what they leave -/

omit [FloatOps F] in
/-- The rows sent in the scatter are those the gather writes. -/
theorem done_todo : Done (F := F) c 7 ⊢ ATodo c 7 := by
  show iprop(Rows c 6 ∗ Rows c 5 ∗ Rows c 4 ∗ Rows c 3 ∗ Rows c 2 ∗ Rows c 1 ∗ Rows c 0 ∗ emp) ⊢ iprop(Rows c 0 ∗ Rows c 1 ∗ Rows c 2 ∗ Rows c 3 ∗ Rows c 4 ∗ Rows c 5 ∗ Rows c 6 ∗ emp)
  iintro ⟨H6, H5, H4, H3, H2, H1, H0, -⟩
  isplitl [H0]; · iexact H0
  isplitl [H1]; · iexact H1
  isplitl [H2]; · iexact H2
  isplitl [H3]; · iexact H3
  isplitl [H4]; · iexact H4
  isplitl [H5]; · iexact H5
  isplitl [H6]; · iexact H6
  iempintro

/-- What a device is left with: its positions past every round, its slots back, the staging slots at rest, the result's rows. -/
def Left : sProp 𝕄 :=
  iprop((bigSepL lanes (RPos c 7) ∗ bigSepL lanes (APos c 7)) ∗ (Take2 c 0 5 ∗ Take2 c 1 4) ∗ Idle2 c q x
    ∗ (Back c 7 ∗ ABack c 7 ∗ bigSepL lanes (fun l => hasAny c (agM l.1 l.2 (sl3 6)))) ∗ AFin part c 7 ∗ Sum7 part c)

/-- The two loops and the transfers between them. -/
theorem wp_loops (hpart : ∀ g h, part c g h = half kv w (staged x g h)) {Q : PUnit → sProp 𝕄} :
    iprop(Env part κ κx ∗ Duty c (rsEv 7) ∗ RSt part c q x 0 ∗ bigSepL (rsW 7) (wcr c) ∗ bigSepL lanes (APos c 0) ∗ Take2 c 1 0 ∗ AtX c 1 0 ∗ PermsA c 0 ∗ PermsA c 1 ∗ PermsA c 2)
      ⊢ iprop(((Duty c [] ∗ Left part c q x) -∗ Wp c (.ret ⟨⟩) Q) -∗ Wp c (rsLoopP kv w c 7) Q) := by
  iintro ⟨#HE, HD, HS, HW, HAP, HT, HAx, HP0, HP1, HP2⟩ Hk
  iapply (wp_rsLoop part κ κx c kv w q x hpart 7 0 rfl) $$ [HD HS HW]
  · isplitr; · iexact HE
    isplitl [HD]; · iexact HD
    isplitl [HS] <;> iassumption
  iintro ⟨HD, HS, HW⟩
  unfold RSt Under
  rw [if_neg (show ¬ 7 < 7 by decide), if_neg (show ¬ 7 = 0 by decide), show min (7 - 1) 5 = 5 from rfl, show min 7 5 = 5 from rfl]
  icases HS with ⟨⟨HRP, HSum⟩, -, HT0, -, HDn, -, HI, HB⟩
  iapply (wp_agFirst part κ κx c (agEv 7) (agLoopP c 7) (by decide +kernel)) $$ [HD HSum HP0]
  · isplitr; · iexact HE
    isplitl [HD]; · iexact HD
    isplitl [HSum] <;> iassumption
  iintro ⟨HD, Hc⟩
  iapply (wp_agLoop part κ κx c 7 0 rfl) $$ [HD HW HAP HT HAx HP1 HP2 HDn Hc]
  · isplitr; · iexact HE
    isplitl [HD]; · iexact HD
    isplitr [HW]
    · unfold ASt AUnder
      rw [if_pos (show 0 < 7 by decide), if_pos (show 0 = 0 from rfl), if_pos (show 0 ≤ 1 by decide), if_pos (show 0 = 0 from rfl), show min (0 - 2) 4 = 0 from rfl, show 7 - 0 = 7 from rfl, AFin, ABack]
      isplitl [HAP Hc]
      · unfold AIn
        iapply (lsep lanes _ _).2
        isplitl [Hc]; · iexact Hc
        iapply (lsep lanes _ _).2
        isplitl [HAP]; · iexact HAP
        iapply (bigSepL_mono (l := lanes) fun l _ => Entails.of_eq (if_pos rfl).symm)
        iapply (lemp lanes)
        iempintro
      isplitl [HP1 HP2]
      · isplitl [HP1] <;> iassumption
      isplitl [HT]; · iexact HT
      isplitl [HAx]; · iexact HAx
      isplitl [HDn]
      · iapply (done_todo c); iexact HDn
      isplitr; · iempintro
      isplitr; · iempintro
      iempintro
    iexact HW
  iintro ⟨HD, HS⟩
  iapply Hk
  isplitl [HD]; · iexact HD
  unfold ASt AUnder Left
  rw [if_neg (show ¬ 7 < 7 by decide), if_neg (show ¬ 7 = 0 by decide), if_neg (show ¬ 7 ≤ 1 by decide), if_neg (show ¬ 7 = 0 by decide), show min (7 - 2) 4 = 4 from rfl]
  icases HS with ⟨⟨HAP, HG⟩, -, HT1, -, -, HF, H7, HAB⟩
  isplitl [HRP HAP]
  · isplitl [HRP] <;> iassumption
  isplitl [HT0 HT1]
  · isplitl [HT0] <;> iassumption
  isplitl [HI]; · iexact HI
  isplitl [HB HAB HG]
  · isplitl [HB]; · iexact HB
    isplitl [HAB] <;> iassumption
  isplitl [HF] <;> iassumption

/-- The body after its two loads. -/
theorem wp_after (hpart : ∀ g h, part c g h = half kv w (staged x g h)) {Q : PUnit → sProp 𝕄} :
    iprop(Env part κ κx ∗ Duty c (subs.map (.rs 0 0 ·) ++ (subs.map (.rs 0 1 ·) ++ rsEv 7)) ∗ bigSepL (rsW 7) (wcr c) ∗ Slots c ∗ Held c q x)
      ⊢ iprop(((Duty c [] ∗ Left part c q x) -∗ Wp c (.ret ⟨⟩) Q) -∗ Wp c (afterP kv w c) Q) := by
  unfold Held afterP Idle2
  iintro ⟨#HE, HD, HW, HSl, HRP, HAP, ⟨HT0, HT1⟩, ⟨HA0, HA1⟩, ⟨HI, HI'⟩, HR0, HR1, HTd⟩ Hk
  ihave HSl := (slots_perms c) $$ HSl
  icases HSl with ⟨⟨HP, HP'⟩, HPm, HPA0, HPA1, HPA2⟩
  iapply (wp_start c 0 (q 0) x (chunk 0 c 0)) $$ HI
  iintro HB
  iapply (wp_start c 1 (q 1) x (chunk 1 c 0)) $$ HI'
  iintro HB'
  ihave HR0 := (show Rows (F := F) c 0 ⊢ iprop(bigSepL subs (fun sub => hasAny c (rowM (chunk 0 c 0) 0 sub)) ∗ bigSepL subs (fun sub => hasAny c (rowM (chunk 1 c 0) 1 sub))) by
    unfold Rows; rw [lanes_eq]) $$ HR0
  icases HR0 with ⟨HR, HR'⟩
  iapply (wp_comp' part κ κx c kv w q x 0 (fun g => hpart g 0) (chunk 0 c 0) (subs.map (.rs 0 0 ·) ++ (subs.map (.rs 0 1 ·) ++ rsEv 7)) (by decide +kernel)) $$ [HD HB HR]
  · isplitr; · iexact HE
    isplitl [HD]; · iexact HD
    isplitl [HB] <;> iassumption
  iintro ⟨HD, HI, HR⟩
  iapply (wp_rsFirst part κ κx c 0 (subs.map (.rs 0 1 ·) ++ rsEv 7) _ (by decide +kernel)) $$ [HD HR HP]
  · isplitr; · iexact HE
    isplitl [HD]; · iexact HD
    isplitl [HR] <;> iassumption
  iintro ⟨HD, Hc⟩
  iapply (wp_comp' part κ κx c kv w q x 1 (fun g => hpart g 1) (chunk 1 c 0) (subs.map (.rs 0 1 ·) ++ rsEv 7) (by decide +kernel)) $$ [HD HB' HR']
  · isplitr; · iexact HE
    isplitl [HD]; · iexact HD
    isplitl [HB'] <;> iassumption
  iintro ⟨HD, HI', HR'⟩
  iapply (wp_rsFirst part κ κx c 1 (rsEv 7) _ (by decide +kernel)) $$ [HD HR' HP']
  · isplitr; · iexact HE
    isplitl [HD]; · iexact HD
    isplitl [HR'] <;> iassumption
  iintro ⟨HD, Hc'⟩
  iapply (wp_pair part κ κx c kv w q x hpart 1 (rsEv 7) (by decide +kernel)) $$ [HD HI HI' HR1]
  · isplitr; · iexact HE
    isplitl [HD]; · iexact HD
    isplitr [HR1]
    · unfold Idle2
      isplitl [HI] <;> iassumption
    iexact HR1
  iintro ⟨HD, HI, HO⟩
  iapply (wp_loops part κ κx c kv w q x hpart) $$ [HD HW HRP HAP HT0 HT1 HA0 HA1 HPm HPA0 HPA1 HPA2 HTd HI HO Hc Hc']
  · isplitr; · iexact HE
    isplitl [HD]; · iexact HD
    isplitl [HRP HT0 HA0 HPm HTd HI HO Hc Hc']
    · unfold RSt Under
      rw [if_pos (show 0 < 7 by decide), if_pos (show 0 = 0 from rfl), show min (0 - 1) 5 = 0 from rfl, show 6 - 0 = 6 from rfl, show 0 + 1 = 1 from rfl, Done, Back]
      isplitl [HRP HO Hc Hc']
      · isplitl [HRP Hc Hc']
        · unfold RIn
          iapply (lsep lanes _ _).2
          isplitl [Hc Hc']
          · iapply (Entails.of_eq (lanes_eq _).symm)
            isplitl [Hc] <;> iassumption
          iexact HRP
        iexact HO
      isplitl [HPm]; · iexact HPm
      isplitl [HT0]; · iexact HT0
      isplitl [HA0]; · iexact HA0
      isplitr; · iempintro
      isplitl [HTd]; · iexact HTd
      isplitl [HI]; · iexact HI
      iempintro
    isplitl [HW]; · iexact HW
    isplitl [HAP]; · iexact HAP
    isplitl [HT1]; · iexact HT1
    isplitl [HA1]; · iexact HA1
    isplitl [HPA0]; · iexact HPA0
    isplitl [HPA1]; · iexact HPA1
    iexact HPA2
  iexact Hk

/-! ## The whole body -/

/-- What a device lends its neighbours at the barrier: its own slots. -/
def Lent : sProp 𝕄 := iprop(bigSepL subs (barLane (bwd 0 c) 0) ∗ bigSepL subs (barLane (bwd 1 c) 1))
/-- The two inputs in their buffers. -/
def Inp (kv : FVec F S4x1024 .f32) (wv : FVec F S1024x1024 .f32) : sProp 𝕄 :=
  iprop((((c : Thread nD τ).loc cc0_stg0_0) ↦{fullShare} kv) ∗ (((c : Thread nD τ).loc cc0_stg1_0) ↦{fullShare} wv))

theorem off00 : (![0, 0] : Fin 2 → Nat) = fun _ => 0 := funext fun a => by fin_cases a <;> rfl

/-- The whole body: from its payments, its credits, the slots it lends and what it holds, to all it holds at the end. -/
theorem wp_prog (wv : FVec F S1024x1024 .f32) (hpart : ∀ g h, part c g h = half kv (truncf .bf16 wv bitsLt_bf16_f32) (staged x g h)) {Q : PUnit → sProp 𝕄} :
    iprop(Env part κ κx ∗ Duty c evs ∗ bigSepL wevs (wcr c) ∗ Lent c ∗ atPos ER (cell c .bar) 0 ∅ 0 ∗ Inp c kv wv ∗ Held c q x)
      ⊢ iprop(((Duty c [] ∗ atPos ER (cell c .bar) 1 ∅ 0 ∗ Inp c kv wv ∗ Left part c q x) -∗ Wp c (.ret ⟨⟩) Q) -∗ Wp c (prog c) Q) := by
  rw [prog_eq]
  unfold Lent Inp evs wevs
  rw [bigSepL_cons', bigSepL_cons']
  iintro ⟨#HE, HD, ⟨Hw0, Hw1, HW⟩, ⟨HL0, HL1⟩, Hat, ⟨Hkv, Hwv⟩, HH⟩ Hk
  iapply (wp_barSignal part κ κx c 0) $$ [HD HL0]
  · isplitr; · iexact HE
    isplitl [HD] <;> iassumption
  iintro HD
  iapply (wp_barSignal part κ κx c 1) $$ [HD HL1]
  · isplitr; · iexact HE
    isplitl [HD] <;> iassumption
  iintro HD
  iapply (wp_barWait part κ κx c (subs.map (.rs 0 0 ·) ++ (subs.map (.rs 0 1 ·) ++ rsEv 7)) (by decide +kernel)) $$ [HD Hw0 Hw1 Hat]
  · isplitr; · iexact HE
    isplitl [HD]; · iexact HD
    isplitl [Hw0]; · iexact Hw0
    isplitl [Hw1] <;> iassumption
  iintro ⟨HD, Hat, HS0, HS1⟩
  iapply (wp_load_rect 𝒱₀ (c : Thread nD τ) none Set.univ (m := kM) (r := Rect.unit (s := S4x1024) ![0, 0] S4x1024.size inb_S4x1024_S4x1024_0_0) (S := Finset.univ) (q := fullShare) (f := kv) (Finset.subset_univ _)) $$ Hkv
  iintro Hkv
  iapply (wp_load_rect 𝒱₀ (c : Thread nD τ) none Set.univ (m := wM) (r := Rect.unit (s := S1024x1024) ![0, 0] S1024x1024.size inb_S1024x1024_S1024x1024_0_0) (S := Finset.univ) (q := fullShare) (f := wv) (Finset.subset_univ _)) $$ Hwv
  iintro Hwv
  rw [show (kM.access (Rect.unit (s := S4x1024) ![0, 0] S4x1024.size inb_S4x1024_S4x1024_0_0)).read (Elt F) kv = kv from
      Memref.read_access_unit_zero (Elt F) cc0_stg0_0 off00 _ kv,
    show (wM.access (Rect.unit (s := S1024x1024) ![0, 0] S1024x1024.size inb_S1024x1024_S1024x1024_0_0)).read (Elt F) wv = wv from
      Memref.read_access_unit_zero (Elt F) cc0_stg1_0 off00 _ wv, shapeCast_self, shapeCast_self]
  iapply (wp_after part κ κx c kv (truncf .bf16 wv bitsLt_bf16_f32) q x hpart) $$ [HD HW HS0 HS1 HH]
  · isplitr; · iexact HE
    isplitl [HD]; · iexact HD
    isplitl [HW]; · iexact HW
    isplitl [HS0 HS1]
    · unfold Slots
      isplitl [HS0] <;> iassumption
    iexact HH
  iintro ⟨HD, HF⟩
  iapply Hk
  isplitl [HD]; · iexact HD
  isplitl [Hat]; · iexact Hat
  isplitl [Hkv Hwv]
  · isplitl [Hkv] <;> iassumption
  iexact HF

end Whole

end Cert.K

end
-- ==== Proof.Buffers.lean ====
/-
Whole buffers and their pieces: the result as its rows, the landing buffers as their slots, the staging
buffer as its two slots; the result assembled from the rows a device ends with.
-/
module

public import proofs.«01_k».proof.Proof.Whole

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Tiles of a buffer -/

section Tiles

variable {I : Type} [Fintype I] [DecidableEq I] (ℓ : Loc nD τ sig) (S : I → Finset (Idx ℓ))

/-- A buffer at some contents is its tiles at some contents, -/
theorem split_any (hd : ∀ i j, i ≠ j → Disjoint (S i) (S j)) (hu : (Finset.univ : Finset (Idx ℓ)) = Finset.univ.biUnion S) :
    (iprop(∃ f : Buf (Elt F) ℓ, ℓ ↦{fullShare} f) : sProp 𝕄) ⊢ bigSep Finset.univ fun i => iprop(∃ f : Buf (Elt F) ℓ, ℓ ↦[S i]{fullShare} f) := by
  have hm : ∀ f : Buf (Elt F) ℓ, (bigSep Finset.univ fun i => (ℓ ↦[S i]{fullShare} f : sProp 𝕄)) ⊢ (bigSep Finset.univ fun i => iprop(∃ f : Buf (Elt F) ℓ, ℓ ↦[S i]{fullShare} f)) := fun f =>
    bigSep_mono fun i _ => by
      show (ℓ ↦[S i]{fullShare} f : sProp 𝕄) ⊢ iprop(∃ f : Buf (Elt F) ℓ, ℓ ↦[S i]{fullShare} f)
      iintro H; iexists f; iexact H
  iintro ⟨%f, H⟩
  ihave H := (Entails.of_eq (show (ℓ ↦{fullShare} f : sProp 𝕄) = bigSep Finset.univ fun i => (ℓ ↦[S i]{fullShare} f : sProp 𝕄) by
    rw [hu, pointsTo_biUnion _ _ (fun i _ j _ h => hd i j h)])) $$ H
  iapply (hm f); iexact H

/-- and back. -/
theorem join_any (f₀ : Buf (Elt F) ℓ) (hd : ∀ i j, i ≠ j → Disjoint (S i) (S j)) (hu : (Finset.univ : Finset (Idx ℓ)) = Finset.univ.biUnion S) :
    (bigSep Finset.univ fun i => iprop(∃ f : Buf (Elt F) ℓ, ℓ ↦[S i]{fullShare} f)) ⊢ (iprop(∃ f : Buf (Elt F) ℓ, ℓ ↦{fullShare} f) : sProp 𝕄) := by
  haveI : Nonempty (Buf (Elt F) ℓ) := ⟨f₀⟩
  iintro H
  ihave H := (bigSep_exists_pi Finset.univ (fun (i : I) (f : Buf (Elt F) ℓ) => (ℓ ↦[S i]{fullShare} f : sProp 𝕄))) $$ H
  icases H with ⟨%fs, H⟩
  ihave H := (pointsTo_biUnion_join Finset.univ S fs f₀ (fun i _ j _ h => hd i j h)) $$ H
  icases H with ⟨%f, -, H⟩
  iexists f
  rw [hu]
  iexact H

end Tiles

/-- A sum over a list of lists. -/
theorem bigSepL_flatMap {A B : Type} (l : List A) (f : A → List B) (Φ : B → sProp 𝕄) : bigSepL (l.flatMap f) Φ = bigSepL l fun a => bigSepL (f a) Φ := by
  induction l with
  | nil => rfl
  | cons a l ih => rw [List.flatMap_cons, bigSepL_append, ih, bigSepL_cons']

/-! ## The landing slots -/

theorem mem_rs {d : Fin 2} {sub : Fin 4} {b : Fin 2} {i : S2x4x2x128x1024.Idx} :
    i ∈ (rsRect d sub b).set ↔ (i 0).val = d.val ∧ (i 1).val = sub.val ∧ (i 2).val = b.val := by
  rw [Rect.mem_set_unit]
  constructor
  · intro H
    have h0 := H 0
    have h1 := H 1
    have h2 := H 2
    simp [rsOff] at h0 h1 h2
    omega
  · rintro ⟨h0, h1, h2⟩ a
    match a with
    | ⟨0, _⟩ => show d.val ≤ (i 0).val ∧ (i 0).val < d.val + 1; omega
    | ⟨1, _⟩ => show sub.val ≤ (i 1).val ∧ (i 1).val < sub.val + 1; omega
    | ⟨2, _⟩ => show b.val ≤ (i 2).val ∧ (i 2).val < b.val + 1; omega
    | ⟨3, _⟩ => exact ⟨Nat.zero_le _, by have := (i 3).isLt; show (i 3).val < 0 + 128; simpa using this⟩
    | ⟨4, _⟩ => exact ⟨Nat.zero_le _, by have := (i 4).isLt; show (i 4).val < 0 + 1024; simpa using this⟩

theorem mem_ag {d : Fin 2} {sub : Fin 4} {b : Fin 3} {i : S2x4x3x128x1024.Idx} :
    i ∈ (agRect d sub b).set ↔ (i 0).val = d.val ∧ (i 1).val = sub.val ∧ (i 2).val = b.val := by
  rw [Rect.mem_set_unit]
  constructor
  · intro H
    have h0 := H 0
    have h1 := H 1
    have h2 := H 2
    simp [agOff] at h0 h1 h2
    omega
  · rintro ⟨h0, h1, h2⟩ a
    match a with
    | ⟨0, _⟩ => show d.val ≤ (i 0).val ∧ (i 0).val < d.val + 1; omega
    | ⟨1, _⟩ => show sub.val ≤ (i 1).val ∧ (i 1).val < sub.val + 1; omega
    | ⟨2, _⟩ => show b.val ≤ (i 2).val ∧ (i 2).val < b.val + 1; omega
    | ⟨3, _⟩ => exact ⟨Nat.zero_le _, by have := (i 3).isLt; show (i 3).val < 0 + 128; simpa using this⟩
    | ⟨4, _⟩ => exact ⟨Nat.zero_le _, by have := (i 4).isLt; show (i 4).val < 0 + 1024; simpa using this⟩

theorem rsM_set (d : Fin 2) (sub : Fin 4) (b : Fin 2) : (rsM d sub b).view.set = (rsRect d sub b).set :=
  (View.set_reshape (rM.view.slice (rsRect d sub b)) squeezes_S1x1x1x128x1024_S128x1024.numel_eq).trans (View.set_slice_whole _ _)
theorem agM_set (d : Fin 2) (sub : Fin 4) (b : Fin 3) : (agM d sub b).view.set = (agRect d sub b).set :=
  (View.set_reshape (gM.view.slice (agRect d sub b)) squeezes_S1x1x1x128x1024_S128x1024.numel_eq).trans (View.set_slice_whole _ _)

theorem rs_disjoint (t u : Fin 2 × Fin 4 × Fin 2) (h : t ≠ u) : Disjoint (rsRect t.1 t.2.1 t.2.2).set (rsRect u.1 u.2.1 u.2.2).set := by
  rw [Finset.disjoint_left]
  intro i h1 h2
  rw [mem_rs] at h1 h2
  exact h (Prod.ext (Fin.ext (by omega)) (Prod.ext (Fin.ext (by omega)) (Fin.ext (by omega))))
theorem ag_disjoint (t u : Fin 2 × Fin 4 × Fin 3) (h : t ≠ u) : Disjoint (agRect t.1 t.2.1 t.2.2).set (agRect u.1 u.2.1 u.2.2).set := by
  rw [Finset.disjoint_left]
  intro i h1 h2
  rw [mem_ag] at h1 h2
  exact h (Prod.ext (Fin.ext (by omega)) (Prod.ext (Fin.ext (by omega)) (Fin.ext (by omega))))
theorem rs_all : (Finset.univ : Finset S2x4x2x128x1024.Idx) = Finset.univ.biUnion fun t : Fin 2 × Fin 4 × Fin 2 => (rsRect t.1 t.2.1 t.2.2).set := by
  ext i
  refine ⟨fun _ => Finset.mem_biUnion.mpr ⟨(i 0, i 1, i 2), Finset.mem_univ _, mem_rs.mpr ⟨rfl, rfl, rfl⟩⟩, fun _ => Finset.mem_univ _⟩
theorem ag_all : (Finset.univ : Finset S2x4x3x128x1024.Idx) = Finset.univ.biUnion fun t : Fin 2 × Fin 4 × Fin 3 => (agRect t.1 t.2.1 t.2.2).set := by
  ext i
  refine ⟨fun _ => Finset.mem_biUnion.mpr ⟨(i 0, i 1, i 2), Finset.mem_univ _, mem_ag.mpr ⟨rfl, rfl, rfl⟩⟩, fun _ => Finset.mem_univ _⟩

section Land

variable (c : Dev nD)

abbrev rLoc : Loc nD τ sig := (c : Thread nD τ).loc cc0_scratch2
abbrev gLoc : Loc nD τ sig := (c : Thread nD τ).loc cc0_scratch3

theorem rs_any (d : Fin 2) (sub : Fin 4) (b : Fin 2) :
    hasAny c (rsM d sub b) ⊣⊢ (iprop(∃ f : Buf (Elt F) (rLoc c), rLoc c ↦[(rsRect d sub b).set]{fullShare} f) : sProp 𝕄) := by
  unfold hasAny owns
  constructor
  · iintro ⟨%X, %f, -, H⟩
    iexists f
    rw [← rsM_set]
    iexact H
  · iintro ⟨%f, H⟩
    iexists ((rsM d sub b).view.read (Elt F) f)
    iexists f
    isplitr; · ipureintro; rfl
    rw [rsM_set]
    iexact H
theorem ag_any (d : Fin 2) (sub : Fin 4) (b : Fin 3) :
    hasAny c (agM d sub b) ⊣⊢ (iprop(∃ f : Buf (Elt F) (gLoc c), gLoc c ↦[(agRect d sub b).set]{fullShare} f) : sProp 𝕄) := by
  unfold hasAny owns
  constructor
  · iintro ⟨%X, %f, -, H⟩
    iexists f
    rw [← agM_set]
    iexact H
  · iintro ⟨%f, H⟩
    iexists ((agM d sub b).view.read (Elt F) f)
    iexists f
    isplitr; · ipureintro; rfl
    rw [agM_set]
    iexact H

/-- The slots of a lane, with some contents. -/
def SlotR (l : Fin 2 × Fin 4) : sProp 𝕄 := iprop(hasAny c (rsM l.1 l.2 0) ∗ hasAny c (rsM l.1 l.2 1))
def SlotA (l : Fin 2 × Fin 4) : sProp 𝕄 := iprop(hasAny c (agM l.1 l.2 0) ∗ hasAny c (agM l.1 l.2 1) ∗ hasAny c (agM l.1 l.2 2))

theorem lane_pairs (Φ : Fin 2 × Fin 4 × Fin 2 → sProp 𝕄) :
    bigSep Finset.univ Φ = bigSepL lanes fun l => iprop(Φ (l.1, l.2, 0) ∗ Φ (l.1, l.2, 1)) := by
  rw [bigSep_univ_eq_bigSepL (lanes.flatMap fun l => [(l.1, l.2, (0 : Fin 2)), (l.1, l.2, 1)]) (by decide +kernel) (by decide +kernel) Φ, bigSepL_flatMap]
  rfl
theorem lane_triples (Φ : Fin 2 × Fin 4 × Fin 3 → sProp 𝕄) :
    bigSep Finset.univ Φ = bigSepL lanes fun l => iprop(Φ (l.1, l.2, 0) ∗ Φ (l.1, l.2, 1) ∗ Φ (l.1, l.2, 2)) := by
  rw [bigSep_univ_eq_bigSepL (lanes.flatMap fun l => [(l.1, l.2, (0 : Fin 3)), (l.1, l.2, 1), (l.1, l.2, 2)]) (by decide +kernel) (by decide +kernel) Φ, bigSepL_flatMap]
  rfl

theorem slotsR_split : (iprop(∃ f : Buf (Elt F) (rLoc c), rLoc c ↦{fullShare} f) : sProp 𝕄) ⊢ bigSepL lanes (SlotR c) := by
  refine (split_any (rLoc c) (fun t : Fin 2 × Fin 4 × Fin 2 => (rsRect t.1 t.2.1 t.2.2).set) rs_disjoint rs_all).trans ?_
  rw [lane_pairs]
  exact bigSepL_mono (l := lanes) fun l _ => BI.sep_mono (rs_any c _ _ _).2 (rs_any c _ _ _).2
theorem slotsA_split : (iprop(∃ f : Buf (Elt F) (gLoc c), gLoc c ↦{fullShare} f) : sProp 𝕄) ⊢ bigSepL lanes (SlotA c) := by
  refine (split_any (gLoc c) (fun t : Fin 2 × Fin 4 × Fin 3 => (agRect t.1 t.2.1 t.2.2).set) ag_disjoint ag_all).trans ?_
  rw [lane_triples]
  exact bigSepL_mono (l := lanes) fun l _ => BI.sep_mono (ag_any c _ _ _).2 (BI.sep_mono (ag_any c _ _ _).2 (ag_any c _ _ _).2)
/-- Some contents of a buffer. -/
def zeroB (ℓ : Loc nD τ sig) [h : Nonempty (Buf (Elt F) ℓ)] : Buf (Elt F) ℓ := Classical.choice h

theorem slotsR_join : bigSepL lanes (SlotR c) ⊢ (iprop(∃ f : Buf (Elt F) (rLoc c), rLoc c ↦{fullShare} f) : sProp 𝕄) := by
  refine BIBase.Entails.trans ?_ (join_any (rLoc c) (fun t : Fin 2 × Fin 4 × Fin 2 => (rsRect t.1 t.2.1 t.2.2).set) (fun _ => FloatOps.ofBits .bf16 0) rs_disjoint rs_all)
  rw [lane_pairs]
  exact bigSepL_mono (l := lanes) fun l _ => BI.sep_mono (rs_any c _ _ _).1 (rs_any c _ _ _).1
theorem slotsA_join : bigSepL lanes (SlotA c) ⊢ (iprop(∃ f : Buf (Elt F) (gLoc c), gLoc c ↦{fullShare} f) : sProp 𝕄) := by
  refine BIBase.Entails.trans ?_ (join_any (gLoc c) (fun t : Fin 2 × Fin 4 × Fin 3 => (agRect t.1 t.2.1 t.2.2).set) (fun _ => FloatOps.ofBits .bf16 0) ag_disjoint ag_all)
  rw [lane_triples]
  exact bigSepL_mono (l := lanes) fun l _ => BI.sep_mono (ag_any c _ _ _).1 (BI.sep_mono (ag_any c _ _ _).1 (ag_any c _ _ _).1)

/-! ## The staging buffer -/

theorem tall_disjoint (t u : Fin 2) (h : t ≠ u) : Disjoint (tallRect t).set (tallRect u).set := by
  rw [Finset.disjoint_left]
  intro i h1 h2
  rw [mem_tall] at h1 h2
  exact h (Fin.ext (by omega))
theorem tall_all : (Finset.univ : Finset S2x520x1024.Idx) = Finset.univ.biUnion fun t : Fin 2 => (tallRect t).set := by
  ext i
  refine ⟨fun _ => Finset.mem_biUnion.mpr ⟨i 0, Finset.mem_univ _, mem_tall.mpr rfl⟩, fun _ => Finset.mem_univ _⟩

theorem stage_two (Φ : Fin 2 → sProp 𝕄) : bigSep Finset.univ Φ = iprop(Φ 0 ∗ Φ 1) := by
  rw [bigSep_univ_eq_bigSepL [(0 : Fin 2), 1] (by decide) (by decide) Φ, bigSepL_cons_cons, bigSepL_singleton]; rfl

theorem stage_split : (iprop(∃ f : Buf (Elt F) (tLoc c), tLoc c ↦{fullShare} f) : sProp 𝕄)
    ⊢ iprop((∃ f : Buf (Elt F) (tLoc c), tLoc c ↦[(tallRect 0).set]{fullShare} f) ∗ (∃ f : Buf (Elt F) (tLoc c), tLoc c ↦[(tallRect 1).set]{fullShare} f)) :=
  (split_any (tLoc c) (fun t : Fin 2 => (tallRect t).set) tall_disjoint tall_all).trans (Entails.of_eq (stage_two _))
theorem stage_join : (iprop((∃ f : Buf (Elt F) (tLoc c), tLoc c ↦[(tallRect 0).set]{fullShare} f) ∗ (∃ f : Buf (Elt F) (tLoc c), tLoc c ↦[(tallRect 1).set]{fullShare} f)) : sProp 𝕄)
    ⊢ iprop(∃ f : Buf (Elt F) (tLoc c), tLoc c ↦{fullShare} f) :=
  (Entails.of_eq (stage_two _).symm).trans (join_any (tLoc c) (fun t : Fin 2 => (tallRect t).set) (fun _ => FloatOps.ofBits .f32 0) tall_disjoint tall_all)

end Land

/-! ## The result -/

/-- Which message of the gather holds chunk `g`: 0 the device's own sum. -/
def slot (d : Fin 2) (c : Dev nD) (g : Fin 8) : ℕ := (if d.val = 0 then pos c.val + 9 - g.val else g.val + 9 - pos c.val) % 8
theorem slot_own : ∀ (d : Fin 2) (c : Dev nD), slot d c (chunk d c 7) = 0 := by decide +kernel
theorem slot_got : ∀ (d : Fin 2) (c : Dev nD), ∀ j < 7, slot d c (chunk d c j) = j + 1 := by decide +kernel

section Result

variable (part : Parts F) (c : Dev nD)

/-- The result of device `c`: every lane's rows of every chunk as the message that brought them. -/
def outAt : FVec F S8x1024x1024 .bf16 := fun i =>
  let d : Fin 2 := ⟨(i 1).val / 512, by have h : (i 1).val < 1024 := (i 1).isLt; omega⟩
  let sub : Fin 4 := ⟨(i 1).val % 512 / 128, by omega⟩
  gath part d sub c (slot d c (i 0)) (ix2 (⟨(i 1).val % 128, Nat.mod_lt _ (by decide)⟩ : Fin 128) (i 2 : Fin 1024))

/-- The result at row `a` of sub-block `sub` on ring `d`, chunk `g`. -/
theorem outAt_eq (i : S8x1024x1024.Idx) (g : Fin 8) (d : Fin 2) (sub : Fin 4) (a : Fin 128) (b : Fin 1024)
    (h0 : (i 0).val = g.val) (h1 : (i 1).val = d.val * 512 + sub.val * 128 + a.val) (h2 : (i 2).val = b.val) :
    outAt part c i = gath part d sub c (slot d c g) (ix2 a b) := by
  have hs := sub.isLt
  have ha := a.isLt
  have e0 : (i 0 : Fin 8) = g := Fin.ext h0
  have e1 : (⟨(i 1).val / 512, by have h : (i 1).val < 1024 := (i 1).isLt; omega⟩ : Fin 2) = d := Fin.ext (by show (i 1).val / 512 = _; omega)
  have e2 : (⟨(i 1).val % 512 / 128, by omega⟩ : Fin 4) = sub := Fin.ext (by show (i 1).val % 512 / 128 = _; omega)
  have e3 : (⟨(i 1).val % 128, Nat.mod_lt _ (by decide)⟩ : Fin 128) = a := Fin.ext (by show (i 1).val % 128 = _; omega)
  have e4 : (i 2 : Fin 1024) = b := Fin.ext h2
  unfold outAt
  dsimp only
  rw [e1, e2, e3, e4, e0]

theorem read_row (g : Fin 8) (d : Fin 2) (sub : Fin 4) : (rowM g d sub).view.read (Elt F) (outAt part c) = gath part d sub c (slot d c g) := by
  funext i
  obtain ⟨a, b, rfl⟩ : ∃ (a : Fin 128) (b : Fin 1024), i = ix2 a b := ⟨i 0, i 1, by funext t; match t with | ⟨0, _⟩ => rfl | ⟨1, _⟩ => rfl⟩
  rw [Memref.read_squeeze_slice oM (rowRect g d sub) (fun _ => rfl) squeezes_S1x128x1024_S128x1024 shapeCasts_S1x128x1024_S128x1024]
  refine (shapeCast_1ab_ab_apply _ _ a b).trans ?_
  show outAt part c ((rowRect g d sub).emb (ix3 (0 : Fin 1) a b)) = _
  have h0 : ((rowRect g d sub).emb (ix3 (0 : Fin 1) a b) 0).val = g.val := by show g.val + 1 * 0 = _; omega
  have h1 : ((rowRect g d sub).emb (ix3 (0 : Fin 1) a b) 1).val = d.val * 512 + sub.val * 128 + a.val := by show d.val * 512 + sub.val * 128 + 1 * a.val = _; omega
  have h2 : ((rowRect g d sub).emb (ix3 (0 : Fin 1) a b) 2).val = b.val := by show 0 + 1 * b.val = _; omega
  exact outAt_eq part c _ g d sub a b h0 h1 h2

/-- Rows owned with the result's contents there are the result held there. -/
theorem row_out (g : Fin 8) (d : Fin 2) (sub : Fin 4) (X : FVec F S128x1024 .bf16) (hX : gath part d sub c (slot d c g) = X) :
    has c (rowM g d sub) X ⊢ (oLoc c ↦[(rowRect g d sub).set]{fullShare} outAt part c : sProp 𝕄) := by
  unfold has owns
  iintro ⟨%f, %hf, H⟩
  rw [← rowM_set]
  iapply (Entails.of_eq (pointsTo_congr (show ∀ i ∈ (rowM g d sub).view.set, f i = outAt part c i from fun i hi => by
    rw [View.set, Finset.mem_map] at hi
    obtain ⟨j, -, rfl⟩ := hi
    exact (congrFun (hf.trans (hX.symm.trans (read_row part c g d sub).symm)) j : (rowM g d sub).view.read (Elt F) f j = (rowM g d sub).view.read (Elt F) (outAt part c) j))))
  iexact H

/-- The rows as the steps meet them. -/
theorem rows_list (Φ : Fin 8 × Fin 2 × Fin 4 → sProp 𝕄) :
    bigSep Finset.univ Φ = (let R := fun j : ℕ => bigSepL lanes fun l => Φ (chunk l.1 c j, l.1, l.2)
      iprop(R 0 ∗ R 1 ∗ R 2 ∗ R 3 ∗ R 4 ∗ R 5 ∗ R 6 ∗ R 7)) := by
  have h : ∀ c : Dev nD, (([0, 1, 2, 3, 4, 5, 6, 7] : List ℕ).flatMap fun j => lanes.map fun l => (chunk l.1 c j, l.1, l.2)).Nodup
      ∧ (Finset.univ : Finset (Fin 8 × Fin 2 × Fin 4)) = (([0, 1, 2, 3, 4, 5, 6, 7] : List ℕ).flatMap fun j => lanes.map fun l => (chunk l.1 c j, l.1, l.2)).toFinset := by decide +kernel
  rw [bigSep_univ_eq_bigSepL _ (h c).2 (h c).1 Φ, bigSepL_flatMap]
  rfl

theorem out_disjoint (t u : Fin 8 × Fin 2 × Fin 4) (h : t ≠ u) : Disjoint (rowRect t.1 t.2.1 t.2.2).set (rowRect u.1 u.2.1 u.2.2).set := row_disjoint h

/-- The result's buffer as the rows the program goes through. -/
theorem out_split : (iprop(∃ f : Buf (Elt F) (oLoc c), oLoc c ↦{fullShare} f) : sProp 𝕄) ⊢ iprop(Rows c 0 ∗ Rows c 1 ∗ Todo c 6) := by
  refine (split_any (oLoc c) (fun t : Fin 8 × Fin 2 × Fin 4 => (rowRect t.1 t.2.1 t.2.2).set) out_disjoint all_rows).trans ?_
  refine BIBase.Entails.trans (bigSep_mono (s := Finset.univ) fun t _ => show (iprop(∃ f : Buf (Elt F) (oLoc c), oLoc c ↦[(rowRect t.1 t.2.1 t.2.2).set]{fullShare} f) : sProp 𝕄) ⊢ hasAny c (rowM t.1 t.2.1 t.2.2) from ?_) ?_
  · iintro ⟨%f, H⟩
    iexists _
    iapply (row_has c t.1 t.2.1 t.2.2 f)
    iexact H
  rw [rows_list c]
  show iprop(Rows c 0 ∗ Rows c 1 ∗ Rows c 2 ∗ Rows c 3 ∗ Rows c 4 ∗ Rows c 5 ∗ Rows c 6 ∗ Rows c 7) ⊢ iprop(Rows c 0 ∗ Rows c 1 ∗ Todo c 6)
  iintro ⟨H0, H1, H2, H3, H4, H5, H6, H7⟩
  isplitl [H0]; · iexact H0
  isplitl [H1]; · iexact H1
  unfold Todo Todo Todo Todo Todo Todo Todo
  isplitl [H2]; · iexact H2
  isplitl [H3]; · iexact H3
  isplitl [H4]; · iexact H4
  isplitl [H5]; · iexact H5
  isplitl [H6]; · iexact H6
  isplitl [H7]; · iexact H7
  iempintro

/-- What a device ends with is the result. -/
theorem out_join : iprop(AFin part c 7 ∗ Sum7 part c) ⊢ (oLoc c ↦{fullShare} outAt part c : sProp 𝕄) := by
  have hstep : ∀ j < 7, bigSepL lanes (fun l => has c (rowM (chunk l.1 c j) l.1 l.2) (gath part l.1 l.2 (bwd l.1 c) j))
      ⊢ (bigSepL lanes fun l => (oLoc c ↦[(rowRect (chunk l.1 c j) l.1 l.2).set]{fullShare} outAt part c : sProp 𝕄)) := fun j hj =>
    bigSepL_mono (l := lanes) fun l _ => row_out part c _ _ _ _ (by rw [slot_got l.1 c j hj]; rfl)
  have hown : Sum7 part c ⊢ (bigSepL lanes fun l => (oLoc c ↦[(rowRect (chunk l.1 c 7) l.1 l.2).set]{fullShare} outAt part c : sProp 𝕄)) :=
    bigSepL_mono (l := lanes) fun l _ => row_out part c _ _ _ _ (by rw [slot_own l.1 c])
  rw [show (oLoc c ↦{fullShare} outAt part c : sProp 𝕄) = bigSep Finset.univ fun t : Fin 8 × Fin 2 × Fin 4 => (oLoc c ↦[(rowRect t.1 t.2.1 t.2.2).set]{fullShare} outAt part c : sProp 𝕄) by
    rw [show (Finset.univ : Finset (Idx (oLoc c))) = _ from all_rows, pointsTo_biUnion _ _ (fun i _ j _ h => out_disjoint i j h)], rows_list c]
  unfold AFin AFin AFin AFin AFin AFin AFin AFin
  iintro ⟨⟨H6, H5, H4, H3, H2, H1, H0, -⟩, H7⟩
  isplitl [H0]; · iapply (hstep 0 (by decide)); iexact H0
  isplitl [H1]; · iapply (hstep 1 (by decide)); iexact H1
  isplitl [H2]; · iapply (hstep 2 (by decide)); iexact H2
  isplitl [H3]; · iapply (hstep 3 (by decide)); iexact H3
  isplitl [H4]; · iapply (hstep 4 (by decide)); iexact H4
  isplitl [H5]; · iapply (hstep 5 (by decide)); iexact H5
  isplitl [H6]; · iapply (hstep 6 (by decide)); iexact H6
  iapply hown; iexact H7

end Result

end Cert.K

end
-- ==== Proof.Close.lean ====
/-
The end of a run: the cells past their last rounds give their semaphores back; a device's landing slots lent
and given back.
-/
module

public import proofs.«01_k».proof.Proof.Buffers

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig ℕ (Elt F) ℕ UU ℕ

/-! ## Lists of a device's semaphores -/

/-- The semaphores of a lane. -/
def laneK (l : Fin 2 × Fin 4) : List K :=
  [.rsS l.1 l.2, .rsV l.1 l.2 0, .rsV l.1 l.2 1, .agS l.1 l.2, .agV l.1 l.2 0, .agV l.1 l.2 1, .agV l.1 l.2 2]
/-- Something of each semaphore of a lane; of each slot semaphore. -/
def LaneOf (Φ : K → sProp 𝕄) (l : Fin 2 × Fin 4) : sProp 𝕄 :=
  iprop(Φ (.rsS l.1 l.2) ∗ Φ (.rsV l.1 l.2 0) ∗ Φ (.rsV l.1 l.2 1) ∗ Φ (.agS l.1 l.2) ∗ Φ (.agV l.1 l.2 0) ∗ Φ (.agV l.1 l.2 1) ∗ Φ (.agV l.1 l.2 2))
def CrOf (Φ : K → sProp 𝕄) : sProp 𝕄 := iprop((Φ (.cr 0 0) ∗ Φ (.cr 0 1)) ∗ Φ (.cr 1 0) ∗ Φ (.cr 1 1))

/-- All a device's cells, one by one. -/
theorem K_list (Φ : K → sProp 𝕄) : bigSep Finset.univ Φ = iprop(Φ .bar ∗ bigSepL lanes (LaneOf Φ) ∗ CrOf Φ) := by
  rw [bigSep_univ_eq_bigSepL (.bar :: (lanes.flatMap laneK ++ [.cr 0 0, .cr 0 1, .cr 1 0, .cr 1 1])) (by decide +kernel) (by decide +kernel) Φ,
    bigSepL_cons', bigSepL_append, bigSepL_flatMap]
  have h : bigSepL [K.cr 0 0, .cr 0 1, .cr 1 0, .cr 1 1] Φ = CrOf Φ := by
    unfold CrOf
    rw [show [K.cr 0 0, .cr 0 1, .cr 1 0, .cr 1 1] = [K.cr 0 0, .cr 0 1] ++ [.cr 1 0, .cr 1 1] from rfl, bigSepL_append]
    rfl
  rw [h]
  rfl

/-- The kernel's own semaphores: the two of the copies, the lanes', the slots'. -/
abbrev OK : Type := Fin 2 ⊕ ((Fin 2 × Fin 4) × Fin 7) ⊕ (Fin 2 × Fin 2)
def osem : OK → SemLoc sig
  | .inl h => .dma (copyS h)
  | .inr (.inl (l, i)) => sem ((laneK l).get i)
  | .inr (.inr (p, d)) => sem (.cr p d)

theorem own_eq (c : Dev nD) : (Pipeline.ownSems0 (Ix := ℕ) (Name := ℕ) (U := UU) (Lvl := ℕ) (Val := Elt F) (τ := τ) osem c : sProp 𝕄)
    = iprop((semVal ((c : Thread nD τ), .dma (copyS 0)) 0 ∗ semVal ((c : Thread nD τ), .dma (copyS 1)) 0)
      ∗ bigSepL lanes (LaneOf fun k => semVal (cell c k) 0) ∗ CrOf fun k => semVal (cell c k) 0) := by
  rw [Pipeline.ownSems0_eq_of_list c osem ([.inl 0, .inl 1] ++ ((lanes.flatMap fun l => (List.finRange 7).map fun i => .inr (.inl (l, i)))
      ++ ([.inr (.inr (0, 0)), .inr (.inr (0, 1))] ++ [.inr (.inr (1, 0)), .inr (.inr (1, 1))]))) (by decide +kernel) (by decide +kernel),
    bigSepL_append, bigSepL_append, bigSepL_append, bigSepL_flatMap]
  rfl

/-- Something done for each element of a list. -/
theorem over_fupd {A : Type} (E : sProp 𝕄) [BI.Persistent E] (Φ Ψ : A → sProp 𝕄) (h : ∀ a, iprop(E ∗ Φ a) ⊢ iprop(|={Set.univ}=> Ψ a)) :
    ∀ L : List A, iprop(E ∗ bigSepL L Φ) ⊢ iprop(|={Set.univ}=> bigSepL L Ψ)
  | [] => by
    show iprop(E ∗ emp) ⊢ iprop(|={Set.univ}=> emp)
    iintro -
    imodintro
    iempintro
  | a :: L => by
    rw [bigSepL_cons', bigSepL_cons']
    iintro ⟨#HE, Ha, HL⟩
    imod (h a) $$ [Ha] with Ha
    · isplitr; · iexact HE
      iexact Ha
    imod (over_fupd E Φ Ψ h L) $$ [HL] with HL
    · isplitr; · iexact HE
      iexact HL
    imodintro
    isplitl [Ha] <;> iassumption

/-! ## Cells taken out of the protocol -/

section Close

variable (part : Parts F) (κ : NameK) (κx : NameX) (c : Dev nD)

/-- A cell past its last round gives its semaphore back, at zero. -/
theorem close (k : K) (R : ℕ) (h : ∀ r, R ≤ r → dutiesK r k = ∅) :
    iprop(Env part κ κx ∗ atPos ER (cell c k) R ∅ 0) ⊢ (iprop(|={Set.univ}=> semVal (cell c k) 0) : sProp 𝕄) := by
  iintro ⟨#HE, Hat⟩
  iapply (Rounds.cell_close ER (Rd part) (κ := κ (c, k)) (Set.mem_univ _) (not_unitless part _) (R := R) (fun r hr => (duties_cell part c k r).trans (h r hr)))
  isplitr; · iapply (Env.cell part κ κx c k); iexact HE
  iexact Hat

/-- A slot semaphore whose handings are all taken. -/
theorem close_cr (p d : Fin 2) (n : ℕ) (hn : n = units p) : iprop(Env part κ κx ∗ Taken c p d n) ⊢ (iprop(|={Set.univ}=> semVal (cell c (.cr p d)) 0) : sProp 𝕄) := by
  unfold Taken
  iintro ⟨#HE, ⟨%T, %hT, Hat, -⟩⟩
  have hsub : (Rd part).duties (cell c (.cr p d)) 0 ⊆ T := by
    rw [show (Rd part).duties (cell c (.cr p d)) 0 = Finset.range (units p) from duties_cell part c (.cr p d) 0, ← Finset.sdiff_eq_empty_iff_subset, ← Finset.card_eq_zero]
    omega
  imod (Rounds.fupd_skip ER (Rd part) (κ := κ (c, .cr p d)) hsub (hn.trans (expect_cr part c p d).symm) (Set.mem_univ _)) $$ [Hat] with ⟨Hat, -⟩
  · isplitr; · iapply (Env.cell part κ κx c (.cr p d)); iexact HE
    iexact Hat
  iapply (close part κ κx c (.cr p d) 1 (fun r hr => if_neg (by omega)))
  isplitr; · iexact HE
  iexact Hat

/-- A lane's cells. -/
theorem close_lane (l : Fin 2 × Fin 4) : iprop(Env part κ κx ∗ RPos c 7 l ∗ APos c 7 l) ⊢ (iprop(|={Set.univ}=> LaneOf (fun k => semVal (cell c k) 0) l) : sProp 𝕄) := by
  have hR : RPos (F := F) c 7 l = iprop(atPos ER (cell c (.rsS l.1 l.2)) 7 ∅ 0 ∗ atPos ER (cell c (.rsV l.1 l.2 1)) 3 ∅ 0 ∗ atPos ER (cell c (.rsV l.1 l.2 0)) 4 ∅ 0) := rfl
  have hA : APos (F := F) c 7 l = iprop(atPos ER (cell c (.agS l.1 l.2)) 7 ∅ 0 ∗ atPos ER (cell c (.agV l.1 l.2 1)) 2 ∅ 0 ∗ atPos ER (cell c (.agV l.1 l.2 2)) 2 ∅ 0
    ∗ atPos ER (cell c (.agV l.1 l.2 0)) 3 ∅ 0) := rfl
  rw [hR, hA]
  unfold LaneOf
  iintro ⟨#HE, ⟨H1, H2, H3⟩, H4, H5, H6, H7⟩
  imod (close part κ κx c (.rsS l.1 l.2) 7 (fun r hr => if_neg (by omega))) $$ [H1] with H1
  · isplitr; · iexact HE
    iexact H1
  imod (close part κ κx c (.rsV l.1 l.2 1) 3 (fun r hr => if_neg (by show ¬(2 * r + 1 < 7); omega))) $$ [H2] with H2
  · isplitr; · iexact HE
    iexact H2
  imod (close part κ κx c (.rsV l.1 l.2 0) 4 (fun r hr => if_neg (by show ¬(2 * r + 0 < 7); omega))) $$ [H3] with H3
  · isplitr; · iexact HE
    iexact H3
  imod (close part κ κx c (.agS l.1 l.2) 7 (fun r hr => if_neg (by omega))) $$ [H4] with H4
  · isplitr; · iexact HE
    iexact H4
  imod (close part κ κx c (.agV l.1 l.2 1) 2 (fun r hr => if_neg (by show ¬(3 * r + 1 < 7); omega))) $$ [H5] with H5
  · isplitr; · iexact HE
    iexact H5
  imod (close part κ κx c (.agV l.1 l.2 2) 2 (fun r hr => if_neg (by show ¬(3 * r + 2 < 7); omega))) $$ [H6] with H6
  · isplitr; · iexact HE
    iexact H6
  imod (close part κ κx c (.agV l.1 l.2 0) 3 (fun r hr => if_neg (by show ¬(3 * r + 0 < 7); omega))) $$ [H7] with H7
  · isplitr; · iexact HE
    iexact H7
  imodintro
  isplitl [H1]; · iexact H1
  isplitl [H3]; · iexact H3
  isplitl [H2]; · iexact H2
  isplitl [H4]; · iexact H4
  isplitl [H7]; · iexact H7
  isplitl [H5]; · iexact H5
  iexact H6

/-- All the kernel's own cells, and the barrier. -/
theorem close_all : iprop(Env part κ κx ∗ (bigSepL lanes (RPos c 7) ∗ bigSepL lanes (APos c 7)) ∗ (Take2 c 0 5 ∗ Take2 c 1 4) ∗ atPos ER (cell c .bar) 1 ∅ 0)
    ⊢ (iprop(|={Set.univ}=> (semVal (cell c .bar) 0 ∗ bigSepL lanes (LaneOf fun k => semVal (cell c k) 0) ∗ CrOf fun k => semVal (cell c k) 0)) : sProp 𝕄) := by
  unfold Take2 CrOf
  iintro ⟨#HE, ⟨HR, HA⟩, ⟨⟨H00, H01⟩, H10, H11⟩, Hb⟩
  ihave HL := (lsep lanes (RPos (F := F) c 7) (APos (F := F) c 7)).2 $$ [HR HA]
  · isplitl [HR] <;> iassumption
  imod (over_fupd (Env part κ κx) _ _ (close_lane part κ κx c) lanes) $$ [HL] with HL
  · isplitr; · iexact HE
    iexact HL
  imod (close part κ κx c .bar 1 (fun r hr => if_neg (by omega))) $$ [Hb] with Hb
  · isplitr; · iexact HE
    iexact Hb
  imod (close_cr part κ κx c 0 0 5 rfl) $$ [H00] with H00
  · isplitr; · iexact HE
    iexact H00
  imod (close_cr part κ κx c 0 1 5 rfl) $$ [H01] with H01
  · isplitr; · iexact HE
    iexact H01
  imod (close_cr part κ κx c 1 0 4 rfl) $$ [H10] with H10
  · isplitr; · iexact HE
    iexact H10
  imod (close_cr part κ κx c 1 1 4 rfl) $$ [H11] with H11
  · isplitr; · iexact HE
    iexact H11
  imodintro
  isplitl [Hb]; · iexact Hb
  isplitl [HL]; · iexact HL
  isplitl [H00 H01]
  · isplitl [H00] <;> iassumption
  isplitl [H10] <;> iassumption

/-! ## The landing slots lent and given back -/

/-- A device's slots are what it lends at the barrier. -/
theorem lend : iprop(Env part κ κx ∗ bigSepL lanes (SlotR c) ∗ bigSepL lanes (SlotA c)) ⊢ Lent (F := F) c := by
  have h : ∀ d sub, iprop(Env part κ κx ∗ SlotR c (d, sub) ∗ SlotA c (d, sub)) ⊢ barLane (F := F) (bwd d c) d sub := fun d sub => by
    unfold SlotR SlotA barLane permR permA
    rw [fwd_bwd]
    iintro ⟨#HE, ⟨H0, H1⟩, H2, H3, H4⟩
    isplitl [H0 H1]
    · isplitl [H0]
      · isplitl [H0]; · iexact H0
        iapply (Env.reached part κ κx c (.rsV d sub 0)); iexact HE
      isplitl [H1]; · iexact H1
      iapply (Env.reached part κ κx c (.rsV d sub 1)); iexact HE
    isplitl [H2]
    · isplitl [H2]; · iexact H2
      iapply (Env.reached part κ κx c (.agV d sub 0)); iexact HE
    isplitl [H3]
    · isplitl [H3]; · iexact H3
      iapply (Env.reached part κ κx c (.agV d sub 1)); iexact HE
    isplitl [H4]; · iexact H4
    iapply (Env.reached part κ κx c (.agV d sub 2)); iexact HE
  have h' : ∀ d, iprop(Env part κ κx ∗ bigSepL subs fun sub => iprop(SlotR c (d, sub) ∗ SlotA c (d, sub))) ⊢ bigSepL subs (barLane (F := F) (bwd d c) d) := fun d => by
    show iprop(Env part κ κx ∗ ((SlotR c (d, 0) ∗ SlotA c (d, 0)) ∗ (SlotR c (d, 1) ∗ SlotA c (d, 1)) ∗ (SlotR c (d, 2) ∗ SlotA c (d, 2)) ∗ (SlotR c (d, 3) ∗ SlotA c (d, 3))))
      ⊢ iprop(barLane (bwd d c) d 0 ∗ barLane (bwd d c) d 1 ∗ barLane (bwd d c) d 2 ∗ barLane (bwd d c) d 3)
    iintro ⟨#HE, H0, H1, H2, H3⟩
    isplitl [H0]
    · iapply (h d 0)
      isplitr; · iexact HE
      iexact H0
    isplitl [H1]
    · iapply (h d 1)
      isplitr; · iexact HE
      iexact H1
    isplitl [H2]
    · iapply (h d 2)
      isplitr; · iexact HE
      iexact H2
    iapply (h d 3)
    isplitr; · iexact HE
    iexact H3
  unfold Lent
  iintro ⟨#HE, HR, HA⟩
  ihave H := (lsep lanes (SlotR (F := F) c) (SlotA c)).2 $$ [HR HA]
  · isplitl [HR] <;> iassumption
  ihave H := (Entails.of_eq (lanes_eq fun l => iprop(SlotR (F := F) c l ∗ SlotA c l))) $$ H
  icases H with ⟨H0, H1⟩
  isplitl [H0]
  · iapply (h' 0)
    isplitr; · iexact HE
    iexact H0
  iapply (h' 1)
  isplitr; · iexact HE
  iexact H1

/-- What the last steps free is all the slots. -/
theorem unlend : iprop(Back c 7 ∗ ABack c 7 ∗ bigSepL lanes (fun l => hasAny c (agM l.1 l.2 (sl3 6)))) ⊢ (iprop(bigSepL lanes (SlotR c) ∗ bigSepL lanes (SlotA c)) : sProp 𝕄) := by
  have hr : ∀ s b, sl2 (s + 2) = b → Free2 c 0 s ⊢ (bigSepL lanes fun l => hasAny c (rsM l.1 l.2 b) : sProp 𝕄) := fun s b hb => by
    have h : ∀ d, freed (bwd d c) 0 d s ⊢ (bigSepL subs fun sub => hasAny c (rsM d sub b) : sProp 𝕄) := fun d => by
      unfold freed
      refine bigSepL_mono (l := subs) fun sub _ => ?_
      rw [if_pos rfl]
      unfold permR
      rw [fwd_bwd, hb]
      iintro ⟨H, -⟩
      iexact H
    unfold Free2
    rw [lanes_eq]
    exact BI.sep_mono (h 0) (h 1)
  have ha : ∀ s b, sl3 (s + 3) = b → Free2 c 1 s ⊢ (bigSepL lanes fun l => hasAny c (agM l.1 l.2 b) : sProp 𝕄) := fun s b hb => by
    have h : ∀ d, freed (bwd d c) 1 d s ⊢ (bigSepL subs fun sub => hasAny c (agM d sub b) : sProp 𝕄) := fun d => by
      unfold freed
      refine bigSepL_mono (l := subs) fun sub _ => ?_
      rw [if_neg (by decide)]
      unfold permA
      rw [fwd_bwd, hb]
      iintro ⟨H, -⟩
      iexact H
    unfold Free2
    rw [lanes_eq]
    exact BI.sep_mono (h 0) (h 1)
  have hB : Back c 7 ⊢ (iprop(Free2 c 0 6 ∗ Free2 c 0 5) : sProp 𝕄) := by
    show iprop(Free2 c 0 6 ∗ Free2 c 0 5 ∗ emp ∗ emp ∗ emp ∗ emp ∗ emp ∗ emp) ⊢ iprop(Free2 c 0 6 ∗ Free2 c 0 5)
    iintro ⟨H6, H5, -⟩
    isplitl [H6] <;> iassumption
  have hAB : ABack c 7 ⊢ (iprop(Free2 c 1 5 ∗ Free2 c 1 4) : sProp 𝕄) := by
    show iprop(Free2 c 1 5 ∗ Free2 c 1 4 ∗ emp ∗ emp ∗ emp ∗ emp ∗ emp ∗ emp) ⊢ iprop(Free2 c 1 5 ∗ Free2 c 1 4)
    iintro ⟨H6, H5, -⟩
    isplitl [H6] <;> iassumption
  iintro ⟨HB, HAB, H2⟩
  ihave HB := hB $$ HB
  icases HB with ⟨HB0, HB1⟩
  ihave HAB := hAB $$ HAB
  icases HAB with ⟨HA2, HA1⟩
  ihave HB0 := (hr 6 0 rfl) $$ HB0
  ihave HB1 := (hr 5 1 rfl) $$ HB1
  ihave HA2 := (ha 5 2 rfl) $$ HA2
  ihave HA1 := (ha 4 1 rfl) $$ HA1
  isplitl [HB0 HB1]
  · iapply (lsep lanes (fun l => hasAny (F := F) c (rsM l.1 l.2 0)) (fun l => hasAny c (rsM l.1 l.2 1))).2
    isplitl [HB0] <;> iassumption
  iapply (lsep lanes (fun l => hasAny (F := F) c (agM l.1 l.2 0)) (fun l => iprop(hasAny c (agM l.1 l.2 1) ∗ hasAny c (agM l.1 l.2 2)))).2
  isplitl [H2]; · iexact H2
  iapply (lsep lanes (fun l => hasAny (F := F) c (agM l.1 l.2 1)) (fun l => hasAny c (agM l.1 l.2 2))).2
  isplitl [HA1] <;> iassumption

end Close

end Cert.K

end
-- ==== Proof.Same.lean ====
module

public import proofs.«01_k».proof.Proof.Text
public import Idealize.ShloMosaic.Lib.Pipeline.Regions

@[expose] public section

noncomputable section

namespace Cert.K

open Cert.KernelIdeal Cert.KernelIdeal.Gen
open Idealize.ShloMosaic Idealize.SL.Sem

variable {F : FTy → Type} [FloatOps F]

/-- What a program goes on with once it has read its device to be `d`. -/
def onDev (d : Dev nD) : TProg F → TProg F
  | .op .deviceId k => k d
  | p => p

/-- The printed body on the buffers the pipeline calls it with. -/
abbrev printed : TProg F :=
  cc0_body xM (Memref.isWhole_whole _) kM (Memref.isWhole_whole _) wM (Memref.isWhole_whole _) oM (Memref.isWhole_whole _) tM (Memref.isWhole_whole _) cc0_scratch1 rM (Memref.isWhole_whole _) gM (Memref.isWhole_whole _) cc0_scratch4 cc0_scratch5 cc0_scratch6 cc0_scratch7 cc0_scratch8

theorem printed_op : (printed : TProg F) = .op .deviceId fun d => onDev d printed := by chain_rfl

theorem onDev_0 : onDev 0 (printed : TProg F) = prog 0 := by chain_rfl
theorem onDev_1 : onDev 1 (printed : TProg F) = prog 1 := by chain_rfl
theorem onDev_2 : onDev 2 (printed : TProg F) = prog 2 := by chain_rfl
theorem onDev_3 : onDev 3 (printed : TProg F) = prog 3 := by chain_rfl
theorem onDev_4 : onDev 4 (printed : TProg F) = prog 4 := by chain_rfl
theorem onDev_5 : onDev 5 (printed : TProg F) = prog 5 := by chain_rfl
theorem onDev_6 : onDev 6 (printed : TProg F) = prog 6 := by chain_rfl
theorem onDev_7 : onDev 7 (printed : TProg F) = prog 7 := by chain_rfl

/-- A statement about a device holds of all if it holds of each of the eight. -/
theorem each (P : Dev nD → Prop) (h0 : P 0) (h1 : P 1) (h2 : P 2) (h3 : P 3) (h4 : P 4) (h5 : P 5) (h6 : P 6) (h7 : P 7) : ∀ d, P d
  | 0 => h0 | 1 => h1 | 2 => h2 | 3 => h3 | 4 => h4 | 5 => h5 | 6 => h6 | 7 => h7

theorem onDev_eq : ∀ d : Dev nD, onDev d (printed : TProg F) = prog d :=
  each (fun d => onDev d (printed : TProg F) = prog d) onDev_0 onDev_1 onDev_2 onDev_3 onDev_4 onDev_5 onDev_6 onDev_7

/-- The printed body is the structured one, at every device. -/
theorem printed_eq : (printed : TProg F) = .op .deviceId prog :=
  (printed_op (F := F)).trans (congrArg (fun k : Dev nD → TProg F => (Prog.op TpuEff.deviceId k : TProg F)) (funext onDev_eq))

end Cert.K

end
-- ==== Proof.Body.lean ====
/-
The kernel's body as the pipeline calls it: what it starts from, what it ends with, and its run between them.
-/
module

public import proofs.«01_k».proof.Proof.Close
public import proofs.«01_k».proof.Proof.Same
public import proofs.«01_k».proof.Proof.Gen.KernelIdeal.Points
public import proofs.«01_k».proof.Proof.Gen.KernelIdeal.Launch

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat BodyObligation)
open Idealize.ShloMosaic.TalkSites (tallyL)

variable {F : FTy → Type} [FloatOps F]

local notation "𝕄" => MT nD τ sig ℕ (Elt F) ℕ UU ℕ

variable (m : (ℓ : Loc nD τ sig) → Buf (Elt F) ℓ) (ρ : Dev nD → PrngReg)

/-- The memory a run starts from. -/
def s₀ : MemSt nD τ sig (Elt F) := ⟨m, fun _ => 0, ρ⟩

/-! ## What a device computes with -/

/-- The kernel's taps, the weights, the sequence: device `c`'s blocks. -/
def kvOf (c : Dev nD) : FVec F S4x1024 .f32 := (win0_0.blk (0 : Fin 1)).view.read (Elt F) (m ((c : Thread nD τ).loc main_arg1))
def wvOf (c : Dev nD) : FVec F S1024x1024 .f32 := (win0_1.blk (0 : Fin 1)).view.read (Elt F) (m ((c : Thread nD τ).loc main_arg2))
def xvOf (c : Dev nD) : FVec F S2x4096x1024 .f32 := m (xLoc c)
/-- Device `c`'s partial products. -/
def partOf : Parts F := fun c g h => half (kvOf m c) (truncf .bf16 (wvOf m c) bitsLt_bf16_f32) (staged (xvOf m c) g h)

/-! ## The body's assertions -/

/-- The buffers of the kernel's own, with some contents. -/
def Scr (c : Dev nD) : sProp 𝕄 :=
  iprop((∃ f : Buf (Elt F) (tLoc c), tLoc c ↦{fullShare} f) ∗ (∃ f : Buf (Elt F) (rLoc c), rLoc c ↦{fullShare} f) ∗ (∃ f : Buf (Elt F) (gLoc c), gLoc c ↦{fullShare} f))
/-- The copies' semaphores, idle. -/
def Cop (c : Dev nD) : sProp 𝕄 := iprop(semVal ((c : Thread nD τ), .dma (copyS 0)) 0 ∗ semVal ((c : Thread nD τ), .dma (copyS 1)) 0)

/-- What the launch deals device `c`, but for the levels, the credit and the buffers. -/
def Deal (κ : NameK) (κx : NameX) (c : Dev nD) : sProp 𝕄 :=
  iprop(bigSepL evs (tok c) ∗ bigSepL wevs (wtok c) ∗ (bigSep Finset.univ fun k : K => atPos ER (cell c k) 0 ∅ 0) ∗ (AtX c 0 0 ∗ AtX c 1 0) ∗ Cop c)

/-- What the body starts from, but for the kernel's own buffers. -/
def Start (c : Dev nD) : sProp 𝕄 :=
  iprop((∃ κ κx, Env (partOf m) κ κx ∗ Deal κ κx c) ∗ cred (tallyL (wevs.map fun e => (cell c e.kind, e.lvl, e.amt))) ∗ (xLoc c ↦{fullShare} xvOf m c))
def Φ₀ (c : Dev nD) : sProp 𝕄 := iprop(Start m c ∗ Scr c)
/-- What it ends with. -/
def Φ₁ (c : Dev nD) : sProp 𝕄 :=
  iprop((semVal (cell c .bar) 0 ∗ (xLoc c ↦{fullShare} xvOf m c))
    ∗ (Cop c ∗ bigSepL lanes (LaneOf fun k => semVal (cell c k) 0) ∗ CrOf fun k => semVal (cell c k) 0) ∗ Scr c)

/-- The pipeline's data: each window's contents, what the body starts from and ends with, what is owed. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => kvOf m c
    | ⟨1, _⟩ => wvOf m c
    | ⟨2, _⟩ => outAt (partOf m) c
  Φ t := match t with
    | ⟨0, _⟩ => Φ₀ m c
    | ⟨_ + 1, _⟩ => Φ₁ m c
  q _ := fullShare
  owed t := match t with
    | ⟨0, _⟩ => owed c evs
    | ⟨_ + 1, _⟩ => 0

/-! ## The body -/

section Body

variable (c : Dev nD)

/-- The shares the two copies read the sequence at. -/
def halves : Fin 2 → PosShare TreeShare := ![(fullShare : PosShare TreeShare).left, (fullShare : PosShare TreeShare).right]

theorem x_halves (x : FVec F S2x4096x1024 .f32) : (xLoc c ↦{fullShare} x : sProp 𝕄) ⊣⊢ iprop((xLoc c ↦{halves 0} x) ∗ (xLoc c ↦{halves 1} x)) :=
  pointsTo_share (PosShare.mem_left_op_right fullShare)

/-- What a device holds for the loops, from what it is dealt. -/
theorem held (x : FVec F S2x4096x1024 .f32) :
    iprop((bigSep Finset.univ fun k : K => atPos ER (cell c k) 0 ∅ 0) ∗ (AtX c 0 0 ∗ AtX c 1 0) ∗ Cop c ∗ (xLoc c ↦{fullShare} x)
        ∗ (∃ f : Buf (Elt F) (tLoc c), tLoc c ↦{fullShare} f) ∗ (∃ f : Buf (Elt F) (oLoc c), oLoc c ↦{fullShare} f))
      ⊢ iprop(atPos ER (cell c .bar) 0 ∅ 0 ∗ Held c halves x) := by
  have hL : ∀ l, LaneOf (fun k : K => atPos ER (cell c k) 0 ∅ 0) l ⊢ (iprop(RPos c 0 l ∗ APos c 0 l) : sProp 𝕄) := fun l => by
    show iprop(atPos ER (cell c (.rsS l.1 l.2)) 0 ∅ 0 ∗ atPos ER (cell c (.rsV l.1 l.2 0)) 0 ∅ 0 ∗ atPos ER (cell c (.rsV l.1 l.2 1)) 0 ∅ 0
        ∗ atPos ER (cell c (.agS l.1 l.2)) 0 ∅ 0 ∗ atPos ER (cell c (.agV l.1 l.2 0)) 0 ∅ 0 ∗ atPos ER (cell c (.agV l.1 l.2 1)) 0 ∅ 0 ∗ atPos ER (cell c (.agV l.1 l.2 2)) 0 ∅ 0)
      ⊢ iprop((atPos ER (cell c (.rsS l.1 l.2)) 0 ∅ 0 ∗ atPos ER (cell c (.rsV l.1 l.2 0)) 0 ∅ 0 ∗ atPos ER (cell c (.rsV l.1 l.2 1)) 0 ∅ 0)
        ∗ atPos ER (cell c (.agS l.1 l.2)) 0 ∅ 0 ∗ atPos ER (cell c (.agV l.1 l.2 0)) 0 ∅ 0 ∗ atPos ER (cell c (.agV l.1 l.2 1)) 0 ∅ 0 ∗ atPos ER (cell c (.agV l.1 l.2 2)) 0 ∅ 0)
    iintro ⟨H1, H2, H3, H⟩
    isplitl [H1 H2 H3]
    · isplitl [H1]; · iexact H1
      isplitl [H2] <;> iassumption
    iexact H
  have hC : ∀ p d, atPos ER (cell c (.cr p d)) 0 ∅ 0 ⊢ (Taken c p d 0 : sProp 𝕄) := fun p d => by
    unfold Taken
    iintro H
    iexists ∅
    isplitr
    · ipureintro
      rw [Finset.sdiff_empty, Finset.card_range, Nat.zero_add]
    isplitl [H]; · iexact H
    rw [bigSep_empty]
    iempintro
  have hLL : bigSepL lanes (LaneOf fun k : K => atPos ER (cell c k) 0 ∅ 0) ⊢ (iprop(bigSepL lanes (RPos c 0) ∗ bigSepL lanes (APos c 0)) : sProp 𝕄) :=
    (bigSepL_mono (l := lanes) fun l _ => hL l).trans (lsep lanes (RPos (F := F) c 0) (APos c 0)).1
  rw [K_list]
  unfold CrOf Held Take2 Idle2 Idle Cop
  iintro ⟨⟨Hb, HL, ⟨H00, H01⟩, H10, H11⟩, HX, ⟨Hc0, Hc1⟩, Hx, Ht, Ho⟩
  isplitl [Hb]; · iexact Hb
  ihave HL := hLL $$ HL
  icases HL with ⟨HR, HA⟩
  ihave Hx := (x_halves c x).1 $$ Hx
  icases Hx with ⟨Hx0, Hx1⟩
  ihave Ht := (stage_split c) $$ Ht
  icases Ht with ⟨Ht0, Ht1⟩
  ihave Ho := (out_split c) $$ Ho
  isplitl [HR]; · iexact HR
  isplitl [HA]; · iexact HA
  isplitl [H00 H01 H10 H11]
  · isplitl [H00 H01]
    · isplitl [H00]; · iapply (hC 0 0); iexact H00
      iapply (hC 0 1); iexact H01
    isplitl [H10]; · iapply (hC 1 0); iexact H10
    iapply (hC 1 1); iexact H11
  isplitl [HX]; · iexact HX
  isplitr [Ho]
  · isplitl [Hc0 Ht0 Hx0]
    · isplitl [Hc0]; · iexact Hc0
      isplitl [Ht0]; · iexact Ht0
      iexact Hx0
    isplitl [Hc1]; · iexact Hc1
    isplitl [Ht1]; · iexact Ht1
    iexact Hx1
  iexact Ho

/-- What the program leaves, its cells closed, is what the body ends with. -/
theorem finish (κ : NameK) (κx : NameX) (x : FVec F S2x4096x1024 .f32) (part : Parts F) :
    iprop(Env part κ κx ∗ atPos ER (cell c .bar) 1 ∅ 0 ∗ Left part c halves x)
      ⊢ iprop(|={Set.univ}=> (((semVal (cell c .bar) 0 ∗ (xLoc c ↦{fullShare} x))
        ∗ (Cop c ∗ bigSepL lanes (LaneOf fun k => semVal (cell c k) 0) ∗ CrOf fun k => semVal (cell c k) 0) ∗ Scr c) ∗ (oLoc c ↦{fullShare} outAt part c))) := by
  unfold Left Idle2 Idle Cop Scr
  iintro ⟨#HE, Hb, HP, HT, ⟨⟨Hc0, Ht0, Hx0⟩, Hc1, Ht1, Hx1⟩, HF, HA, HS⟩
  imod (close_all part κ κx c) $$ [Hb HP HT] with ⟨Hb, HL, HC⟩
  · isplitr; · iexact HE
    isplitl [HP]; · iexact HP
    isplitl [HT] <;> iassumption
  ihave Hx := (x_halves c x).2 $$ [Hx0 Hx1]
  · isplitl [Hx0] <;> iassumption
  ihave Ht := (stage_join c) $$ [Ht0 Ht1]
  · isplitl [Ht0] <;> iassumption
  ihave HF := (unlend c) $$ HF
  icases HF with ⟨HR, HG⟩
  ihave HR := (slotsR_join c) $$ HR
  ihave HG := (slotsA_join c) $$ HG
  ihave HO := (out_join part c) $$ [HA HS]
  · isplitl [HA] <;> iassumption
  imodintro
  isplitr [HO]
  · isplitl [Hb Hx]
    · isplitl [Hb] <;> iassumption
    isplitl [Hc0 Hc1 HL HC]
    · isplitl [Hc0 Hc1]
      · isplitl [Hc0] <;> iassumption
      isplitl [HL] <;> iassumption
    isplitl [Ht]; · iexact Ht
    isplitl [HR] <;> iassumption
  iexact HO

/-- The credit the launch deals, with the rights to take slots, is the waits' credit. -/
theorem wcr_of : iprop(cred (tallyL (wevs.map fun e => (cell c e.kind, e.lvl, e.amt))) ∗ bigSepL wevs (wtok c)) ⊢ (bigSepL wevs (wcr c) : sProp 𝕄) := by
  rw [TalkSites.cred_tallyL, bigSepL_map]
  exact (lsep wevs _ _).2

abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

theorem cfg0_N : cfg0.N = 1 := by decide
def t₀ : Fin cfg0.N := ⟨0, by rw [cfg0_N]; decide⟩
theorem fin_N (t : Fin cfg0.N) : t = t₀ := by
  obtain ⟨t, ht⟩ := t
  have := cfg0_N
  exact Fin.ext (by simp only [t₀]; omega)

theorem owns_whole_eq (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

def bodyPre : sProp 𝕄 :=
  iprop(Φ₀ m c ∗ (dats m ρ 0 c).owesAt 0 t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost : sProp 𝕄 :=
  iprop(Φ₁ m c ∗ (dats m ρ 0 c).owesAt 0 t₀.succ ∗ stg c cc0_stg0_0 (kvOf m c) ∗ stg c cc0_stg1_0 (wvOf m c) ∗ stg c cc0_stg2_0 (outAt (partOf m) c))

/-- The printed body, from what the pipeline hands it to what it hands back. -/
theorem sound : bodyPre m ρ c ⊢ Wp c printed (fun _ => bodyPost m ρ c) := by
  rw [printed_eq]
  unfold Wp
  rw [wp_deviceId]
  show bodyPre m ρ c ⊢ Wp c (prog c) (fun _ => bodyPost m ρ c)
  unfold bodyPre Φ₀ Start Scr Deal
  iintro ⟨⟨⟨⟨%κ, %κx, #HE, Htok, Hwt, Hat, HX, HC⟩, Hcr, Hx⟩, Ht, Hr, Hg⟩, Ho, ⟨%d0, %g0, %hg0, H0⟩, ⟨%d1, %g1, %hg1, H1⟩, ⟨%d2, %g2, %hg2, H2⟩⟩
  have h0 : g0 = kvOf m c := by rw [hg0]; unfold Dat.before; rw [if_pos (fetch0_0 t₀)]; rfl
  have h1 : g1 = wvOf m c := by rw [hg1]; unfold Dat.before; rw [if_pos (fetch0_1 t₀)]; rfl
  subst h0
  subst h1
  unfold Dat.owesAt Pipeline.owesWithin
  icases Ho with ⟨%W, %hW, HO⟩
  ihave Hw := (wcr_of c) $$ [Hcr Hwt]
  · isplitl [Hcr] <;> iassumption
  ihave Hr := (slotsR_split c) $$ Hr
  ihave Hg := (slotsA_split c) $$ Hg
  ihave HL := (lend (partOf m) κ κx c) $$ [Hr Hg]
  · isplitr; · iexact HE
    isplitl [Hr] <;> iassumption
  ihave HH := (held c (xvOf m c)) $$ [Hat HX HC Hx Ht H2]
  · isplitl [Hat]; · iexact Hat
    isplitl [HX]; · iexact HX
    isplitl [HC]; · iexact HC
    isplitl [Hx]; · iexact Hx
    isplitl [Ht]; · iexact Ht
    iexists g2; iexact H2
  icases HH with ⟨Hb, HH⟩
  iapply (wp_prog (partOf m) κ κx c (kvOf m c) halves (xvOf m c) (wvOf m c) (fun g h => rfl)) $$ [HO Htok Hw HL Hb H0 H1 HH]
  · isplitr; · iexact HE
    isplitl [HO Htok]
    · unfold Duty
      isplitl [HO]; · iexists W; iexact HO
      iexact Htok
    isplitl [Hw]; · iexact Hw
    isplitl [HL]; · iexact HL
    isplitl [Hb]; · iexact Hb
    isplitl [H0 H1]
    · unfold Inp
      isplitl [H0]; · iexact H0
      iexact H1
    iexact HH
  iintro ⟨HD, Hb, HI, HL⟩
  unfold Wp Duty Inp
  icases HD with ⟨⟨%W', HO⟩, -⟩
  icases HI with ⟨H0, H1⟩
  iapply (fupd_wp frame (wpE defs₀ 𝒱₀ (c : Thread nD τ) none) Set.univ _ _)
  imod (finish c κ κx (xvOf m c) (partOf m)) $$ [Hb HL] with ⟨HF, H2⟩
  · isplitr; · iexact HE
    isplitl [Hb] <;> iassumption
  imodintro
  rw [wp_ret]
  imodintro
  unfold bodyPost Φ₁ Dat.owesAt Pipeline.owesWithin
  isplitl [HF]; · iexact HF
  isplitl [HO]
  · iexists W'
    isplitr; · ipureintro; exact fun _ _ => Or.inl trivial
    iexact HO
  isplitl [H0]
  · iexists _
    isplitr; · ipureintro; rfl
    iexact H0
  isplitl [H1]
  · iexists _
    isplitr; · ipureintro; rfl
    iexact H1
  iexists _
  isplitr; · ipureintro; rfl
  iexact H2

/-- The pipeline's obligation for the body. -/
theorem body_obligation : BodyObligation (dats (F := F) m ρ 0 c) (defs₀ (F := F)) 𝒱₀ 0 Set.univ := fun t => by
  rw [fin_N t]
  rw [show ∀ Φ : Fin cfg0.W → sProp 𝕄, bigSep Finset.univ Φ = iprop(Φ (0 : Fin 3) ∗ Φ (1 : Fin 3) ∗ Φ (2 : Fin 3)) from fun Φ => bigSep_W0 Φ,
    show ∀ Φ : Fin cfg0.W → sProp 𝕄, bigSep Finset.univ Φ = iprop(Φ (0 : Fin 3) ∗ Φ (1 : Fin 3) ∗ Φ (2 : Fin 3)) from fun Φ => bigSep_W0 Φ]
  refine Idealize.SL.BI.Entails.trans (Q := bodyPre m ρ c) ?_ ?_
  · simp only [owns_whole_eq]
    exact Idealize.SL.BI.Entails.refl _
  have hi : ∀ w : Fin cfg0.W, cfg0.idle w (cfg0.grid.coords t₀) = false := fun w => by fin_cases w <;> rfl
  simp only [hi, owns_whole_eq]
  have hp : (defs₀ (F := F) Proc.tc cfg0.body (cfg0.bodyArgs t₀ (cfg0.slots t₀))) = printed := rfl
  rw [hp]
  have h3 : (dats m ρ 0 c).Φ t₀.succ = Φ₁ m c := rfl
  rw [h3]
  refine (sound m ρ c).trans (Entails.of_eq ?_)
  unfold Wp bodyPost
  congr 1

end Body

end Cert.K

end
-- ==== Proof.Deal.lean ====
module

public import proofs.«01_k».proof.Proof.Body

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (launchCred)

variable {F : FTy → Type} [FloatOps F]

local notation "𝕄" => MT nD τ sig ℕ (Elt F) ℕ UU ℕ

/-! ## The tokens minted, listed by who spends them -/

/-- A name for each token: the payer, the payment, and whether it is for the slot sent to or for the sender's own cell. -/
abbrev TokId : Type := Dev nD × Ev × Bool

/-- The cell a token is of, its round and its duty. Payments with no cell of their own take rounds no duty uses. -/
def tokKind : Ev × Bool → K
  | (e, false) => e.kind
  | (.rs _ d sub, true) => .rsS d sub
  | (.ag _ d sub, true) => .agS d sub
  | (.bar _, true) => .bar
  | (.cr p _ d, true) => .cr p d
def tokDev (c : Dev nD) : Ev × Bool → Dev nD
  | (e, false) => e.dst c
  | (_, true) => c
def tokRound : Ev × Bool → ℕ
  | (e, false) => e.round
  | (.rs s _ _, true) => s
  | (.ag s _ _, true) => s
  | (.bar _, true) => 1
  | (.cr _ _ _, true) => 1
def tokDuty : Ev × Bool → ℕ
  | (e, false) => e.duty
  | (.bar d, true) => d.val
  | (.cr _ k _, true) => k
  | (_, true) => 0
def tokAt (t : TokId) : GSem nD τ sig × ℕ × ℕ := (cell (tokDev t.1 t.2) (tokKind t.2), tokRound t.2, tokDuty t.2)

theorem cell_inj {c c' : Dev nD} {k k' : K} (h : cell c k = cell c' k') : c = c' ∧ k = k' :=
  ⟨congrArg (fun g : GSem nD τ sig => g.1.1) h, sem_injective (congrArg (fun g : GSem nD τ sig => g.2) h)⟩

theorem sl2_inj {s s' : ℕ} (h : sl2 s = sl2 s') (hr : s / 2 = s' / 2) : s = s' := by
  have h' : s % 2 = s' % 2 := congrArg Fin.val h
  omega
theorem sl3_inj {s s' : ℕ} (h : sl3 s = sl3 s') (hr : s / 3 = s' / 3) : s = s' := by
  have h' : s % 3 = s' % 3 := congrArg Fin.val h
  omega

theorem dst_injective (e : Ev) : Function.Injective fun c : Dev nD => e.dst c := by
  cases e with
  | bar d => exact (ring d).symm.injective
  | rs s d sub => exact (ring d).injective
  | ag s d sub => exact (ring d).injective
  | cr p k d => exact (ring d).symm.injective

theorem tok_event {x y : Ev × Bool} (hk : tokKind x = tokKind y) (hr : tokRound x = tokRound y) (hd : tokDuty x = tokDuty y) : x = y := by
  obtain ⟨e, b⟩ := x
  obtain ⟨e', b'⟩ := y
  cases b <;> cases b' <;> cases e <;> cases e' <;>
    simp only [tokKind, tokRound, tokDuty, Ev.kind, Ev.round, Ev.duty, reduceCtorEq, K.rsV.injEq, K.agV.injEq, K.cr.injEq, K.rsS.injEq, K.agS.injEq] at hk hr hd <;>
    first
      | omega
      | (obtain ⟨rfl, rfl, hs⟩ := hk; first | (cases sl2_inj hs hr; rfl) | (cases sl3_inj hs hr; rfl))
      | (obtain ⟨rfl, rfl⟩ := hk; subst hr; rfl)
      | (obtain ⟨rfl, rfl⟩ := hk; subst hd; rfl)
      | (cases Fin.ext hd; rfl)

theorem tokAt_injective : Function.Injective tokAt := by
  rintro ⟨c, x⟩ ⟨c', y⟩ h
  have hc := cell_inj (congrArg (fun t : GSem nD τ sig × ℕ × ℕ => t.1) h)
  have hx : x = y := tok_event hc.2 (congrArg (fun t : GSem nD τ sig × ℕ × ℕ => t.2.1) h) (congrArg (fun t : GSem nD τ sig × ℕ × ℕ => t.2.2) h)
  subst hx
  have hcc : c = c' := by
    have h1 : tokDev c x = tokDev c' x := hc.1
    obtain ⟨e, b⟩ := x
    cases b
    · exact dst_injective e h1
    · cases e <;> exact h1
  rw [hcc]

/-- The same of the ledgers: the right to take what a slot handing freed. -/
def takeAt (t : Dev nD × Ev) : (Dev nD × Fin 2 × Fin 2) × ℕ × ℕ :=
  match t with
  | (c, .cr p k d) => ((c, p, d), k, 0)
  | (c, .bar d) => ((c, 0, d), 0, 1)
  | (c, .rs s d sub) => ((c, 0, d), s, 2 + sub.val)
  | (c, .ag s d sub) => ((c, 1, d), s, 2 + sub.val)

theorem takeAt_injective : Function.Injective takeAt := by
  rintro ⟨c, x⟩ ⟨c', y⟩ h
  cases x <;> cases y <;> simp only [takeAt, Prod.mk.injEq] at h <;>
    first
      | omega
      | (obtain ⟨⟨rfl, -, rfl⟩, rfl, hs⟩ := h; cases Fin.ext (Nat.add_left_cancel hs); rfl)
      | (obtain ⟨⟨rfl, rfl, rfl⟩, rfl, -⟩ := h; rfl)
      | (obtain ⟨⟨rfl, -, rfl⟩, -, -⟩ := h; rfl)
      | (obtain ⟨⟨-, h1, -⟩, -, -⟩ := h; exact absurd h1 (by decide))

def cellAt (t : Dev nD × K) : GSem nD τ sig := cell t.1 t.2
theorem cellAt_injective : Function.Injective cellAt := fun a b h => Prod.ext (cell_inj h).1 (cell_inj h).2

/-- The cells, and the tokens minted for them. -/
def cellSet : Finset (GSem nD τ sig) := Finset.univ.map ⟨cellAt, cellAt_injective⟩
def tokSet : Finset (GSem nD τ sig × ℕ × ℕ) := (Finset.univ : Finset (Dev nD × {e // e ∈ evs.toFinset} × Bool)).map ⟨fun t => tokAt (t.1, t.2.1.1, t.2.2), fun a b h => by
    have h' := tokAt_injective h
    simp only [Prod.mk.injEq] at h'
    exact Prod.ext h'.1 (Prod.ext (Subtype.ext h'.2.1) h'.2.2)⟩
def takeSet : Finset ((Dev nD × Fin 2 × Fin 2) × ℕ × ℕ) := (Finset.univ : Finset (Dev nD × {e // e ∈ wevs.toFinset})).map ⟨fun t => takeAt (t.1, t.2.1), fun a b h => by
    have h' := takeAt_injective h
    simp only [Prod.mk.injEq] at h'
    exact Prod.ext h'.1 (Subtype.ext h'.2)⟩

/-- Over the members of a list without repetitions. -/
theorem bigSep_members {l : List Ev} (hl : l.Nodup) (Φ : Ev → sProp 𝕄) :
    (bigSep Finset.univ fun e : {e // e ∈ l.toFinset} => Φ e.1) = bigSepL l Φ := by
  have h := bigSep_map (s := l.toFinset.attach) (Function.Embedding.subtype fun e => e ∈ l.toFinset) (Φ := Φ)
  rw [Finset.attach_map_val, bigSep_eq_bigSepL_of_eq l rfl hl] at h
  exact h.symm

theorem wevs_nodup : wevs.Nodup := by decide +kernel

theorem tok_deal : (bigSep tokSet fun x => dutyTok ER x.1 x.2.1 x.2.2 : sProp 𝕄) ⊢ bigSep Finset.univ fun c : Dev nD => bigSepL evs (tok c) := by
  unfold tokSet
  rw [bigSep_map, bigSep_univ_prod]
  refine bigSep_mono fun c _ => ?_
  rw [bigSep_univ_prod, ← bigSep_members evs_nodup]
  refine bigSep_mono fun ⟨e, _⟩ _ => ?_
  rw [bigSep_eq_bigSepL_of_eq [false, true] (by decide) (by decide)]
  show iprop(dutyTok ER (cell (e.dst c) e.kind) e.round e.duty ∗ dutyTok ER (cell c (tokKind (e, true))) (tokRound (e, true)) (tokDuty (e, true))) ⊢ tok c e
  unfold tok
  cases e
  · iintro ⟨H, -⟩
    isplitl [H]
    · iexact H
    · unfold ownTok; iempintro
  · exact Idealize.SL.BI.Entails.refl _
  · exact Idealize.SL.BI.Entails.refl _
  · iintro ⟨H, -⟩
    isplitl [H]
    · iexact H
    · unfold ownTok; iempintro

omit [FloatOps F] in
theorem drop (X : sProp 𝕄) : X ⊢ iprop(emp) := by
  iintro -
  iempintro

theorem take_deal : (bigSep takeSet fun x => dutyTok EX x.1 x.2.1 x.2.2 : sProp 𝕄) ⊢ bigSep Finset.univ fun c : Dev nD => bigSepL wevs (wtok c) := by
  unfold takeSet
  rw [bigSep_map, bigSep_univ_prod]
  refine bigSep_mono fun c _ => ?_
  rw [← bigSep_members wevs_nodup]
  refine bigSep_mono fun ⟨e, _⟩ _ => ?_
  cases e
  · exact drop _
  · exact drop _
  · exact drop _
  · exact Idealize.SL.BI.Entails.refl _

/-! ## The credit the launch deals -/

theorem tallyL_sum (l : List Ev) :
    (∑ c : Dev nD, tallyL (l.map (pay c))) = ∑ c : Dev nD, tallyL (l.map fun e => (cell c e.kind, e.lvl, e.amt)) := by
  induction l with
  | nil => rfl
  | cons e l ih =>
    simp only [List.map_cons, tallyL]
    rw [Finset.sum_add_distrib, Finset.sum_add_distrib, ih]
    congr 1
    exact (Equiv.ofBijective _ (Finite.injective_iff_bijective.mp (dst_injective e))).sum_comp
      fun c : Dev nD => (tallyAt (cell c e.kind) e.lvl e.amt : CellTallies nD τ sig ℕ)

theorem tallyL_perm {l l' : List (Pay nD τ sig)} (h : l.Perm l') : tallyL l = tallyL l' := by
  induction h with
  | nil => rfl
  | cons x _ ih => rw [tallyL, tallyL, ih]
  | swap x y l => simp only [tallyL]; rw [add_left_comm]
  | trans _ _ h1 h2 => rw [h1, h2]

omit [FloatOps F] in
/-- The launch's credit, when all devices' debts sum to what each waits for. -/
theorem cred_of_sum (D T : Dev nD → CellTallies nD τ sig ℕ) (hs : (∑ d, D d) = ∑ d, T d)
    (hT : ∀ d g, T d g ≠ 0 → g.1 = (d : Thread nD τ)) (c : Dev nD) : (launchCred D c : sProp 𝕄) = cred (T c) :=
  Pipeline.launchCred_of_sum D T hs hT c

/-- What a device waits for in a list of payments. -/
def due (l : List Ev) (c : Dev nD) : CellTallies nD τ sig ℕ := tallyL (l.map fun e => (cell c e.kind, e.lvl, e.amt))

theorem due_own (l : List Ev) (d : Dev nD) (g : GSem nD τ sig) (h : due l d g ≠ 0) : g.1 = (d : Thread nD τ) := by
  obtain ⟨i, hi⟩ : ∃ i, due l d g i ≠ 0 := by
    by_contra hn
    exact h (Finsupp.ext fun i => not_not.mp fun hi => hn ⟨i, hi⟩)
  obtain ⟨x, hx, hg, -⟩ := TalkSites.tallyL_pos (Nat.pos_of_ne_zero hi)
  obtain ⟨e, -, rfl⟩ := List.mem_map.mp hx
  rw [hg]

theorem due_sum {l l' : List Ev} (hl : l.Perm l') : (∑ c : Dev nD, owed c l) = ∑ c : Dev nD, due l' c :=
  (tallyL_sum l).trans (Finset.sum_congr rfl fun c _ => tallyL_perm (hl.map _))

theorem launch_cred (c : Dev nD) : (launchCred (fun c => owed c evs) c : sProp 𝕄) = cred (due wevs c) :=
  cred_of_sum (fun c => owed c evs) (due wevs) (due_sum evs_perm) (due_own wevs) c

end Cert.K

end
-- ==== Proof.Share.lean ====
/-
The launch: the ghost state minted, the cells' invariants allocated, and each device's part of both.
-/
module

public import proofs.«01_k».proof.Proof.Deal

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (launchCred cells)

variable {F : FTy → Type} [FloatOps F]

local notation "𝕄" => MT nD τ sig ℕ (Elt F) ℕ UU ℕ

variable (m : (ℓ : Loc nD τ sig) → Buf (Elt F) ℓ) (ρ : Dev nD → PrngReg)

/-! ## The ghost state at the start -/

/-- The resources the program starts from: the pipeline's, the rounds' and the ledgers'. -/
def u₀ : UU := (initOf (Pipeline.cells cfgs cellOf_inj) (Pipeline.launchToks cfgs cellOf_inj), initOf cellSet tokSet, initOf Finset.univ takeSet, 1)

/-- Device `c`'s part of what does not involve the memory. -/
def G (c : Dev nD) : sProp 𝕄 :=
  iprop((bigSep Finset.univ fun k : K => roundState ER (Rd (partOf m)) (cell c k) 0) ∗ (bigSep Finset.univ fun k : K => reached ER (cell c k) 0)
    ∗ (bigSep Finset.univ fun k : K => atPos ER (cell c k) 0 ∅ 0)
    ∗ (bigSep Finset.univ fun t : Fin 2 × Fin 2 => initState EX (c, t)) ∗ (bigSep Finset.univ fun t : Fin 2 × Fin 2 => atPos EX (c, t) 0 ∅ 0)
    ∗ bigSepL evs (tok c) ∗ bigSepL wevs (wtok c))

theorem fund_split : (ownU u₀ : sProp 𝕄)
    ⊢ iprop(BI.own (EP (initOf (Pipeline.cells cfgs cellOf_inj) (Pipeline.launchToks cfgs cellOf_inj))) ∗ BI.own (ER (F := F) (initOf cellSet tokSet))
      ∗ BI.own (EX (F := F) (initOf Finset.univ takeSet))) := by
  refine (ownU_pair _ _).trans (Idealize.SL.BI.sep_mono_r ?_)
  refine (own_pair_emb _ _ _).trans (Idealize.SL.BI.sep_mono_r ?_)
  refine (own_pair_emb _ _ _).trans ?_
  iintro ⟨H, -⟩
  iexact H

theorem fund_G : (ownU u₀ : sProp 𝕄)
    ⊢ |={Set.univ}=> iprop(BI.own (EP (initOf (Pipeline.cells cfgs cellOf_inj) (Pipeline.launchToks cfgs cellOf_inj))) ∗ bigSep Finset.univ (G m)) := by
  have hcell : ∀ Φ : GSem nD τ sig → sProp 𝕄, bigSep cellSet Φ = bigSep Finset.univ fun c : Dev nD => bigSep Finset.univ fun k : K => Φ (cell c k) := fun Φ => by
    unfold cellSet
    rw [bigSep_map, bigSep_univ_prod]
    rfl
  have hX : ∀ Φ : Dev nD × Fin 2 × Fin 2 → sProp 𝕄, bigSep Finset.univ Φ = bigSep Finset.univ fun c : Dev nD => bigSep Finset.univ fun t : Fin 2 × Fin 2 => Φ (c, t) :=
    fun Φ => bigSep_univ_prod Φ
  iintro Hu
  ihave H := (fund_split (F := F)) $$ Hu
  icases H with ⟨HP, HR, HX⟩
  imod (Rounds.fund ER (Rd (partOf m)) cellSet tokSet) $$ HR with ⟨Hst, Hre, Hat, Htk⟩
  imod (Rounds.fund_init EX Finset.univ takeSet) $$ HX with ⟨Xst, -, Xat, Xtk⟩
  imodintro
  isplitl [HP]; · iexact HP
  ihave Htk := tok_deal $$ Htk
  ihave Xtk := take_deal $$ Xtk
  ihave Hst := (Entails.of_eq (hcell _)) $$ Hst
  ihave Hre := (Entails.of_eq (hcell _)) $$ Hre
  ihave Hat := (Entails.of_eq (hcell _)) $$ Hat
  ihave Xst := (Entails.of_eq (hX _)) $$ Xst
  ihave Xat := (Entails.of_eq (hX _)) $$ Xat
  unfold G
  simp only [bigSep_sep']
  isplitl [Hst]; · iexact Hst
  isplitl [Hre]; · iexact Hre
  isplitl [Hat]; · iexact Hat
  isplitl [Xst]; · iexact Xst
  isplitl [Xat]; · iexact Xat
  isplitl [Htk]; · iexact Htk
  iexact Xtk

/-! ## The invariants allocated -/

/-- What device `c` has once its cells' invariants stand, their names still its own. -/
def Mid (c : Dev nD) : sProp 𝕄 :=
  iprop((bigSep Finset.univ fun k : K => iprop(∃ κ, cellInv ER (Rd (partOf m)) κ (cell c k)))
    ∗ (bigSep Finset.univ fun t : Fin 2 × Fin 2 => iprop(∃ κ, inv κ (ledger (F := F) c t.1 t.2)))
    ∗ (bigSep Finset.univ fun k : K => reached ER (cell c k) 0)
    ∗ (bigSep Finset.univ fun t : Fin 2 × Fin 2 => atPos EX (c, t) 0 ∅ 0)
    ∗ bigSepL evs (tok c) ∗ bigSepL wevs (wtok c) ∗ (bigSep Finset.univ fun k : K => atPos ER (cell c k) 0 ∅ 0) ∗ Cop c)

theorem ledger_start (c : Dev nD) (t : Fin 2 × Fin 2) : (initState EX (c, t) : sProp 𝕄) ⊢ |={Set.univ}=> iprop(∃ κ, inv κ (ledger (F := F) c t.1 t.2)) := by
  have h : (initState EX (c, t) : sProp 𝕄) ⊢ ledger (F := F) c t.1 t.2 := by
    unfold initState ledger
    iintro ⟨H, -⟩
    iexists 0
    isplitl [H]; · iexact H
    unfold stack
    iempintro
  exact h.trans inv_alloc

omit [FloatOps F] in
theorem unscoped_eq (c : Dev nD) : (unscopedSems0 c : sProp 𝕄) = semVal (cell c .bar) 0 := by
  unfold unscopedSems0
  rw [bigSep_eq_bigSepL_of_eq [SemLoc.reg barS] (by decide +kernel) (by decide +kernel)]
  rfl

theorem cells_of (c : Dev nD) : (iprop(Pipeline.ownSems0 osem c ∗ unscopedSems0 c) : sProp 𝕄)
    ⊢ iprop(Cop c ∗ bigSep Finset.univ fun k : K => semVal (cell c k) 0) := by
  rw [own_eq, K_list]
  rw [unscoped_eq]
  iintro ⟨⟨HC, HL, HR⟩, HB⟩
  isplitl [HC]; · unfold Cop; iexact HC
  isplitl [HB]; · iexact HB
  isplitl [HL]; · iexact HL
  iexact HR

theorem mid_alloc (c : Dev nD) : iprop(Pipeline.ownSems0 osem c ∗ unscopedSems0 c ∗ G m c) ⊢ |={Set.univ}=> Mid m c := by
  have hcell : (iprop((bigSep Finset.univ fun k : K => semVal (cell c k) 0) ∗ bigSep Finset.univ fun k : K => roundState ER (Rd (partOf m)) (cell c k) 0) : sProp 𝕄)
      ⊢ |={Set.univ}=> bigSep Finset.univ fun k : K => iprop(∃ κ, cellInv ER (Rd (partOf m)) κ (cell c k)) := by
    rw [← bigSep_sep']
    exact (bigSep_mono fun k _ => (Rounds.body_intro ER (Rd (partOf m)) (cell c k)).trans inv_alloc).trans (bigSep_fupd _ _)
  have hled : (bigSep Finset.univ fun t : Fin 2 × Fin 2 => initState EX (c, t) : sProp 𝕄)
      ⊢ |={Set.univ}=> bigSep Finset.univ fun t : Fin 2 × Fin 2 => iprop(∃ κ, inv κ (ledger (F := F) c t.1 t.2)) :=
    (bigSep_mono fun t _ => ledger_start c t).trans (bigSep_fupd _ _)
  unfold G Mid
  iintro ⟨HO, HU, Hst, Hre, Hat, Xst, Xat, Htk, Xtk⟩
  ihave H := (cells_of (F := F) c) $$ [HO HU]
  · isplitl [HO]; · iexact HO
    iexact HU
  icases H with ⟨HC, HS⟩
  imod hcell $$ [HS Hst] with Hinv
  · isplitl [HS]; · iexact HS
    iexact Hst
  imod hled $$ Xst with Xinv
  imodintro
  isplitl [Hinv]; · iexact Hinv
  isplitl [Xinv]; · iexact Xinv
  isplitl [Hre]; · iexact Hre
  isplitl [Xat]; · iexact Xat
  isplitl [Htk]; · iexact Htk
  isplitl [Xtk]; · iexact Xtk
  isplitl [Hat]; · iexact Hat
  iexact HC

/-- What the cells' invariants say to all, but for the levels. -/
def Shared (κ : NameK) (κx : NameX) : sProp 𝕄 :=
  iprop((∀ t : Dev nD × K, cellInv ER (Rd (partOf m)) (κ t) (cell t.1 t.2)) ∗ (∀ t : Dev nD × Fin 2 × Fin 2, inv (κx t) (ledger (F := F) t.1 t.2.1 t.2.2))
    ∗ (∀ t : Dev nD × K, reached ER (cell t.1 t.2) 0))
instance Shared_persistent (κ : NameK) (κx : NameX) : BI.Persistent (Shared m κ κx) := by unfold Shared; infer_instance

/-- What the launch hands device `c`. -/
def G' (c : Dev nD) : sProp 𝕄 := iprop(∃ κ κx, Shared m κ κx ∗ Deal κ κx c)

omit [FloatOps F] in
/-- The ledgers' positions go to the devices that hand the slots over. -/
theorem at_deal : (bigSep Finset.univ fun c : Dev nD => bigSep Finset.univ fun t : Fin 2 × Fin 2 => atPos EX (c, t) 0 ∅ 0 : sProp 𝕄)
    ⊢ bigSep Finset.univ fun c : Dev nD => iprop(AtX c 0 0 ∗ AtX c 1 0) := by
  have hl : ∀ c : Dev nD, (bigSep Finset.univ fun t : Fin 2 × Fin 2 => atPos EX (c, t) 0 ∅ 0 : sProp 𝕄)
      = iprop(atPos EX (c, 0, 0) 0 ∅ 0 ∗ atPos EX (c, 0, 1) 0 ∅ 0 ∗ atPos EX (c, 1, 0) 0 ∅ 0 ∗ atPos EX (c, 1, 1) 0 ∅ 0) := fun c => by
    rw [bigSep_eq_bigSepL_of_eq [(0, 0), (0, 1), (1, 0), (1, 1)] (by decide) (by decide)]
    rfl
  have hr : ∀ p d : Fin 2, (bigSep Finset.univ fun c : Dev nD => atPos EX (c, p, d) 0 ∅ 0 : sProp 𝕄) = bigSep Finset.univ fun c : Dev nD => atPos EX (bwd d c, p, d) 0 ∅ 0 :=
    fun p d => bigSep_univ_equiv (ring d).symm _
  unfold AtX
  simp only [hl, bigSep_sep']
  rw [hr 0 0, hr 0 1, hr 1 0, hr 1 1]
  iintro ⟨H1, H2, H3, H4⟩
  isplitl [H1 H2]
  · isplitl [H1] <;> iassumption
  · isplitl [H3] <;> iassumption

theorem regroup : (bigSep Finset.univ fun c : Dev nD => Mid m c) ⊢ bigSep Finset.univ (G' m) := by
  have hall : ∀ {I : Type} [Fintype I] [DecidableEq I] (Φ : I → sProp 𝕄) [∀ i, BI.Persistent (Φ i)], bigSep Finset.univ Φ ⊢ iprop(∀ i, Φ i) := fun Φ _ => by
    have h : ∀ i, bigSep Finset.univ Φ ⊢ Φ i := fun i => bigSep_elim (Finset.mem_univ i)
    iintro #H %i
    iapply (h i) $$ H
  unfold Mid
  simp only [bigSep_sep']
  iintro ⟨Hinv, Xinv, Hre, Xat, Htk, Xtk, Hat, HC⟩
  ihave Hinv := (Entails.of_eq (bigSep_univ_prod fun t : Dev nD × K => iprop(∃ κ, cellInv ER (Rd (partOf m)) κ (cell t.1 t.2))).symm) $$ Hinv
  ihave Xinv := (Entails.of_eq (bigSep_univ_prod fun t : Dev nD × Fin 2 × Fin 2 => iprop(∃ κ, inv κ (ledger (F := F) t.1 t.2.1 t.2.2))).symm) $$ Xinv
  ihave Hre := (Entails.of_eq (bigSep_univ_prod fun t : Dev nD × K => (reached ER (cell t.1 t.2) 0 : sProp 𝕄)).symm) $$ Hre
  ihave Hinv := (BI.bigSep_exists_pi Finset.univ (fun (t : Dev nD × K) κ => cellInv ER (Rd (partOf m)) κ (cell t.1 t.2))) $$ Hinv
  ihave Xinv := (BI.bigSep_exists_pi Finset.univ (fun (t : Dev nD × Fin 2 × Fin 2) κ => (inv κ (ledger (F := F) t.1 t.2.1 t.2.2) : sProp 𝕄))) $$ Xinv
  icases Hinv with ⟨%κ, Hinv⟩
  icases Xinv with ⟨%κx, Xinv⟩
  ihave Hinv := (hall _) $$ Hinv
  ihave Xinv := (hall _) $$ Xinv
  ihave Hre := (hall _) $$ Hre
  ihave Xat := (at_deal (F := F)) $$ Xat
  have hput : iprop(Shared m κ κx ∗ bigSep Finset.univ (fun c => Deal (F := F) κ κx c)) ⊢ bigSep Finset.univ (G' m) := by
    refine (Idealize.SL.BI.sep_mono_l (BI.bigSep_of_persistent (Finset.univ : Finset (Dev nD)) (Shared m κ κx))).trans ?_
    have e := bigSep_sep' (Finset.univ : Finset (Dev nD)) (fun _ => Shared m κ κx) (fun c => Deal (F := F) κ κx c)
    refine (Entails.of_eq e.symm).trans (bigSep_mono fun c _ => ?_)
    show iprop(Shared m κ κx ∗ Deal κ κx c) ⊢ (iprop(∃ κ κx, Shared m κ κx ∗ Deal κ κx c) : sProp 𝕄)
    iintro ⟨H, H'⟩
    iexists κ, κx
    isplitl [H] <;> iassumption
  iapply hput
  isplitl [Hinv Xinv Hre]
  · unfold Shared
    isplitl [Hinv]; · iexact Hinv
    isplitl [Xinv]; · iexact Xinv
    iexact Hre
  · unfold Deal
    simp only [bigSep_sep']
    isplitl [Htk]; · iexact Htk
    isplitl [Xtk]; · iexact Xtk
    isplitl [Hat]; · iexact Hat
    isplitl [Xat]
    · iexact Xat
    iexact HC

theorem glob : (bigSep Finset.univ fun c : Dev nD => iprop(Pipeline.ownSems0 osem c ∗ unscopedSems0 c ∗ G m c)) ⊢ |={Set.univ}=> bigSep Finset.univ (G' m) :=
  ((bigSep_mono fun c _ => mid_alloc m c).trans (bigSep_fupd _ _)).trans (BI.fupd_mono (regroup m))

end Cert.K

end
-- ==== Proof.Run.lean ====
/-
The run of the whole program: the launch theorem applied to the body's run.
-/
module

public import proofs.«01_k».proof.Proof.Share
public import Idealize.ShloMosaic.Lib.Pipeline.CollectiveSegs

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (launchCred Dat)

variable {F : FTy → Type} [FloatOps F]

local notation "𝕄" => MT nD τ sig ℕ (Elt F) ℕ UU ℕ

variable (m : (ℓ : Loc nD τ sig) → Buf (Elt F) ℓ) (ρ : Dev nD → PrngReg)

/-! ## The launch's side conditions -/

theorem share_eq (c : Dev nD) (w : Fin cfg0.W) : (dats m ρ 0 c).share w = fullShare := by unfold Dat.share; split <;> rfl

theorem ownSemFacts : Pipeline.OwnSemFacts cfg0.spec osem := by decide +kernel

/-- What the barrier's semaphore is read from, and what the body keeps besides the kernel's buffers. -/
def Kept (c : Dev nD) : sProp 𝕄 := iprop(unscopedSems0 c ∗ (xLoc c ↦{fullShare} xvOf m c))

theorem start_intro (c : Dev nD) :
    iprop(Pipeline.unscopedRestP Pipeline.Prefetch.none cfg0.spec c (fun b => m ((c : Thread nD τ).loc b)) ∗ Lev
        ∗ launchCred (fun c => owed c evs) c ∗ prngReg c (ρ c) ∗ G' m c)
      ⊢ |={Set.univ}=> iprop(Start m c ∗ emp) := by
  rw [Pipeline.unscopedRestP_none, show Pipeline.unscopedRest cfg0.spec c (fun b => m ((c : Thread nD τ).loc b))
    = (xLoc c ↦{fullShare} xvOf m c : sProp 𝕄) from unscopedRest0_eq c _, launch_cred]
  unfold Start G'
  iintro ⟨Hx, #Hlev, Hcr, -, %κ, %κx, HS, HD⟩
  imodintro
  isplitl
  · isplitl [HS HD]
    · iexists κ, κx
      isplitl [HS]
      · unfold Shared Env
        icases HS with ⟨H1, H2, H3⟩
        isplitl [H1]; · iexact H1
        isplitl [H2]; · iexact H2
        isplitl [H3]; · iexact H3
        iexact Hlev
      · iexact HD
    isplitl [Hcr]; · iexact Hcr
    iexact Hx
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr
  iintro ⟨Hs, -, Hr⟩
  isplitl [Hs]; · iexact Hs
  iexact Hr

theorem phi1_exit (c : Dev nD) :
    (dats m ρ 0 c).Φ (Fin.last cfg0.N) ⊢ iprop(Kept m c ∗ Pipeline.ownSems0 osem c ∗ Pipeline.scopedRest cfg0.spec c) := by
  rw [show (dats m ρ 0 c).Φ (Fin.last cfg0.N) = Φ₁ m c from rfl, scopedRest0_eq, own_eq]
  unfold Φ₁ Scr Kept Cop
  rw [unscoped_eq]

theorem waits (c : Dev nD) : (Lev : sProp 𝕄) ⊢ Pipeline.cellsWaits cfgs (dats m ρ) 0 0 c :=
  Pipeline.cellsWaits_intro cfgs (dats m ρ) 0 0 c fun w s t => by
    rcases t with ⟨_ | _, ht⟩
    · exact mayWait c _ 0 (by decide) evs hi_evs
    · exact mayWait c _ 0 (by decide) [] (fun _ h => absurd h List.not_mem_nil)

theorem keep_read (c : Dev nD) (s' : Phys nD τ sig (Elt F)) :
    iprop(Kept m c ∗ emp ∗ SI s') ⊢ |={Set.univ}=> iprop(⌜(∀ sm : SemLoc sig, sm.isScoped .tc = false → s'.mem.sem ((c : Thread nD τ), sm) = 0)
      ∧ s'.mem.mem (xLoc c) = m (xLoc c)⌝ ∗ SI s') := by
  unfold Kept
  iintro ⟨⟨Hu, Hx⟩, -, HSI⟩
  icombine HSI Hx gives %hx
  imod (Pipeline.unscopedSems0_read (X := unscopedSems0 c) (c := c) fupd_intro s') $$ [Hu HSI] with ⟨%hs, HSI⟩
  · isplitl [Hu] <;> iassumption
  imodintro
  isplitr
  · ipureintro
    exact ⟨hs, funext fun i => hx i (Finset.mem_univ _)⟩
  iexact HSI

/-! ## The run -/

/-- What window `w`'s array of device `c` holds in the end. -/
def finalA (c : Dev nD) (w : Fin cfg0.W) : Buf (Elt F) ((cfg0.win w).arr.view.loc (c : Thread nD τ)) := (dats m ρ 0 c).arrAt w cfg0.N

/-- The final memory: the windows' arrays as computed, the sequence unchanged. -/
def QC : PUnit × MemSt nD τ sig (Elt F) → Prop := fun r =>
  ∀ c : Dev nD, (∀ w : Fin cfg0.W, r.2.mem ((cfg0.win w).arr.view.loc (c : Thread nD τ)) = finalA m ρ c w) ∧ r.2.mem (xLoc c) = m (xLoc c)

set_option maxRecDepth 8000 in
/-- On the mesh of eight devices, over any float values, from any memory with the counters at zero: every weakly fair
    execution of @main terminates, and in every final state each device's result is what `finalA` says, the arguments
    are unchanged and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m ρ c).loose) (hne := fun w => by fin_cases w <;> exact Nat.succ_pos _) (harr := arr_whole0) (hstage := stage_whole0) (hshare := share_eq m ρ)
    (hdistinct := winFacts0.arr_inj)
    (O₀ := fun c => owed c evs) (howed₀ := fun _ => rfl) (howedN := fun _ => rfl)
    (L := SiteBlocks.L 40) (lv := SiteBlocks.lv) (hL := fun _ h => if_neg h) (hwaits := waits m ρ)
    (G := G m) (G' := G' m) (u₀ := u₀) (hu₀ := fund_G m) (hglob := glob m)
    (hA := fun _ _ => rfl) (hpf := fun _ k => k.elim0)
    (X := Start m) (Y := Kept m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0) ∧ s.mem (xLoc c) = m (xLoc c))
    (hY := keep_read m)
    (hQ := fun _ h hs => ⟨fun c => ⟨fun w => (h c).1 w, (h c).2.2.2⟩, sem_eq_zero hs fun c => (h c).2.2.1⟩)

end Cert.K

end
-- ==== Proof.Final.lean ====
/-
What the run leaves in each device's arrays.
-/
module

public import proofs.«01_k».proof.Proof.Run
public import Idealize.ShloMosaic.Lib.Pipeline.CollectiveSegs

@[expose] public section

noncomputable section

namespace Cert.K

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL)
open Idealize.ShloMosaic.Pipeline (launchCred Dat)

variable {F : FTy → Type} [FloatOps F]

local notation "𝕄" => MT nD τ sig ℕ (Elt F) ℕ UU ℕ

variable (m : (ℓ : Loc nD τ sig) → Buf (Elt F) ℓ) (ρ : Dev nD → PrngReg)

/-! ## The windows' blocks are the whole arrays -/

theorem blk0 (f : FVec F S4x1024 .f32) : (win0_0.blk (0 : Fin 1)).view.read (Elt F) f = f :=
  Memref.read_access_unit_zero (Elt F) main_arg1 (by decide +kernel) (fun a => by fin_cases a <;> decide) f
theorem blk1 (f : FVec F S1024x1024 .f32) : (win0_1.blk (0 : Fin 1)).view.read (Elt F) f = f :=
  Memref.read_access_unit_zero (Elt F) main_arg2 (by decide +kernel) (fun a => by fin_cases a <;> decide) f
theorem blk2 (f : FVec F S8x1024x1024 .bf16) : (win0_2.blk (0 : Fin 1)).view.read (Elt F) f = f :=
  Memref.read_access_unit_zero (Elt F) main_v1 (by decide +kernel) (fun a => by fin_cases a <;> decide) f

/-- Device `c`'s taps and weights are its arguments. -/
theorem kvOf_eq (c : Dev nD) : kvOf m c = m ((c : Thread nD τ).loc main_arg1) := blk0 _
theorem wvOf_eq (c : Dev nD) : wvOf m c = m ((c : Thread nD τ).loc main_arg2) := blk1 _

/-! ## What the windows' arrays end with -/

theorem final0 (c : Dev nD) : finalA m ρ c (0 : Fin 3) = m ((c : Thread nD τ).loc main_arg1) := (dats m ρ 0 c).arrAt_in (0 : Fin 3) rfl _
theorem final1 (c : Dev nD) : finalA m ρ c (1 : Fin 3) = m ((c : Thread nD τ).loc main_arg2) := (dats m ρ 0 c).arrAt_in (1 : Fin 3) rfl _
theorem final2 (c : Dev nD) : finalA m ρ c (2 : Fin 3) = outAt (partOf m) c := by
  refine (blk2 (finalA m ρ c (2 : Fin 3))).symm.trans ?_
  unfold finalA
  rw [show cfg0.N = ((0 : Fin 1) : Fin cfg0.N).val + 1 from rfl, (dats m ρ 0 c).arrAt_succ (2 : Fin 3) (0 : Fin 1)]
  rw [show (cfg0.win (2 : Fin 3)).flush (0 : Fin 1) = true from flush0_2 _, if_pos rfl]
  exact View.read_write_univ _ _

/-- The run read at its arguments and its result, and the counters. -/
theorem run_read : θ_run defs (onTc (τ := τ) (main (F := F))) ⟨m, fun _ => 0, ρ⟩ (fun r => (∀ c : Dev nD,
    r.2.mem ((c : Thread nD τ).loc main_v1) = outAt (partOf m) c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)) ∧ r.2.sem = fun _ => 0) :=
  (θ_run defs _ _).mono (fun _ h => ⟨fun c => ⟨((h.1 c).1 (2 : Fin 3)).trans (final2 m ρ c), (h.1 c).2,
    ((h.1 c).1 (0 : Fin 3)).trans (final0 m ρ c), ((h.1 c).1 (1 : Fin 3)).trans (final1 m ρ c)⟩, h.2⟩) (run_main m ρ)

end Cert.K

end
-- ==== Proof.Frames.lean ====
/-
The frames: each program's run read at its arguments and its counters.
-/
module

public import proofs.«01_k».proof.Defs
public import proofs.«01_k».proof.Proof.Final
public import proofs.«01_k».proof.Proof.Gen.Kernel
public import proofs.«01_k».proof.Proof.Gen.ReferenceIdeal.Run
public import Idealize.ShloMosaic.Lib.Quiescent

@[expose] public section

noncomputable section

namespace Cert.K

open Idealize.ShloMosaic Idealize.SL.Sem

/-- The frame over any floats. -/
theorem frame_any {F : FTy → Type} [FloatOps F] (m : (ℓ : Loc KernelIdeal.nD KernelIdeal.τ KernelIdeal.sig) → Buf (Elt F) ℓ) (ρ : Dev KernelIdeal.nD → PrngReg) :
    θ_run (KernelIdeal.defs (F := F)) (onTc (τ := KernelIdeal.τ) (KernelIdeal.main (F := F))) ⟨m, fun _ => 0, ρ⟩ (fun r => (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2))
      ∧ r.2.sem = fun _ => 0) :=
  (θ_run Cert.KernelIdeal.defs _ _).mono (fun _ h => ⟨fun c => (h.1 c).2, h.2⟩) (run_read (F := F) m ρ)

/-- The idealized kernel's frame. -/
theorem frame_ideal : Cert.quiescent_KernelIdeal := fun m ρ _ => frame_any m ρ

/-- The two programs' tables of bodies are one. -/
theorem bodies_eq : Kernel.defs₀ (F := Bits) = KernelIdeal.defs₀ (F := Bits) :=
  congrArg Defs.onTc (funext fun l => funext fun a => match l, a with
    | 0, (t, s) => rfl
    | ⟨_ + 1, h⟩, _ => absurd h (Nat.not_lt.2 (Nat.le_add_left _ _)))
/-- So are their tables of all procedures. -/
theorem defs_eq : Kernel.defs (F := Bits) = KernelIdeal.defs (F := Bits) := congrArg (Pipeline.defs KernelIdeal.pcfgs) bodies_eq

/-- The kernel's frame: the two programs have the same text, so it is the run at the machine's floats. -/
theorem frame_kernel : Cert.quiescent_Kernel := fun m ρ _ => by
  rw [defs_eq]
  exact frame_any (F := Bits) m ρ

/-- The reference's frame: no operation writes its arguments, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.K

end
-- ==== Proof.Terms.lean ====
module

public import Idealize.ShloMosaic.Lib.Pointwise

@[expose] public section

noncomputable section

namespace Cert.K

open Idealize.ShloMosaic

/-! ## The computation over the extended reals, over any number of channels -/

section Terms

variable {n : ℕ} (x : Fin 2 → Fin 4096 → Fin n → EReal) (k : Fin 4 → Fin n → EReal)

/-- What tap `t` of the convolution meets at row `r` of batch `b`: the row `3 - t` before, or zero before the first. -/
def before (b : Fin 2) (r : Fin 4096) (t : Fin 4) (ch : Fin n) : EReal :=
  if h : t.val + r.val < 3 then 0 else x b ⟨t.val + r.val - 3, by omega⟩ ch

/-- The first tap meets the row three before; -/
theorem before_zero (b : Fin 2) (r : Fin 4096) (ch : Fin n) :
    before x b r 0 ch = if h : r.val < 3 then 0 else x b ⟨r.val - 3, by omega⟩ ch := by
  simp only [before, Fin.val_zero, zero_add]
/-- the second the row two before; -/
theorem before_one (b : Fin 2) (r : Fin 4096) (ch : Fin n) :
    before x b r 1 ch = if h : 1 + r.val < 3 then 0 else x b ⟨1 + r.val - 3, by omega⟩ ch := rfl
/-- the third the row before; -/
theorem before_two (b : Fin 2) (r : Fin 4096) (ch : Fin n) :
    before x b r 2 ch = if h : 2 + r.val < 3 then 0 else x b ⟨2 + r.val - 3, by omega⟩ ch := rfl
/-- and the last the row itself. -/
theorem before_three (b : Fin 2) (r : Fin 4096) (ch : Fin n) : before x b r 3 ch = x b r ch := by
  unfold before
  rw [dif_neg (by show ¬ 3 + r.val < 3; omega)]
  exact congrArg (x b · ch) (Fin.ext (by show 3 + r.val - 3 = r.val; omega))

/-- The causal convolution of four taps at row `r` of batch `b`. -/
def causal (b : Fin 2) (r : Fin 4096) (ch : Fin n) : EReal :=
  before x b r 0 ch * k 0 ch + before x b r 1 ch * k 1 ch + before x b r 2 ch * k 2 ch + before x b r 3 ch * k 3 ch

/-- A value times its logistic, as a quotient. -/
def silu (z : EReal) : EReal := Ideal.div z (1 + Ideal.exp (-z))

/-- The product with a column of the projection, over the channels. -/
def project (w : Fin n → EReal) (b : Fin 2) (r : Fin 4096) : EReal := ∑ ch : Fin n, silu (causal x k b r ch) * w ch

end Terms

/-- A value times its logistic is the quotient. -/
theorem mul_logistic (z : EReal) : z * Ideal.logistic z = silu z := by
  have h : (1 + Ideal.exp (-z) : EReal) ≠ 0 := by
    have h0 : 0 ≤ Ideal.exp (-z) := by
      induction -z using EReal.rec with
      | bot => exact le_refl _
      | coe r => exact EReal.coe_nonneg.mpr (Real.exp_pos r).le
      | top => exact le_top
    intro h
    have : (1 : EReal) ≤ 0 := h ▸ le_add_of_nonneg_right h0
    exact absurd this (by norm_num)
  unfold silu Ideal.logistic Ideal.div
  rw [if_neg h, if_neg h, one_mul]

end Cert.K

end
-- ==== Proof.PartVal.lean ====
module

public import proofs.«01_k».proof.Proof.Stage
public import proofs.«01_k».proof.Proof.Terms

@[expose] public section

noncomputable section

namespace Cert.K

open Idealize.ShloMosaic Idealize.ShloMosaic.TcCoe
open Cert.KernelIdeal Cert.KernelIdeal.Gen

/-! ## A half chunk of a device's partial product -/

/-- Four terms added from the last to the first. -/
theorem add_four (p q r s : EReal) : s + r + q + p = p + q + r + s := by abel

set_option maxRecDepth 16384 in
/-- A half chunk at an element: over the device's channels, the silu of the four taps over the staged rows, times the projection. -/
theorem half_apply (kv : FVec Ideal S4x1024 .f32) (w : FVec Ideal S1024x1024 .bf16) (v : FVec Ideal S520x1024 .f32) (a : Fin 512) (j : Fin 1024) :
    half kv w v (ix2 a j) = ∑ ch : Fin 1024, silu (v (ix2 ⟨5 + a.val, by omega⟩ ch) * kv (ix2 0 ch) + v (ix2 ⟨6 + a.val, by omega⟩ ch) * kv (ix2 1 ch)
      + v (ix2 ⟨7 + a.val, by omega⟩ ch) * kv (ix2 2 ch) + v (ix2 ⟨8 + a.val, by omega⟩ ch) * kv (ix2 3 ch)) * w (ix2 ch j) := by
  pointwise [half, conv, tap]
  exact Finset.sum_congr rfl fun ch _ => by rw [mul_logistic, add_four]

/-- The row of its batch that row `a` of half `h` of chunk `g` is, within the batch. -/
theorem row_lt (g : Fin 8) (h : Fin 2) (a : Fin 512) : row0 g h + a.val < 4096 := by
  have := (row0_lt g h).1; omega

/-- The staged row that tap `t` meets at row `a` of the half. -/
theorem staged_tap (x : FVec Ideal S2x4096x1024 .f32) (g : Fin 8) (h : Fin 2) (a : Fin 512) (t : Fin 4) (ch : Fin 1024) (p : 5 + t.val + a.val < 520) :
    staged x g h (ix2 ⟨5 + t.val + a.val, p⟩ ch)
      = before (fun b r ch => x (ix3 b r ch)) ⟨g.val / 4, (row0_lt g h).2⟩ ⟨row0 g h + a.val, row_lt g h a⟩ t ch := by
  have hr : row0 g h = 0 ∨ 8 ≤ row0 g h := by have : row0 g h = g.val % 4 * 1024 + h.val * 512 := rfl; omega
  have hl := row_lt g h a
  have hg := (row0_lt g h).2
  have ht := t.isLt
  have hx : ∀ (r r' : ℕ) (q : r' < 4096), r = r' → xAt x (g.val / 4) r ch = x (ix3 ⟨g.val / 4, hg⟩ ⟨r', q⟩ ch) := fun r r' q e => by
    subst e
    have e1 : (⟨g.val / 4 % 2, Nat.mod_lt _ (by decide)⟩ : Fin 2) = ⟨g.val / 4, hg⟩ := Fin.ext (Nat.mod_eq_of_lt hg)
    have e2 : (⟨r % 4096, Nat.mod_lt _ (by decide)⟩ : Fin 4096) = ⟨r, q⟩ := Fin.ext (Nat.mod_eq_of_lt q)
    unfold xAt
    rw [e1, e2, ix3_eq_valueIdx]
  unfold before
  show (if 5 + t.val + a.val < 8 ∧ row0 g h = 0 then Ideal.ofBits .f32 0x00000000#32
    else if 5 + t.val + a.val < 8 then xAt x (g.val / 4) (row0 g h - 8 + (5 + t.val + a.val)) ch
      else xAt x (g.val / 4) (row0 g h + (5 + t.val + a.val - 8)) ch) = _
  by_cases h3 : t.val + (row0 g h + a.val) < 3
  · rw [dif_pos h3, if_pos ⟨by omega, by omega⟩, Ideal.ofBits_zero_f32]
  · rw [dif_neg h3, if_neg (by omega)]
    split
    · exact hx _ _ (by omega) (by show _ = t.val + (row0 g h + a.val) - 3; omega)
    · exact hx _ _ (by omega) (by show _ = t.val + (row0 g h + a.val) - 3; omega)

/-- A half chunk of a device's partial product at an element: the projection of its row over the device's channels. -/
theorem part_apply (x : FVec Ideal S2x4096x1024 .f32) (kv : FVec Ideal S4x1024 .f32) (w : FVec Ideal S1024x1024 .f32) (g : Fin 8) (h : Fin 2) (a : Fin 512) (j : Fin 1024) :
    half kv (truncf .bf16 w bitsLt_bf16_f32) (staged x g h) (ix2 a j)
      = project (fun b r ch => x (ix3 b r ch)) (fun t ch => kv (ix2 t ch)) (fun ch => w (ix2 ch j)) ⟨g.val / 4, (row0_lt g h).2⟩ ⟨row0 g h + a.val, row_lt g h a⟩ := by
  rw [half_apply]
  refine Finset.sum_congr rfl fun ch _ => ?_
  have e := fun t p => staged_tap x g h a t ch p
  exact congrArg (silu · * w (ix2 ch j)) (congrArg₂ (· + ·) (congrArg₂ (· + ·) (congrArg₂ (· + ·)
    (congrArg (· * kv (ix2 0 ch)) (e 0 _)) (congrArg (· * kv (ix2 1 ch)) (e 1 _))) (congrArg (· * kv (ix2 2 ch)) (e 2 _))) (congrArg (· * kv (ix2 3 ch)) (e 3 _)))

end Cert.K

end
-- ==== Proof.RingVal.lean ====
module

public import proofs.«01_k».proof.Proof.Buffers
public import proofs.«01_k».proof.Proof.Terms

@[expose] public section

noncomputable section

namespace Cert.K

open Idealize.ShloMosaic Idealize.ShloMosaic.TcCoe
open Cert.KernelIdeal Cert.KernelIdeal.Gen

/-! ## The sums around the rings, over the extended reals -/

variable (part : Parts Ideal) (d : Fin 2) (sub : Fin 4)

/-- The device `j` places behind in a direction. -/
def behind : ℕ → Dev nD → Dev nD
  | 0, c => c
  | j + 1, c => behind j (bwd d c)

/-- The eight devices behind are all the devices, each once. -/
theorem behind_bij : ∀ (d : Fin 2) (c : Dev nD), Function.Bijective fun j : Fin 8 => behind d j.val c := by decide +kernel

/-- Message `s` of the scatter: the rows of its chunk of the device and of the `s` devices behind it, added. -/
theorem scat_sum : ∀ (s : ℕ) (c : Dev nD) (g : Fin 8) (i : S128x1024.Idx), s < 8 → g = chunk d c s →
    scat part d sub c s i = ∑ j ∈ Finset.range (s + 1), sub4 (part (behind d j c) g d) sub i
  | 0, c, g, i, _, e => by subst e; rw [Finset.sum_range_one]; rfl
  | s + 1, c, g, i, h, e => by
    have ih := scat_sum s (bwd d c) g i (by omega) (by rw [e]; exact (chunk_bwd d c s (by omega)).symm)
    subst e
    rw [Finset.sum_range_succ']
    exact (congrArg (sub4 (part c (chunk d c (s + 1)) d) sub i + ·) ih).trans (add_comm _ _)

/-- The last message of the scatter is the sum over all the devices. -/
theorem scat_all (c : Dev nD) (g : Fin 8) (i : S128x1024.Idx) (e : g = chunk d c 7) :
    scat part d sub c 7 i = ∑ e : Dev nD, sub4 (part e g d) sub i := by
  rw [scat_sum part d sub 7 c g i (by omega) e, Finset.sum_range]
  exact (behind_bij d c).sum_comp fun e => sub4 (part e g d) sub i

/-- The chunk that a message of the gather carries is the one its slot is for. -/
theorem slot_bwd : ∀ (d : Fin 2) (c : Dev nD) (g : Fin 8), ∀ s < 7, slot d c g = s + 1 → slot d (bwd d c) g = s := by decide +kernel
theorem slot_zero : ∀ (d : Fin 2) (c : Dev nD) (g : Fin 8), slot d c g = 0 → g = chunk d c 7 := by decide +kernel
theorem slot_lt : ∀ (d : Fin 2) (c : Dev nD) (g : Fin 8), slot d c g < 8 := by decide +kernel

/-- A message of the gather is the sum over all the devices of the rows of its chunk. -/
theorem gath_sum : ∀ (s : ℕ) (c : Dev nD) (g : Fin 8) (i : S128x1024.Idx), slot d c g = s →
    gath part d sub c s i = ∑ e : Dev nD, sub4 (part e g d) sub i
  | 0, c, g, i, h => scat_all part d sub c g i (slot_zero d c g h)
  | s + 1, c, g, i, h => gath_sum s (bwd d c) g i (slot_bwd d c g s (by have := slot_lt d c g; omega) h)

/-- The result at row `q` of chunk `g`, column `j`: the sum over the devices of their partial products of it. -/
theorem outAt_sum (c : Dev nD) (g : Fin 8) (d : Fin 2) (a : Fin 512) (q j : Fin 1024) (h : q.val = d.val * 512 + a.val) :
    outAt part c (ix3 g q j) = ∑ e : Dev nD, part e g d (ix2 a j) := by
  have hs : a.val / 128 < 4 := by omega
  rw [outAt_eq part c (ix3 g q j) g d ⟨a.val / 128, hs⟩ ⟨a.val % 128, Nat.mod_lt _ (by decide)⟩ j rfl (by show q.val = d.val * 512 + a.val / 128 * 128 + a.val % 128; omega) rfl]
  rw [gath_sum part d ⟨a.val / 128, hs⟩ _ c g _ rfl]
  refine Finset.sum_congr rfl fun e _ => ?_
  refine congrArg (part e g d) (funext fun x => ?_)
  match x with
  | ⟨0, _⟩ => exact Fin.ext (by show a.val / 128 * 128 + a.val % 128 = a.val; omega)
  | ⟨1, _⟩ => rfl

end Cert.K

end
-- ==== Proof.RefVal.lean ====
module

public import proofs.«01_k».proof.Proof.Gen.ReferenceIdeal.Run
public import proofs.«01_k».proof.Proof.Terms

@[expose] public section

noncomputable section

namespace Cert.K

open Idealize.ShloMosaic Idealize.ShloMosaic.TcCoe
open Cert.ReferenceIdeal

set_option maxRecDepth 16384 in
/-- The reference's result at row `q` of chunk `g`, column `j`: the projection of row `g % 4 * 1024 + q` of batch `g / 4` over all 8192 channels. -/
theorem ref_apply (m : (ℓ : Loc nD τ sig) → Buf (Elt Ideal) ℓ) (c : Dev nD) (g : Fin 8) (q j : Fin 1024) :
    (Value.res_main_v38 m c : FVec Ideal S8x1024x1024 .bf16) (ix3 g q j)
      = project (fun b r ch => (m (c.tc.loc main_arg0) : FVec Ideal S2x4096x8192 .f32) (ix3 b r ch)) (fun t ch => (m (c.tc.loc main_arg1) : FVec Ideal S4x8192 .f32) (ix2 t ch))
          (fun ch => (m (c.tc.loc main_arg2) : FVec Ideal S8192x1024 .f32) (ix2 ch j)) ⟨g.val / 4, by omega⟩ ⟨g.val % 4 * 1024 + q.val, by omega⟩ := by
  unfold Value.res_main_v38
  pointwise [Host.negf, Host.exp]
  simp only [project, silu, causal, before_zero, before_one, before_two, before_three]

end Cert.K

end
-- ==== Proof.Value.lean ====
module

public import proofs.«01_k».proof.Defs
public import proofs.«01_k».proof.Proof.Final
public import proofs.«01_k».proof.Proof.PartVal
public import proofs.«01_k».proof.Proof.RingVal
public import proofs.«01_k».proof.Proof.RefVal

@[expose] public section

noncomputable section

namespace Cert.K

open Idealize.ShloMosaic Idealize.ShloMosaic.TcCoe
open Idealize.SL.Sem

/-! ## The kernel's result is the reference's -/

/-- The projection over `D` blocks of channels is the sum of the projections over each. -/
theorem project_blocks {D n N : ℕ} (h : D * n = N) (x : Fin 2 → Fin 4096 → Fin N → EReal) (k : Fin 4 → Fin N → EReal) (w : Fin N → EReal) (b : Fin 2) (r : Fin 4096)
    (at' : Fin D → Fin n → Fin N) (hat : ∀ c ch, (at' c ch).val = c.val * n + ch.val) :
    project x k w b r = ∑ c : Fin D, project (fun b r ch => x b r (at' c ch)) (fun t ch => k t (at' c ch)) (fun ch => w (at' c ch)) b r := by
  unfold project
  rw [Fin.sum_univ_tiles D n h]
  refine Finset.sum_congr rfl fun c _ => Finset.sum_congr rfl fun ch _ => ?_
  rw [show (⟨c.val * n + ch.val, _⟩ : Fin N) = at' c ch from Fin.ext (hat c ch).symm]
  rfl

/-- Where channel `ch` of device `c` is among all of them. -/
def chan (c : Fin 8) (ch : Fin 1024) : Fin 8192 := ⟨c.val * 1024 + ch.val, by omega⟩

/-- The result of each device, when each holds its blocks of the reference's arguments: the reference's. -/
theorem result_eq (m : (ℓ : Loc KernelIdeal.nD KernelIdeal.τ KernelIdeal.sig) → Buf (Elt Ideal) ℓ)
    (x : FVec Ideal ReferenceIdeal.S2x4096x8192 .f32) (k : FVec Ideal ReferenceIdeal.S4x8192 .f32) (w : FVec Ideal ReferenceIdeal.S8192x1024 .f32)
    (hx : ∀ (e : Dev KernelIdeal.nD) b r ch, xvOf m e (ix3 b r ch) = x (ix3 b r (chan e ch)))
    (hk : ∀ (e : Dev KernelIdeal.nD) t ch, kvOf m e (ix2 t ch) = k (ix2 t (chan e ch)))
    (hw : ∀ (e : Dev KernelIdeal.nD) ch j, wvOf m e (ix2 ch j) = w (ix2 (chan e ch) j))
    (c : Dev KernelIdeal.nD) (g : Fin 8) (q j : Fin 1024) :
    outAt (partOf m) c (ix3 g q j)
      = project (fun b r ch => x (ix3 b r ch)) (fun t ch => k (ix2 t ch)) (fun ch => w (ix2 ch j)) ⟨g.val / 4, by omega⟩ ⟨g.val % 4 * 1024 + q.val, by omega⟩ := by
  have hd : q.val / 512 < 2 := by omega
  rw [project_blocks (D := 8) (n := 1024) rfl _ _ _ _ _ chan fun _ _ => rfl]
  rw [outAt_sum (partOf m) c g ⟨q.val / 512, hd⟩ ⟨q.val % 512, Nat.mod_lt _ (by decide)⟩ q j (by show q.val = q.val / 512 * 512 + q.val % 512; omega)]
  refine Finset.sum_congr rfl fun e _ => ?_
  refine (part_apply (xvOf m e) (kvOf m e) (wvOf m e) g ⟨q.val / 512, hd⟩ ⟨q.val % 512, Nat.mod_lt _ (by decide)⟩ j).trans ?_
  have er : (⟨row0 g ⟨q.val / 512, hd⟩ + q.val % 512, row_lt g ⟨q.val / 512, hd⟩ ⟨q.val % 512, Nat.mod_lt _ (by decide)⟩⟩ : Fin 4096)
      = ⟨g.val % 4 * 1024 + q.val, by omega⟩ := Fin.ext (by show g.val % 4 * 1024 + q.val / 512 * 512 + q.val % 512 = g.val % 4 * 1024 + q.val; omega)
  rw [er, funext fun b => funext fun r => funext fun ch => hx e b r ch, funext fun t => funext fun ch => hk e t ch, funext fun ch => hw e ch j]

/-- The value claim: over the extended reals every device ends with the whole of the reference's result. -/
theorem algebraic : Cert.algebraic_KernelIdeal_ReferenceIdeal := by
  intro m ρ m' ρ' _ hagree
  refine ⟨Cert.ReferenceIdeal.Value.res_main_v38 m' 0, ?_, ?_⟩
  · refine (θ_run Cert.KernelIdeal.defs _ _).mono (fun _ h c => ⟨((h.1 c).1).trans ?_, (h.1 c).2⟩) (run_read (F := Ideal) m ρ)
    funext i
    obtain ⟨g, q, j, rfl⟩ : ∃ (g : Fin 8) (q j : Fin 1024), i = ix3 g q j := ⟨i 0, i 1, i 2, eq_ix3 i⟩
    refine (result_eq m (m' ((0 : Dev ReferenceIdeal.nD).tc.loc ReferenceIdeal.main_arg0)) (m' ((0 : Dev ReferenceIdeal.nD).tc.loc ReferenceIdeal.main_arg1))
      (m' ((0 : Dev ReferenceIdeal.nD).tc.loc ReferenceIdeal.main_arg2)) ?_ ?_ ?_ c g q j).trans (ref_apply m' 0 g q j).symm
    · intro e b r ch
      refine (congrFun (hagree e).1 _).trans (congrArg (m' _) (funext fun a => ?_))
      match a with
      | ⟨0, _⟩ => rfl
      | ⟨1, _⟩ => rfl
      | ⟨2, _⟩ => rfl
    · intro e t ch
      rw [kvOf_eq]
      refine (congrFun (hagree e).2.1 _).trans (congrArg (m' _) (funext fun a => ?_))
      match a with
      | ⟨0, _⟩ => rfl
      | ⟨1, _⟩ => rfl
    · intro e ch j
      rw [wvOf_eq]
      refine (congrFun (hagree e).2.2 _).trans (congrArg (m' _) (funext fun a => ?_))
      match a with
      | ⟨0, _⟩ => rfl
      | ⟨1, _⟩ => rfl
  · exact (θ_run Cert.ReferenceIdeal.defs _ _).mono (fun _ h => h 0) (Cert.ReferenceIdeal.Value.run (F := Ideal) m' ρ')

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import proofs.«01_k».proof.Proof.Frames
public import proofs.«01_k».proof.Proof.Value
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.K.frame_kernel, Cert.K.frame_ideal, Cert.K.frame_reference, trivial, Cert.K.algebraic⟩

end Cert.Proof

end
